-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v113_0)) (v1 : (c : Dev Cert.Kernel3Ideal.nD) → Buf (Elt Ideal) ((c.tc : Thread Cert.Kernel3Ideal.nD Cert.Kernel3Ideal.τ).loc Cert.Kernel3Ideal.main_v113_1)) (v2 : (c : Dev Cert.Kernel3Ideal.nD) → Buf (Elt Ideal) ((c.tc : Thread Cert.Kernel3Ideal.nD Cert.Kernel3Ideal.τ).loc Cert.Kernel3Ideal.main_v113_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v113_0) = v0 c
          ∧ r.2.mem ((c.tc : Thread Cert.Kernel3Ideal.nD Cert.Kernel3Ideal.τ).loc Cert.Kernel3Ideal.main_v113_1) = v1 c
          ∧ r.2.mem ((c.tc : Thread Cert.Kernel3Ideal.nD Cert.Kernel3Ideal.τ).loc Cert.Kernel3Ideal.main_v113_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v100) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v117) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_v120) = v3 c
          ∧ r.2.mem ((c.tc : Thread Cert.Reference4Ideal.nD Cert.Reference4Ideal.τ).loc Cert.Reference4Ideal.main_v122) = v4 c
          ∧ r.2.mem ((c.tc : Thread Cert.Reference4Ideal.nD Cert.Reference4Ideal.τ).loc Cert.Reference4Ideal.main_v123) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v74_0)) (v1 : (c : Dev Cert.Kernel5Ideal.nD) → Buf (Elt Ideal) ((c.tc : Thread Cert.Kernel5Ideal.nD Cert.Kernel5Ideal.τ).loc Cert.Kernel5Ideal.main_v74_1)) (v2 : (c : Dev Cert.Kernel5Ideal.nD) → Buf (Elt Ideal) ((c.tc : Thread Cert.Kernel5Ideal.nD Cert.Kernel5Ideal.τ).loc Cert.Kernel5Ideal.main_v74_2)) (v3 : (c : Dev Cert.Kernel5Ideal.nD) → Buf (Elt Ideal) ((c.tc : Thread Cert.Kernel5Ideal.nD Cert.Kernel5Ideal.τ).loc Cert.Kernel5Ideal.main_v74_3)) (v4 : (c : Dev Cert.Kernel5Ideal.nD) → Buf (Elt Ideal) ((c.tc : Thread Cert.Kernel5Ideal.nD Cert.Kernel5Ideal.τ).loc Cert.Kernel5Ideal.main_v74_4)) (v5 : (c : Dev Cert.Kernel5Ideal.nD) → Buf (Elt Ideal) ((c.tc : Thread Cert.Kernel5Ideal.nD Cert.Kernel5Ideal.τ).loc Cert.Kernel5Ideal.main_v74_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74_0) = v0 c
          ∧ r.2.mem ((c.tc : Thread Cert.Kernel5Ideal.nD Cert.Kernel5Ideal.τ).loc Cert.Kernel5Ideal.main_v74_1) = v1 c
          ∧ r.2.mem ((c.tc : Thread Cert.Kernel5Ideal.nD Cert.Kernel5Ideal.τ).loc Cert.Kernel5Ideal.main_v74_2) = v2 c
          ∧ r.2.mem ((c.tc : Thread Cert.Kernel5Ideal.nD Cert.Kernel5Ideal.τ).loc Cert.Kernel5Ideal.main_v74_3) = v3 c
          ∧ r.2.mem ((c.tc : Thread Cert.Kernel5Ideal.nD Cert.Kernel5Ideal.τ).loc Cert.Kernel5Ideal.main_v74_4) = v4 c
          ∧ r.2.mem ((c.tc : Thread Cert.Kernel5Ideal.nD Cert.Kernel5Ideal.τ).loc Cert.Kernel5Ideal.main_v74_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v169) = v0 c
          ∧ r.2.mem ((c.tc : Thread Cert.Reference5Ideal.nD Cert.Reference5Ideal.τ).loc Cert.Reference5Ideal.main_v170) = v1 c
          ∧ r.2.mem ((c.tc : Thread Cert.Reference5Ideal.nD Cert.Reference5Ideal.τ).loc Cert.Reference5Ideal.main_v172) = v2 c
          ∧ r.2.mem ((c.tc : Thread Cert.Reference5Ideal.nD Cert.Reference5Ideal.τ).loc Cert.Reference5Ideal.main_v173) = v3 c
          ∧ r.2.mem ((c.tc : Thread Cert.Reference5Ideal.nD Cert.Reference5Ideal.τ).loc Cert.Reference5Ideal.main_v174) = v4 c
          ∧ r.2.mem ((c.tc : Thread Cert.Reference5Ideal.nD Cert.Reference5Ideal.τ).loc Cert.Reference5Ideal.main_v175) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x1024 : Shape := ⟨2, ![16384, 1024]⟩
abbrev S16384x512 : Shape := ⟨2, ![16384, 512]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S16384x512 : Shape := ⟨2, ![16384, 512]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Kernel3.lean ====
abbrev S32x1x1024 : Shape := ⟨3, ![32, 1, 1024]⟩
abbrev S32x32x64 : Shape := ⟨3, ![32, 32, 64]⟩
abbrev S1024x512 : Shape := ⟨2, ![1024, 512]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S32 : Shape := ⟨1, ![32]⟩
abbrev S512x512 : Shape := ⟨2, ![512, 512]⟩
abbrev S32x1 : Shape := ⟨2, ![32, 1]⟩
abbrev S_ : Shape := ⟨0, ![]⟩
abbrev S32x64x1 : Shape := ⟨3, ![32, 64, 1]⟩
abbrev S4x8x16x64 : Shape := ⟨4, ![4, 8, 16, 64]⟩
abbrev S8x8 : Shape := ⟨2, ![8, 8]⟩
abbrev S4x8x16x1x64 : Shape := ⟨5, ![4, 8, 16, 1, 64]⟩
abbrev S8x1x8x1 : Shape := ⟨4, ![8, 1, 8, 1]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S1x2048 : Shape := ⟨2, ![1, 2048]⟩
abbrev S32x1024 : Shape := ⟨2, ![32, 1024]⟩
abbrev S32x2048 : Shape := ⟨2, ![32, 2048]⟩
abbrev S1x512 : Shape := ⟨2, ![1, 512]⟩
abbrev S32x512 : Shape := ⟨2, ![32, 512]⟩
abbrev S32x128 : Shape := ⟨2, ![32, 128]⟩
abbrev S1x128x1024 : Shape := ⟨3, ![1, 128, 1024]⟩
abbrev S128x1024 : Shape := ⟨2, ![128, 1024]⟩
abbrev S1x1024x128 : Shape := ⟨3, ![1, 1024, 128]⟩
abbrev S1024x128 : Shape := ⟨2, ![1024, 128]⟩

abbrev nBuf : Space → Nat
  | .hbm => 135
  | .vmem => 13
  | .smem => 0
  | _ => 0

abbrev hbmTy0_0 (i : Nat) : BufTy := match i % 128 with
  | 0 => ⟨S32x1x1024, .f32⟩
  | 1 => ⟨S32x32x64, .f32⟩
  | 2 => ⟨S32x32x64, .f32⟩
  | 3 => ⟨S1024x512, .f32⟩
  | 4 => ⟨S32x64, .f32⟩
  | 5 => ⟨S32x64, .f32⟩
  | 6 => ⟨S32x64x16, .f32⟩
  | 7 => ⟨S32x64x16, .f32⟩
  | 8 => ⟨S32x16x64, .f32⟩
  | 9 => ⟨S32x16x64, .f32⟩
  | 10 => ⟨S32x16, .f32⟩
  | 11 => ⟨S32, .f32⟩
  | 12 => ⟨S512x512, .f32⟩
  | 13 => ⟨S32, .f32⟩
  | 14 => ⟨S32x1, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x16x64, .f32⟩
  | 56 => ⟨S4x8x16x64, .f32⟩
  | 57 => ⟨S8x8, .i32⟩
  | 58 => ⟨S8x8, .i32⟩
  | 59 => ⟨S_, .i32⟩
  | 60 => ⟨S8x8, .i32⟩
  | 61 => ⟨S8x8, .i32⟩
  | 62 => ⟨S8x8, .i1⟩
  | 63 => ⟨S8x8, .f32⟩
  | 64 => ⟨S4x8x16x1x64, .f32⟩
  | 65 => ⟨S8x1x8x1, .f32⟩
  | 66 => ⟨S1x8x1x8x1, .f32⟩
  | 67 => ⟨S4x8x16x8x64, .f32⟩
  | 68 => ⟨S4x8x16x8x64, .f32⟩
  | 69 => ⟨S4x8x16x8x64, .f32⟩
  | 70 => ⟨S4x128x512, .f32⟩
  | 71 => ⟨S32x16x64, .f32⟩
  | 72 => ⟨S4x8x16x64, .f32⟩
  | 73 => ⟨S8x8, .i32⟩
  | 74 => ⟨S8x8, .i32⟩
  | 75 => ⟨S_, .i32⟩
  | 76 => ⟨S8x8, .i32⟩
  | 77 => ⟨S8x8, .i32⟩
  | 78 => ⟨S8x8, .i1⟩
  | 79 => ⟨S8x8, .f32⟩
  | 80 => ⟨S4x8x16x1x64, .f32⟩
  | 81 => ⟨S8x1x8x1, .f32⟩
  | 82 => ⟨S1x8x1x8x1, .f32⟩
  | 83 => ⟨S4x8x16x8x64, .f32⟩
  | 84 => ⟨S4x8x16x8x64, .f32⟩
  | 85 => ⟨S4x8x16x8x64, .f32⟩
  | 86 => ⟨S4x128x512, .f32⟩
  | 87 => ⟨S4x128x1024, .f32⟩
  | 88 => ⟨S4x128x1024, .bf16⟩
  | 89 => ⟨S32x64x16, .f32⟩
  | 90 => ⟨S4x8x64x16, .f32⟩
  | 91 => ⟨S8x8, .i32⟩
  | 92 => ⟨S8x8, .i32⟩
  | 93 => ⟨S_, .i32⟩
  | 94 => ⟨S8x8, .i32⟩
  | 95 => ⟨S8x8, .i32⟩
  | 96 => ⟨S8x8, .i1⟩
  | 97 => ⟨S8x8, .f32⟩
  | 98 => ⟨S4x8x64x1x16, .f32⟩
  | 99 => ⟨S8x1x8x1, .f32⟩
  | 100 => ⟨S1x8x1x8x1, .f32⟩
  | 101 => ⟨S4x8x64x8x16, .f32⟩
  | 102 => ⟨S4x8x64x8x16, .f32⟩
  | 103 => ⟨S4x8x64x8x16, .f32⟩
  | 104 => ⟨S4x512x128, .f32⟩
  | 105 => ⟨S32x16x64, .f32⟩
  | 106 => ⟨S32x64x16, .f32⟩
  | 107 => ⟨S4x8x64x16, .f32⟩
  | 108 => ⟨S8x8, .i32⟩
  | 109 => ⟨S8x8, .i32⟩
  | 110 => ⟨S_, .i32⟩
  | 111 => ⟨S8x8, .i32⟩
  | 112 => ⟨S8x8, .i32⟩
  | 113 => ⟨S8x8, .i1⟩
  | 114 => ⟨S8x8, .f32⟩
  | 115 => ⟨S4x8x64x1x16, .f32⟩
  | 116 => ⟨S8x1x8x1, .f32⟩
  | 117 => ⟨S1x8x1x8x1, .f32⟩
  | 118 => ⟨S4x8x64x8x16, .f32⟩
  | 119 => ⟨S4x8x64x8x16, .f32⟩
  | 120 => ⟨S4x8x64x8x16, .f32⟩
  | 121 => ⟨S4x512x128, .f32⟩
  | 122 => ⟨S4x1024x128, .f32⟩
  | 123 => ⟨S4x1024x128, .bf16⟩
  | 124 => ⟨S1x2048, .f32⟩
  | 125 => ⟨S1x2048, .f32⟩
  | 126 => ⟨S32x1024, .f32⟩
  | 127 => ⟨S32x2048, .f32⟩
  | _ => ⟨S32x1x1024, .f32⟩

abbrev hbmTy0_1 (i : Nat) : BufTy := match i % 128 with
  | 0 => ⟨S32x2048, .f32⟩
  | 1 => ⟨S1024x512, .bf16⟩
  | 2 => ⟨S1x512, .f32⟩
  | 3 => ⟨S512x512, .bf16⟩
  | 4 => ⟨S32x512, .bf16⟩
  | 5 => ⟨S32x2048, .f32⟩
  | 6 => ⟨S32x2048, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | .local _ .vmem, ⟨0, _⟩ => ⟨S32x1024, .f32⟩
  | .local _ .vmem, ⟨1, _⟩ => ⟨S32x2048, .f32⟩
  | .local _ .vmem, ⟨2, _⟩ => ⟨S32x2048, .f32⟩
  | .local _ .vmem, ⟨3, _⟩ => ⟨S1024x512, .bf16⟩
  | .local _ .vmem, ⟨4, _⟩ => ⟨S4x128x1024, .bf16⟩
  | .local _ .vmem, ⟨5, _⟩ => ⟨S1x2048, .f32⟩
  | .local _ .vmem, ⟨6, _⟩ => ⟨S1x2048, .f32⟩
  | .local _ .vmem, ⟨7, _⟩ => ⟨S4x1024x128, .bf16⟩
  | .local _ .vmem, ⟨8, _⟩ => ⟨S1x512, .f32⟩
  | .local _ .vmem, ⟨9, _⟩ => ⟨S512x512, .bf16⟩
  | .local _ .vmem, ⟨10, _⟩ => ⟨S32x512, .bf16⟩
  | .local _ .vmem, ⟨11, _⟩ => ⟨S32x2048, .f32⟩
  | .local _ .vmem, ⟨12, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_1 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_2 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_c_3 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113_0 : Ref sig .tc := ⟨.hbm, 132, rfl⟩
abbrev main_v113_1 : Ref sig .tc := ⟨.hbm, 133, rfl⟩
abbrev main_v113_2 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S32x1x1024 : Shape := ⟨3, ![32, 1, 1024]⟩
abbrev S32x32x64 : Shape := ⟨3, ![32, 32, 64]⟩
abbrev S1024x512 : Shape := ⟨2, ![1024, 512]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S32 : Shape := ⟨1, ![32]⟩
abbrev S512x512 : Shape := ⟨2, ![512, 512]⟩
abbrev S32x1024 : Shape := ⟨2, ![32, 1024]⟩
abbrev S32x512 : Shape := ⟨2, ![32, 512]⟩
abbrev S32x32x16 : Shape := ⟨3, ![32, 32, 16]⟩
abbrev S32x1 : Shape := ⟨2, ![32, 1]⟩
abbrev S_ : Shape := ⟨0, ![]⟩
abbrev S32x64x1 : Shape := ⟨3, ![32, 64, 1]⟩
abbrev S1x32x64 : Shape := ⟨3, ![1, 32, 64]⟩
abbrev S32x2048 : Shape := ⟨2, ![32, 2048]⟩
abbrev S1x32x16 : Shape := ⟨3, ![1, 32, 16]⟩

abbrev nBuf : Space → Nat
  | .hbm => 122
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x32x64, .f32⟩
  | .hbm, ⟨2, _⟩ => ⟨S32x32x64, .f32⟩
  | .hbm, ⟨3, _⟩ => ⟨S1024x512, .f32⟩
  | .hbm, ⟨4, _⟩ => ⟨S32x64, .f32⟩
  | .hbm, ⟨5, _⟩ => ⟨S32x64, .f32⟩
  | .hbm, ⟨6, _⟩ => ⟨S32x64x16, .f32⟩
  | .hbm, ⟨7, _⟩ => ⟨S32x64x16, .f32⟩
  | .hbm, ⟨8, _⟩ => ⟨S32x16x64, .f32⟩
  | .hbm, ⟨9, _⟩ => ⟨S32x16x64, .f32⟩
  | .hbm, ⟨10, _⟩ => ⟨S32x16, .f32⟩
  | .hbm, ⟨11, _⟩ => ⟨S32, .f32⟩
  | .hbm, ⟨12, _⟩ => ⟨S512x512, .f32⟩
  | .hbm, ⟨13, _⟩ => ⟨S32x1024, .f32⟩
  | .hbm, ⟨14, _⟩ => ⟨S32x512, .f32⟩
  | .hbm, ⟨15, _⟩ => ⟨S32x32x16, .f32⟩
  | .hbm, ⟨16, _⟩ => ⟨S32, .f32⟩
  | .hbm, ⟨17, _⟩ => ⟨S32x1, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S_, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x1, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S32x64x1, .f32⟩
  | .hbm, ⟨53, _⟩ => ⟨S32x64x16, .f32⟩
  | .hbm, ⟨54, _⟩ => ⟨S32x64x16, .f32⟩
  | .hbm, ⟨55, _⟩ => ⟨S32x64x1, .f32⟩
  | .hbm, ⟨56, _⟩ => ⟨S32x64x16, .f32⟩
  | .hbm, ⟨57, _⟩ => ⟨S32x64x16, .f32⟩
  | .hbm, ⟨58, _⟩ => ⟨S32x64x16, .f32⟩
  | .hbm, ⟨59, _⟩ => ⟨S32x32x64, .f32⟩
  | .hbm, ⟨60, _⟩ => ⟨S32x32x64, .f32⟩
  | .hbm, ⟨61, _⟩ => ⟨S1x32x64, .f32⟩
  | .hbm, ⟨62, _⟩ => ⟨S32x32x64, .f32⟩
  | .hbm, ⟨63, _⟩ => ⟨S32x32x64, .f32⟩
  | .hbm, ⟨64, _⟩ => ⟨S1x32x64, .f32⟩
  | .hbm, ⟨65, _⟩ => ⟨S32x32x64, .f32⟩
  | .hbm, ⟨66, _⟩ => ⟨S32x32x64, .f32⟩
  | .hbm, ⟨67, _⟩ => ⟨S32x32x64, .f32⟩
  | .hbm, ⟨68, _⟩ => ⟨S32x32x64, .f32⟩
  | .hbm, ⟨69, _⟩ => ⟨S32x2048, .f32⟩
  | .hbm, ⟨70, _⟩ => ⟨S32x32x64, .f32⟩
  | .hbm, ⟨71, _⟩ => ⟨S32x32x64, .f32⟩
  | .hbm, ⟨72, _⟩ => ⟨S1x32x64, .f32⟩
  | .hbm, ⟨73, _⟩ => ⟨S32x32x64, .f32⟩
  | .hbm, ⟨74, _⟩ => ⟨S32x32x64, .f32⟩
  | .hbm, ⟨75, _⟩ => ⟨S1x32x64, .f32⟩
  | .hbm, ⟨76, _⟩ => ⟨S32x32x64, .f32⟩
  | .hbm, ⟨77, _⟩ => ⟨S32x32x64, .f32⟩
  | .hbm, ⟨78, _⟩ => ⟨S32x32x64, .f32⟩
  | .hbm, ⟨79, _⟩ => ⟨S32x32x64, .f32⟩
  | .hbm, ⟨80, _⟩ => ⟨S32x2048, .f32⟩
  | .hbm, ⟨81, _⟩ => ⟨S32x32x64, .f32⟩
  | .hbm, ⟨82, _⟩ => ⟨S32x32x64, .f32⟩
  | .hbm, ⟨83, _⟩ => ⟨S32x32x16, .f32⟩
  | .hbm, ⟨84, _⟩ => ⟨S32x32x16, .f32⟩
  | .hbm, ⟨85, _⟩ => ⟨S32x16x64, .f32⟩
  | .hbm, ⟨86, _⟩ => ⟨S32x32x16, .f32⟩
  | .hbm, ⟨87, _⟩ => ⟨S32x32x16, .f32⟩
  | .hbm, ⟨88, _⟩ => ⟨S32x32x16, .f32⟩
  | .hbm, ⟨89, _⟩ => ⟨S1x32x16, .f32⟩
  | .hbm, ⟨90, _⟩ => ⟨S32x32x16, .f32⟩
  | .hbm, ⟨91, _⟩ => ⟨S32x32x16, .f32⟩
  | .hbm, ⟨92, _⟩ => ⟨S32x32x16, .f32⟩
  | .hbm, ⟨93, _⟩ => ⟨S32x512, .f32⟩
  | .hbm, ⟨94, _⟩ => ⟨S32x512, .f32⟩
  | .hbm, ⟨95, _⟩ => ⟨S32x512, .f32⟩
  | .hbm, ⟨96, _⟩ => ⟨S_, .f32⟩
  | .hbm, ⟨97, _⟩ => ⟨S32x512, .f32⟩
  | .hbm, ⟨98, _⟩ => ⟨S32x512, .f32⟩
  | .hbm, ⟨99, _⟩ => ⟨S32x512, .f32⟩
  | .hbm, ⟨100, _⟩ => ⟨S_, .f32⟩
  | .hbm, ⟨101, _⟩ => ⟨S32x512, .f32⟩
  | .hbm, ⟨102, _⟩ => ⟨S32x512, .f32⟩
  | .hbm, ⟨103, _⟩ => ⟨S32x512, .f32⟩
  | .hbm, ⟨104, _⟩ => ⟨S_, .f32⟩
  | .hbm, ⟨105, _⟩ => ⟨S32x512, .f32⟩
  | .hbm, ⟨106, _⟩ => ⟨S32x512, .f32⟩
  | .hbm, ⟨107, _⟩ => ⟨S_, .f32⟩
  | .hbm, ⟨108, _⟩ => ⟨S32x512, .f32⟩
  | .hbm, ⟨109, _⟩ => ⟨S32x512, .f32⟩
  | .hbm, ⟨110, _⟩ => ⟨S32x512, .f32⟩
  | .hbm, ⟨111, _⟩ => ⟨S32x512, .f32⟩
  | .hbm, ⟨112, _⟩ => ⟨S32x512, .f32⟩
  | .hbm, ⟨113, _⟩ => ⟨S32x512, .f32⟩
  | .hbm, ⟨114, _⟩ => ⟨S_, .f32⟩
  | .hbm, ⟨115, _⟩ => ⟨S32x512, .f32⟩
  | .hbm, ⟨116, _⟩ => ⟨S32x512, .f32⟩
  | .hbm, ⟨117, _⟩ => ⟨S_, .f32⟩
  | .hbm, ⟨118, _⟩ => ⟨S32x512, .f32⟩
  | .hbm, ⟨119, _⟩ => ⟨S32x512, .f32⟩
  | .hbm, ⟨120, _⟩ => ⟨S32x512, .f32⟩
  | .hbm, ⟨121, _⟩ => ⟨S32x512, .bf16⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_1 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_2 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_3 : Ref sig .tc := ⟨.hbm, 104, rfl⟩
abbrev main_v87 : Ref sig .tc := ⟨.hbm, 105, rfl⟩
abbrev main_v88 : Ref sig .tc := ⟨.hbm, 106, rfl⟩
abbrev main_cst_4 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_5 : Ref sig .tc := ⟨.hbm, 114, rfl⟩
abbrev main_v95 : Ref sig .tc := ⟨.hbm, 115, rfl⟩
abbrev main_v96 : Ref sig .tc := ⟨.hbm, 116, rfl⟩
abbrev main_cst_6 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x1440 : Shape := ⟨2, ![1024, 1440]⟩
abbrev S128 : Shape := ⟨1, ![128]⟩
abbrev S512 : Shape := ⟨1, ![512]⟩
abbrev S8x128x128 : Shape := ⟨3, ![8, 128, 128]⟩
abbrev S8x128 : Shape := ⟨2, ![8, 128]⟩
abbrev S1024x384 : Shape := ⟨2, ![1024, 384]⟩
abbrev S1024x1024 : Shape := ⟨2, ![1024, 1024]⟩
abbrev S1024x32 : Shape := ⟨2, ![1024, 32]⟩
abbrev S_ : Shape := ⟨0, ![]⟩
abbrev S1024x96 : Shape := ⟨2, ![1024, 96]⟩
abbrev S1024x1536 : Shape := ⟨2, ![1024, 1536]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x1024 : Shape := ⟨2, ![16384, 1024]⟩
abbrev S1x128 : Shape := ⟨2, ![1, 128]⟩
abbrev S1x512 : Shape := ⟨2, ![1, 512]⟩
abbrev S16384x256 : Shape := ⟨2, ![16384, 256]⟩
abbrev S16384x128 : Shape := ⟨2, ![16384, 128]⟩
abbrev S8x32x2048 : Shape := ⟨3, ![8, 32, 2048]⟩
abbrev S16384x512 : Shape := ⟨2, ![16384, 512]⟩
abbrev S8x128x512 : Shape := ⟨3, ![8, 128, 512]⟩
abbrev S512x1024 : Shape := ⟨2, ![512, 1024]⟩
abbrev S512x128 : Shape := ⟨2, ![512, 128]⟩
abbrev S512x256 : Shape := ⟨2, ![512, 256]⟩
abbrev S1x32x512 : Shape := ⟨3, ![1, 32, 512]⟩
abbrev S512x512 : Shape := ⟨2, ![512, 512]⟩
abbrev S1x128x512 : Shape := ⟨3, ![1, 128, 512]⟩
abbrev S256x1024 : Shape := ⟨2, ![256, 1024]⟩
abbrev S256x1536 : Shape := ⟨2, ![256, 1536]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S32x256 : Shape := ⟨2, ![32, 256]⟩
abbrev S1x32x256 : Shape := ⟨3, ![1, 32, 256]⟩
abbrev S256x512 : Shape := ⟨2, ![256, 512]⟩

abbrev nBuf : Space → Nat
  | .hbm => 70
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024x1440, .f32⟩
  | .hbm, ⟨2, _⟩ => ⟨S128, .f32⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S1024x384, .f32⟩
  | .hbm, ⟨8, _⟩ => ⟨S1024x1024, .f32⟩
  | .hbm, ⟨9, _⟩ => ⟨S1024x32, .f32⟩
  | .hbm, ⟨10, _⟩ => ⟨S_, .f32⟩
  | .hbm, ⟨11, _⟩ => ⟨S1024x96, .f32⟩
  | .hbm, ⟨12, _⟩ => ⟨S1024x1536, .f32⟩
  | .hbm, ⟨13, _⟩ => ⟨S1024x1536, .bf16⟩
  | .hbm, ⟨14, _⟩ => ⟨S_, .i1⟩
  | .hbm, ⟨15, _⟩ => ⟨S128x128, .i1⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S1x128x128, .i1⟩
  | .hbm, ⟨26, _⟩ => ⟨S_, .i32⟩
  | .hbm, ⟨27, _⟩ => ⟨S_, .f32⟩
  | .hbm, ⟨28, _⟩ => ⟨S8x128x128, .i1⟩
  | .hbm, ⟨29, _⟩ => ⟨S8x128x128, .f32⟩
  | .hbm, ⟨30, _⟩ => ⟨S8x128x128, .f32⟩
  | .hbm, ⟨31, _⟩ => ⟨S8x128x128, .bf16⟩
  | .hbm, ⟨32, _⟩ => ⟨S128x8, .f32⟩
  | .hbm, ⟨33, _⟩ => ⟨S128x8x64, .f32⟩
  | .hbm, ⟨34, _⟩ => ⟨S128x512, .f32⟩
  | .hbm, ⟨35, _⟩ => ⟨S2048, .i32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S2048, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S_, .f32⟩
  | .hbm, ⟨53, _⟩ => ⟨S2048x16, .f32⟩
  | .hbm, ⟨54, _⟩ => ⟨S_, .f32⟩
  | .hbm, ⟨55, _⟩ => ⟨S2048x96, .f32⟩
  | .hbm, ⟨56, _⟩ => ⟨S2048x128, .f32⟩
  | .hbm, ⟨57, _⟩ => ⟨S2048x128, .f32⟩
  | .hbm, ⟨58, _⟩ => ⟨S2048x16, .f32⟩
  | .hbm, ⟨59, _⟩ => ⟨S2048x128, .f32⟩
  | .hbm, ⟨60, _⟩ => ⟨S16384x1024, .f32⟩
  | .hbm, ⟨61, _⟩ => ⟨S1x128, .f32⟩
  | .hbm, ⟨62, _⟩ => ⟨S1x512, .f32⟩
  | .hbm, ⟨63, _⟩ => ⟨S1x512, .f32⟩
  | .hbm, ⟨64, _⟩ => ⟨S16384x256, .f32⟩
  | .hbm, ⟨65, _⟩ => ⟨S16384x128, .f32⟩
  | .hbm, ⟨66, _⟩ => ⟨S8x32x2048, .f32⟩
  | .hbm, ⟨67, _⟩ => ⟨S16384x256, .bf16⟩
  | .hbm, ⟨68, _⟩ => ⟨S16384x512, .bf16⟩
  | .hbm, ⟨69, _⟩ => ⟨S8x128x512, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1x128, .f32⟩
  | .local _ .vmem, ⟨4, _⟩ => ⟨S1x512, .f32⟩
  | .local _ .vmem, ⟨5, _⟩ => ⟨S1x512, .f32⟩
  | .local _ .vmem, ⟨6, _⟩ => ⟨S8x128x128, .bf16⟩
  | .local _ .vmem, ⟨7, _⟩ => ⟨S128x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S1x32x512, .f32⟩
  | .local _ .vmem, ⟨19, _⟩ => ⟨S1x32x512, .f32⟩
  | .local _ .vmem, ⟨20, _⟩ => ⟨S512x256, .bf16⟩
  | .local _ .vmem, ⟨21, _⟩ => ⟨S512x256, .bf16⟩
  | .local _ .vmem, ⟨22, _⟩ => ⟨S512x512, .bf16⟩
  | .local _ .vmem, ⟨23, _⟩ => ⟨S512x512, .bf16⟩
  | .local _ .vmem, ⟨24, _⟩ => ⟨S1x128x512, .f32⟩
  | .local _ .vmem, ⟨25, _⟩ => ⟨S1x128x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39_0 : Ref sig .tc := ⟨.hbm, 64, rfl⟩
abbrev main_v39_1 : Ref sig .tc := ⟨.hbm, 65, rfl⟩
abbrev main_v39_2 : Ref sig .tc := ⟨.hbm, 66, rfl⟩
abbrev main_v39_3 : Ref sig .tc := ⟨.hbm, 67, rfl⟩
abbrev main_v39_4 : Ref sig .tc := ⟨.hbm, 68, rfl⟩
abbrev main_v39_5 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x2048x1024 : Shape := ⟨3, ![8, 2048, 1024]⟩
abbrev S1024x1440 : Shape := ⟨2, ![1024, 1440]⟩
abbrev S128 : Shape := ⟨1, ![128]⟩
abbrev S512 : Shape := ⟨1, ![512]⟩
abbrev S8x128x128 : Shape := ⟨3, ![8, 128, 128]⟩
abbrev S8x128 : Shape := ⟨2, ![8, 128]⟩
abbrev S8x2048x1440 : Shape := ⟨3, ![8, 2048, 1440]⟩
abbrev S8x2048x256 : Shape := ⟨3, ![8, 2048, 256]⟩
abbrev S8x2048x128 : Shape := ⟨3, ![8, 2048, 128]⟩
abbrev S8x2048x32 : Shape := ⟨3, ![8, 2048, 32]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x128 : Shape := ⟨3, ![1, 1, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8x2048x16 : Shape := ⟨3, ![8, 2048, 16]⟩
abbrev S1x2048x16 : Shape := ⟨3, ![1, 2048, 16]⟩
abbrev S1x1x512 : Shape := ⟨3, ![1, 1, 512]⟩
abbrev S8x16x128x8x64 : Shape := ⟨5, ![8, 16, 128, 8, 64]⟩
abbrev S128x128 : Shape := ⟨2, ![128, 128]⟩
abbrev S1x128x128 : Shape := ⟨3, ![1, 128, 128]⟩
abbrev S8x8x16x64x128 : Shape := ⟨5, ![8, 8, 16, 64, 128]⟩
abbrev S128x8 : Shape := ⟨2, ![128, 8]⟩
abbrev S1x1x128x8x1 : Shape := ⟨5, ![1, 1, 128, 8, 1]⟩
abbrev S8x2048x96 : Shape := ⟨3, ![8, 2048, 96]⟩
abbrev S16384x256 : Shape := ⟨2, ![16384, 256]⟩
abbrev S16384x128 : Shape := ⟨2, ![16384, 128]⟩
abbrev S8x32x2048 : Shape := ⟨3, ![8, 32, 2048]⟩
abbrev S16384x512 : Shape := ⟨2, ![16384, 512]⟩
abbrev S8x128x512 : Shape := ⟨3, ![8, 128, 512]⟩

abbrev nBuf : Space → Nat
  | .hbm => 163
  | .vmem => 0
  | .smem => 0
  | _ => 0

abbrev hbmTy0_0 (i : Nat) : BufTy := match i % 128 with
  | 0 => ⟨S8x2048x1024, .f32⟩
  | 1 => ⟨S1024x1440, .f32⟩
  | 2 => ⟨S128, .f32⟩
  | 3 => ⟨S512, .f32⟩
  | 4 => ⟨S512, .f32⟩
  | 5 => ⟨S8x128x128, .f32⟩
  | 6 => ⟨S8x128, .f32⟩
  | 7 => ⟨S8x2048x1440, .f32⟩
  | 8 => ⟨S8x2048x256, .f32⟩
  | 9 => ⟨S8x2048x128, .f32⟩
  | 10 => ⟨S8x2048x32, .f32⟩
  | 11 => ⟨S8x2048x512, .f32⟩
  | 12 => ⟨S8x2048x512, .f32⟩
  | 13 => ⟨S8x2048x128, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x128, .f32⟩
  | 25 => ⟨S8x2048x128, .f32⟩
  | 26 => ⟨S1x1x128, .f32⟩
  | 27 => ⟨S8x2048x128, .f32⟩
  | 28 => ⟨S8x2048x128, .f32⟩
  | 29 => ⟨S2048, .i32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S2048, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x16, .f32⟩
  | 45 => ⟨S2048x16, .f32⟩
  | 46 => ⟨S8x2048x16, .f32⟩
  | 47 => ⟨S8x2048x16, .f32⟩
  | 48 => ⟨S1x2048x16, .f32⟩
  | 49 => ⟨S8x2048x16, .f32⟩
  | 50 => ⟨S8x2048x16, .f32⟩
  | 51 => ⟨S1x2048x16, .f32⟩
  | 52 => ⟨S8x2048x16, .f32⟩
  | 53 => ⟨S8x2048x16, .f32⟩
  | 54 => ⟨S8x2048x16, .f32⟩
  | 55 => ⟨S1x2048x16, .f32⟩
  | 56 => ⟨S8x2048x16, .f32⟩
  | 57 => ⟨S8x2048x16, .f32⟩
  | 58 => ⟨S1x2048x16, .f32⟩
  | 59 => ⟨S8x2048x16, .f32⟩
  | 60 => ⟨S8x2048x16, .f32⟩
  | 61 => ⟨S8x2048x16, .f32⟩
  | 62 => ⟨S8x2048x32, .f32⟩
  | 63 => ⟨S8x2048x512, .f32⟩
  | 64 => ⟨S8x2048x512, .f32⟩
  | 65 => ⟨S_, .f32⟩
  | 66 => ⟨S8x2048x512, .f32⟩
  | 67 => ⟨S8x2048x512, .f32⟩
  | 68 => ⟨S8x2048x512, .f32⟩
  | 69 => ⟨S_, .f32⟩
  | 70 => ⟨S8x2048x512, .f32⟩
  | 71 => ⟨S8x2048x512, .f32⟩
  | 72 => ⟨S8x2048x512, .f32⟩
  | 73 => ⟨S_, .f32⟩
  | 74 => ⟨S8x2048x512, .f32⟩
  | 75 => ⟨S8x2048x512, .f32⟩
  | 76 => ⟨S_, .f32⟩
  | 77 => ⟨S8x2048x512, .f32⟩
  | 78 => ⟨S8x2048x512, .f32⟩
  | 79 => ⟨S8x2048x512, .f32⟩
  | 80 => ⟨S_, .f32⟩
  | 81 => ⟨S8x2048, .f32⟩
  | 82 => ⟨S8x2048x1, .f32⟩
  | 83 => ⟨S_, .f32⟩
  | 84 => ⟨S8x2048x1, .f32⟩
  | 85 => ⟨S8x2048x1, .f32⟩
  | 86 => ⟨S8x2048x512, .f32⟩
  | 87 => ⟨S8x2048x512, .f32⟩
  | 88 => ⟨S8x2048x512, .f32⟩
  | 89 => ⟨S_, .f32⟩
  | 90 => ⟨S8x2048, .f32⟩
  | 91 => ⟨S8x2048x1, .f32⟩
  | 92 => ⟨S_, .f32⟩
  | 93 => ⟨S8x2048x1, .f32⟩
  | 94 => ⟨S8x2048x1, .f32⟩
  | 95 => ⟨S8x2048x512, .f32⟩
  | 96 => ⟨S8x2048x512, .f32⟩
  | 97 => ⟨S_, .f32⟩
  | 98 => ⟨S8x2048x1, .f32⟩
  | 99 => ⟨S8x2048x1, .f32⟩
  | 100 => ⟨S8x2048x1, .f32⟩
  | 101 => ⟨S8x2048x512, .f32⟩
  | 102 => ⟨S8x2048x512, .f32⟩
  | 103 => ⟨S1x1x512, .f32⟩
  | 104 => ⟨S8x2048x512, .f32⟩
  | 105 => ⟨S8x2048x512, .f32⟩
  | 106 => ⟨S1x1x512, .f32⟩
  | 107 => ⟨S8x2048x512, .f32⟩
  | 108 => ⟨S8x2048x512, .f32⟩
  | 109 => ⟨S8x2048x512, .f32⟩
  | 110 => ⟨S8x2048x512, .f32⟩
  | 111 => ⟨S_, .f32⟩
  | 112 => ⟨S8x2048x512, .f32⟩
  | 113 => ⟨S8x2048x512, .f32⟩
  | 114 => ⟨S8x2048x512, .f32⟩
  | 115 => ⟨S_, .f32⟩
  | 116 => ⟨S8x2048x512, .f32⟩
  | 117 => ⟨S8x2048x512, .f32⟩
  | 118 => ⟨S8x2048x512, .f32⟩
  | 119 => ⟨S_, .f32⟩
  | 120 => ⟨S8x2048x512, .f32⟩
  | 121 => ⟨S8x2048x512, .f32⟩
  | 122 => ⟨S_, .f32⟩
  | 123 => ⟨S8x2048x512, .f32⟩
  | 124 => ⟨S8x2048x512, .f32⟩
  | 125 => ⟨S8x2048x512, .f32⟩
  | 126 => ⟨S8x16x128x8x64, .f32⟩
  | 127 => ⟨S_, .i1⟩
  | _ => ⟨S8x2048x1024, .f32⟩

abbrev hbmTy0_1 (i : Nat) : BufTy := match i % 128 with
  | 0 => ⟨S128x128, .i1⟩
  | 1 => ⟨S128x128, .i32⟩
  | 2 => ⟨S_, .i32⟩
  | 3 => ⟨S128x128, .i32⟩
  | 4 => ⟨S128x128, .i32⟩
  | 5 => ⟨S128x128, .i32⟩
  | 6 => ⟨S128x128, .i1⟩
  | 7 => ⟨S_, .i1⟩
  | 8 => ⟨S128x128, .i1⟩
  | 9 => ⟨S128x128, .i1⟩
  | 10 => ⟨S1x128x128, .i1⟩
  | 11 => ⟨S_, .i32⟩
  | 12 => ⟨S_, .f32⟩
  | 13 => ⟨S8x128x128, .i1⟩
  | 14 => ⟨S8x128x128, .f32⟩
  | 15 => ⟨S8x128x128, .f32⟩
  | 16 => ⟨S8x8x16x64x128, .f32⟩
  | 17 => ⟨S8x16x128x8x64, .f32⟩
  | 18 => ⟨S128x8, .f32⟩
  | 19 => ⟨S1x1x128x8x1, .f32⟩
  | 20 => ⟨S8x16x128x8x64, .f32⟩
  | 21 => ⟨S8x16x128x8x64, .f32⟩
  | 22 => ⟨S8x2048x512, .f32⟩
  | 23 => ⟨S8x2048x512, .f32⟩
  | 24 => ⟨S_, .f32⟩
  | 25 => ⟨S8x2048x96, .f32⟩
  | 26 => ⟨S8x2048x256, .f32⟩
  | 27 => ⟨S16384x256, .f32⟩
  | 28 => ⟨S16384x128, .f32⟩
  | 29 => ⟨S8x32x2048, .f32⟩
  | 30 => ⟨S16384x256, .f32⟩
  | 31 => ⟨S16384x256, .bf16⟩
  | 32 => ⟨S16384x512, .f32⟩
  | 33 => ⟨S16384x512, .bf16⟩
  | 34 => ⟨S8x128x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_v72 : Ref sig .tc := ⟨.hbm, 91, rfl⟩
abbrev main_cst_11 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_13 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c : Ref sig .tc := ⟨.hbm, 127, rfl⟩
abbrev main_v102 : Ref sig .tc := ⟨.hbm, 128, rfl⟩
abbrev main_call0_v0 : Ref sig .tc := ⟨.hbm, 129, rfl⟩
abbrev main_call0_c : Ref sig .tc := ⟨.hbm, 130, rfl⟩
abbrev main_call0_v1 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_c_0 : Ref sig .tc := ⟨.hbm, 135, rfl⟩
abbrev main_call0_v5 : Ref sig .tc := ⟨.hbm, 136, rfl⟩
abbrev main_v103 : Ref sig .tc := ⟨.hbm, 137, rfl⟩
abbrev main_v104 : Ref sig .tc := ⟨.hbm, 138, rfl⟩
abbrev main_c_17 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_18 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩

abbrev nD : Nat := 1
abbrev τ : Topo := Topo.v7x

variable {F : FTy → Type} [FloatOps F]
-- ==== Kernel5.lean ====
abbrev S32x1x1024 : Shape := ⟨3, ![32, 1, 1024]⟩
abbrev S1024x1440 : Shape := ⟨2, ![1024, 1440]⟩
abbrev S256 : Shape := ⟨1, ![256]⟩
abbrev S256x8x96 : Shape := ⟨3, ![256, 8, 96]⟩
abbrev S128 : Shape := ⟨1, ![128]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S1024x384 : Shape := ⟨2, ![1024, 384]⟩
abbrev S1024x1024 : Shape := ⟨2, ![1024, 1024]⟩
abbrev S1024x32 : Shape := ⟨2, ![1024, 32]⟩
abbrev S_ : Shape := ⟨0, ![]⟩
abbrev S1024x96 : Shape := ⟨2, ![1024, 96]⟩
abbrev S1024x1536 : Shape := ⟨2, ![1024, 1536]⟩
abbrev S256x8x64 : Shape := ⟨3, ![256, 8, 64]⟩
abbrev S256x512 : Shape := ⟨2, ![256, 512]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S256x2048 : Shape := ⟨2, ![256, 2048]⟩
abbrev S128x8x64 : Shape := ⟨3, ![128, 8, 64]⟩
abbrev S8x64x128 : Shape := ⟨3, ![8, 64, 128]⟩
abbrev S4x2x64x128 : Shape := ⟨4, ![4, 2, 64, 128]⟩
abbrev S2x2 : Shape := ⟨2, ![2, 2]⟩
abbrev S4x2x64x1x128 : Shape := ⟨5, ![4, 2, 64, 1, 128]⟩
abbrev S2x1x2x1 : Shape := ⟨4, ![2, 1, 2, 1]⟩
abbrev S1x2x1x2x1 : Shape := ⟨5, ![1, 2, 1, 2, 1]⟩
abbrev S4x2x64x2x128 : Shape := ⟨5, ![4, 2, 64, 2, 128]⟩
abbrev S4x128x256 : Shape := ⟨3, ![4, 128, 256]⟩
abbrev S128x8 : Shape := ⟨2, ![128, 8]⟩
abbrev S128x512 : Shape := ⟨2, ![128, 512]⟩
abbrev S8x1x1 : Shape := ⟨3, ![8, 1, 1]⟩
abbrev S8 : Shape := ⟨1, ![8]⟩
abbrev S8x64 : Shape := ⟨2, ![8, 64]⟩
abbrev S1x512 : Shape := ⟨2, ![1, 512]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S32x1024 : Shape := ⟨2, ![32, 1024]⟩
abbrev S1x256 : Shape := ⟨2, ![1, 256]⟩
abbrev S32x128 : Shape := ⟨2, ![32, 128]⟩
abbrev S32x32 : Shape := ⟨2, ![32, 32]⟩
abbrev S32x512 : Shape := ⟨2, ![32, 512]⟩
abbrev S32x1536 : Shape := ⟨2, ![32, 1536]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S128x256 : Shape := ⟨2, ![128, 256]⟩
abbrev S32x2048 : Shape := ⟨2, ![32, 2048]⟩

abbrev nBuf : Space → Nat
  | .hbm => 98
  | .vmem => 20
  | .smem => 0
  | _ => 0

abbrev bufTy : (tb : Table) → Fin (tcTables nBuf tb) → BufTy
  | .hbm, ⟨0, _⟩ => ⟨S32x1x1024, .f32⟩
  | .hbm, ⟨1, _⟩ => ⟨S1024x1440, .f32⟩
  | .hbm, ⟨2, _⟩ => ⟨S256, .f32⟩
  | .hbm, ⟨3, _⟩ => ⟨S256x8x96, .f32⟩
  | .hbm, ⟨4, _⟩ => ⟨S128, .f32⟩
  | .hbm, ⟨5, _⟩ => ⟨S128x8x128, .f32⟩
  | .hbm, ⟨6, _⟩ => ⟨S512, .f32⟩
  | .hbm, ⟨7, _⟩ => ⟨S512, .f32⟩
  | .hbm, ⟨8, _⟩ => ⟨S8x128x128, .f32⟩
  | .hbm, ⟨9, _⟩ => ⟨S8x128, .f32⟩
  | .hbm, ⟨10, _⟩ => ⟨S1024x384, .f32⟩
  | .hbm, ⟨11, _⟩ => ⟨S1024x1024, .f32⟩
  | .hbm, ⟨12, _⟩ => ⟨S1024x32, .f32⟩
  | .hbm, ⟨13, _⟩ => ⟨S_, .f32⟩
  | .hbm, ⟨14, _⟩ => ⟨S1024x96, .f32⟩
  | .hbm, ⟨15, _⟩ => ⟨S1024x1536, .f32⟩
  | .hbm, ⟨16, _⟩ => ⟨S1024x1536, .bf16⟩
  | .hbm, ⟨17, _⟩ => ⟨S256x8x64, .f32⟩
  | .hbm, ⟨18, _⟩ => ⟨S256x512, .f32⟩
  | .hbm, ⟨19, _⟩ => ⟨S256x512, .bf16⟩
  | .hbm, ⟨20, _⟩ => ⟨S256x8x32, .f32⟩
  | .hbm, ⟨21, _⟩ => ⟨S256x8x16, .f32⟩
  | .hbm, ⟨22, _⟩ => ⟨S256x8x16, .f32⟩
  | .hbm, ⟨23, _⟩ => ⟨S256x8x32, .f32⟩
  | .hbm, ⟨24, _⟩ => ⟨S_, .f32⟩
  | .hbm, ⟨25, _⟩ => ⟨S256x8x96, .f32⟩
  | .hbm, ⟨26, _⟩ => ⟨S256x8x128, .f32⟩
  | .hbm, ⟨27, _⟩ => ⟨S256x1024, .f32⟩
  | .hbm, ⟨28, _⟩ => ⟨S256x8x128, .f32⟩
  | .hbm, ⟨29, _⟩ => ⟨S256x1024, .f32⟩
  | .hbm, ⟨30, _⟩ => ⟨S256x2048, .f32⟩
  | .hbm, ⟨31, _⟩ => ⟨S256x2048, .bf16⟩
  | .hbm, ⟨32, _⟩ => ⟨S128x8x64, .f32⟩
  | .hbm, ⟨33, _⟩ => ⟨S8x64x128, .f32⟩
  | .hbm, ⟨34, _⟩ => ⟨S4x2x64x128, .f32⟩
  | .hbm, ⟨35, _⟩ => ⟨S2x2, .i32⟩
  | .hbm, ⟨36, _⟩ => ⟨S2x2, .i32⟩
  | .hbm, ⟨37, _⟩ => ⟨S_, .i32⟩
  | .hbm, ⟨38, _⟩ => ⟨S2x2, .i32⟩
  | .hbm, ⟨39, _⟩ => ⟨S2x2, .i32⟩
  | .hbm, ⟨40, _⟩ => ⟨S2x2, .i1⟩
  | .hbm, ⟨41, _⟩ => ⟨S2x2, .f32⟩
  | .hbm, ⟨42, _⟩ => ⟨S4x2x64x1x128, .f32⟩
  | .hbm, ⟨43, _⟩ => ⟨S2x1x2x1, .f32⟩
  | .hbm, ⟨44, _⟩ => ⟨S1x2x1x2x1, .f32⟩
  | .hbm, ⟨45, _⟩ => ⟨S4x2x64x2x128, .f32⟩
  | .hbm, ⟨46, _⟩ => ⟨S4x2x64x2x128, .f32⟩
  | .hbm, ⟨47, _⟩ => ⟨S4x2x64x2x128, .f32⟩
  | .hbm, ⟨48, _⟩ => ⟨S4x128x256, .f32⟩
  | .hbm, ⟨49, _⟩ => ⟨S4x128x256, .bf16⟩
  | .hbm, ⟨50, _⟩ => ⟨S128x8, .f32⟩
  | .hbm, ⟨51, _⟩ => ⟨S128x8x64, .f32⟩
  | .hbm, ⟨52, _⟩ => ⟨S128x512, .f32⟩
  | .hbm, ⟨53, _⟩ => ⟨S8x1x1, .f32⟩
  | .hbm, ⟨54, _⟩ => ⟨S8, .f32⟩
  | .hbm, ⟨55, _⟩ => ⟨S8x64, .f32⟩
  | .hbm, ⟨56, _⟩ => ⟨S512, .f32⟩
  | .hbm, ⟨57, _⟩ => ⟨S1x512, .f32⟩
  | .hbm, ⟨58, _⟩ => ⟨S1x512, .bf16⟩
  | .hbm, ⟨59, _⟩ => ⟨S1x512, .f32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S1, .f32⟩
  | .hbm, ⟨73, _⟩ => ⟨S1x1, .f32⟩
  | .hbm, ⟨74, _⟩ => ⟨S1x16, .f32⟩
  | .hbm, ⟨75, _⟩ => ⟨S1x16, .f32⟩
  | .hbm, ⟨76, _⟩ => ⟨S1x16, .f32⟩
  | .hbm, ⟨77, _⟩ => ⟨S1x16, .f32⟩
  | .hbm, ⟨78, _⟩ => ⟨S1x16, .f32⟩
  | .hbm, ⟨79, _⟩ => ⟨S_, .f32⟩
  | .hbm, ⟨80, _⟩ => ⟨S1x16, .f32⟩
  | .hbm, ⟨81, _⟩ => ⟨S_, .f32⟩
  | .hbm, ⟨82, _⟩ => ⟨S1x96, .f32⟩
  | .hbm, ⟨83, _⟩ => ⟨S1x128, .f32⟩
  | .hbm, ⟨84, _⟩ => ⟨S1x128, .f32⟩
  | .hbm, ⟨85, _⟩ => ⟨S1x16, .f32⟩
  | .hbm, ⟨86, _⟩ => ⟨S1x128, .f32⟩
  | .hbm, ⟨87, _⟩ => ⟨S32x1024, .f32⟩
  | .hbm, ⟨88, _⟩ => ⟨S1x128, .f32⟩
  | .hbm, ⟨89, _⟩ => ⟨S1x512, .f32⟩
  | .hbm, ⟨90, _⟩ => ⟨S1x512, .f32⟩
  | .hbm, ⟨91, _⟩ => ⟨S1x256, .f32⟩
  | .hbm, ⟨92, _⟩ => ⟨S32x128, .f32⟩
  | .hbm, ⟨93, _⟩ => ⟨S32x32, .f32⟩
  | .hbm, ⟨94, _⟩ => ⟨S32x512, .bf16⟩
  | .hbm, ⟨95, _⟩ => ⟨S32x512, .f32⟩
  | .hbm, ⟨96, _⟩ => ⟨S32x1024, .f32⟩
  | .hbm, ⟨97, _⟩ => ⟨S32x1024, .f32⟩
  | .local _ .vmem, ⟨0, _⟩ => ⟨S32x1024, .f32⟩
  | .local _ .vmem, ⟨1, _⟩ => ⟨S1024x1536, .bf16⟩
  | .local _ .vmem, ⟨2, _⟩ => ⟨S1x128, .f32⟩
  | .local _ .vmem, ⟨3, _⟩ => ⟨S1x512, .f32⟩
  | .local _ .vmem, ⟨4, _⟩ => ⟨S1x512, .f32⟩
  | .local _ .vmem, ⟨5, _⟩ => ⟨S1x512, .bf16⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S256x512, .bf16⟩
  | .local _ .vmem, ⟨12, _⟩ => ⟨S256x2048, .bf16⟩
  | .local _ .vmem, ⟨13, _⟩ => ⟨S4x128x256, .bf16⟩
  | .local _ .vmem, ⟨14, _⟩ => ⟨S32x128, .f32⟩
  | .local _ .vmem, ⟨15, _⟩ => ⟨S32x32, .f32⟩
  | .local _ .vmem, ⟨16, _⟩ => ⟨S32x512, .bf16⟩
  | .local _ .vmem, ⟨17, _⟩ => ⟨S32x512, .f32⟩
  | .local _ .vmem, ⟨18, _⟩ => ⟨S32x1024, .f32⟩
  | .local _ .vmem, ⟨19, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_cst_5 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74_0 : Ref sig .tc := ⟨.hbm, 92, rfl⟩
abbrev main_v74_1 : Ref sig .tc := ⟨.hbm, 93, rfl⟩
abbrev main_v74_2 : Ref sig .tc := ⟨.hbm, 94, rfl⟩
abbrev main_v74_3 : Ref sig .tc := ⟨.hbm, 95, rfl⟩
abbrev main_v74_4 : Ref sig .tc := ⟨.hbm, 96, rfl⟩
abbrev main_v74_5 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference5Ideal.lean ====
abbrev S32x1x1024 : Shape := ⟨3, ![32, 1, 1024]⟩
abbrev S1024x1440 : Shape := ⟨2, ![1024, 1440]⟩
abbrev S256 : Shape := ⟨1, ![256]⟩
abbrev S256x8x96 : Shape := ⟨3, ![256, 8, 96]⟩
abbrev S128 : Shape := ⟨1, ![128]⟩
abbrev S128x8x128 : Shape := ⟨3, ![128, 8, 128]⟩
abbrev S512 : Shape := ⟨1, ![512]⟩
abbrev S8x128x128 : Shape := ⟨3, ![8, 128, 128]⟩
abbrev S8x128 : Shape := ⟨2, ![8, 128]⟩
abbrev S1 : Shape := ⟨1, ![1]⟩
abbrev S_ : Shape := ⟨0, ![]⟩
abbrev S32x1x1440 : Shape := ⟨3, ![32, 1, 1440]⟩
abbrev S32x1x256 : Shape := ⟨3, ![32, 1, 256]⟩
abbrev S32x1x128 : Shape := ⟨3, ![32, 1, 128]⟩
abbrev S32x1x32 : Shape := ⟨3, ![32, 1, 32]⟩
abbrev S32x1x512 : Shape := ⟨3, ![32, 1, 512]⟩
abbrev S32x1 : Shape := ⟨2, ![32, 1]⟩
abbrev S32x1x1 : Shape := ⟨3, ![32, 1, 1]⟩
abbrev S1x1x256 : Shape := ⟨3, ![1, 1, 256]⟩
abbrev S32x1x8x96 : Shape := ⟨4, ![32, 1, 8, 96]⟩
abbrev S32x1x8x64 : Shape := ⟨4, ![32, 1, 8, 64]⟩
abbrev S32x1x8x32 : Shape := ⟨4, ![32, 1, 8, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S32x1x8x16 : Shape := ⟨4, ![32, 1, 8, 16]⟩
abbrev S1x1x1x16 : Shape := ⟨4, ![1, 1, 1, 16]⟩
abbrev S1x1x128 : Shape := ⟨3, ![1, 1, 128]⟩
abbrev S32x1x16 : Shape := ⟨3, ![32, 1, 16]⟩
abbrev S128x8x64 : Shape := ⟨3, ![128, 8, 64]⟩
abbrev S8x128x32x1 : Shape := ⟨4, ![8, 128, 32, 1]⟩
abbrev S32x1x8x128 : Shape := ⟨4, ![32, 1, 8, 128]⟩
abbrev S1x1x512 : Shape := ⟨3, ![1, 1, 512]⟩
abbrev S32x128x512 : Shape := ⟨3, ![32, 128, 512]⟩
abbrev S32x1x128x8x64 : Shape := ⟨5, ![32, 1, 128, 8, 64]⟩
abbrev S128x128 : Shape := ⟨2, ![128, 128]⟩
abbrev S1x128x128 : Shape := ⟨3, ![1, 128, 128]⟩
abbrev S8x32x1x64x128 : Shape := ⟨5, ![8, 32, 1, 64, 128]⟩
abbrev S128x8 : Shape := ⟨2, ![128, 8]⟩
abbrev S1x1x128x8x1 : Shape := ⟨5, ![1, 1, 128, 8, 1]⟩
abbrev S32x128 : Shape := ⟨2, ![32, 128]⟩
abbrev S32x32 : Shape := ⟨2, ![32, 32]⟩
abbrev S32x512 : Shape := ⟨2, ![32, 512]⟩
abbrev S32x1024 : Shape := ⟨2, ![32, 1024]⟩

abbrev nBuf : Space → Nat
  | .hbm => 227
  | .vmem => 0
  | .smem => 0
  | _ => 0

abbrev hbmTy0_0 (i : Nat) : BufTy := match i % 128 with
  | 0 => ⟨S32x1x1024, .f32⟩
  | 1 => ⟨S1024x1440, .f32⟩
  | 2 => ⟨S256, .f32⟩
  | 3 => ⟨S256x8x96, .f32⟩
  | 4 => ⟨S128, .f32⟩
  | 5 => ⟨S128x8x128, .f32⟩
  | 6 => ⟨S512, .f32⟩
  | 7 => ⟨S512, .f32⟩
  | 8 => ⟨S8x128x128, .f32⟩
  | 9 => ⟨S8x128, .f32⟩
  | 10 => ⟨S1, .i32⟩
  | 11 => ⟨S_, .i32⟩
  | 12 => ⟨S1, .i32⟩
  | 13 => ⟨S1, .i32⟩
  | 14 => ⟨S32x1x1440, .f32⟩
  | 15 => ⟨S32x1x256, .f32⟩
  | 16 => ⟨S32x1x128, .f32⟩
  | 17 => ⟨S32x1x32, .f32⟩
  | 18 => ⟨S32x1x512, .f32⟩
  | 19 => ⟨S32x1x512, .f32⟩
  | 20 => ⟨S32x1x256, .f32⟩
  | 21 => ⟨S_, .f32⟩
  | 22 => ⟨S32x1, .f32⟩
  | 23 => ⟨S32x1x1, .f32⟩
  | 24 => ⟨S_, .f32⟩
  | 25 => ⟨S32x1x1, .f32⟩
  | 26 => ⟨S32x1x1, .f32⟩
  | 27 => ⟨S_, .f32⟩
  | 28 => ⟨S32x1x1, .f32⟩
  | 29 => ⟨S32x1x1, .f32⟩
  | 30 => ⟨S32x1x1, .f32⟩
  | 31 => ⟨S32x1x256, .f32⟩
  | 32 => ⟨S32x1x256, .f32⟩
  | 33 => ⟨S1x1x256, .f32⟩
  | 34 => ⟨S32x1x256, .f32⟩
  | 35 => ⟨S32x1x256, .f32⟩
  | 36 => ⟨S32x1x8x96, .f32⟩
  | 37 => ⟨S32x1x8x64, .f32⟩
  | 38 => ⟨S32x1x8x32, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S1, .f32⟩
  | 48 => ⟨S1x1, .f32⟩
  | 49 => ⟨S1x16, .f32⟩
  | 50 => ⟨S1x16, .f32⟩
  | 51 => ⟨S1x16, .f32⟩
  | 52 => ⟨S1x16, .f32⟩
  | 53 => ⟨S1x1x16, .f32⟩
  | 54 => ⟨S1x16, .f32⟩
  | 55 => ⟨S1x1x16, .f32⟩
  | 56 => ⟨S32x1x8x16, .f32⟩
  | 57 => ⟨S32x1x8x16, .f32⟩
  | 58 => ⟨S1x1x1x16, .f32⟩
  | 59 => ⟨S32x1x8x16, .f32⟩
  | 60 => ⟨S32x1x8x16, .f32⟩
  | 61 => ⟨S1x1x1x16, .f32⟩
  | 62 => ⟨S32x1x8x16, .f32⟩
  | 63 => ⟨S32x1x8x16, .f32⟩
  | 64 => ⟨S32x1x8x16, .f32⟩
  | 65 => ⟨S1x1x1x16, .f32⟩
  | 66 => ⟨S32x1x8x16, .f32⟩
  | 67 => ⟨S32x1x8x16, .f32⟩
  | 68 => ⟨S1x1x1x16, .f32⟩
  | 69 => ⟨S32x1x8x16, .f32⟩
  | 70 => ⟨S32x1x8x16, .f32⟩
  | 71 => ⟨S32x1x8x16, .f32⟩
  | 72 => ⟨S32x1x8x32, .f32⟩
  | 73 => ⟨S32x1x128, .f32⟩
  | 74 => ⟨S_, .f32⟩
  | 75 => ⟨S32x1, .f32⟩
  | 76 => ⟨S32x1x1, .f32⟩
  | 77 => ⟨S_, .f32⟩
  | 78 => ⟨S32x1x1, .f32⟩
  | 79 => ⟨S32x1x1, .f32⟩
  | 80 => ⟨S_, .f32⟩
  | 81 => ⟨S32x1x1, .f32⟩
  | 82 => ⟨S32x1x1, .f32⟩
  | 83 => ⟨S32x1x1, .f32⟩
  | 84 => ⟨S32x1x128, .f32⟩
  | 85 => ⟨S32x1x128, .f32⟩
  | 86 => ⟨S1x1x128, .f32⟩
  | 87 => ⟨S32x1x128, .f32⟩
  | 88 => ⟨S32x1x128, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S1, .f32⟩
  | 98 => ⟨S1x1, .f32⟩
  | 99 => ⟨S1x16, .f32⟩
  | 100 => ⟨S1x16, .f32⟩
  | 101 => ⟨S1x16, .f32⟩
  | 102 => ⟨S1x16, .f32⟩
  | 103 => ⟨S1x16, .f32⟩
  | 104 => ⟨S32x1x16, .f32⟩
  | 105 => ⟨S32x1x16, .f32⟩
  | 106 => ⟨S1x1x16, .f32⟩
  | 107 => ⟨S32x1x16, .f32⟩
  | 108 => ⟨S32x1x16, .f32⟩
  | 109 => ⟨S1x1x16, .f32⟩
  | 110 => ⟨S32x1x16, .f32⟩
  | 111 => ⟨S32x1x16, .f32⟩
  | 112 => ⟨S32x1x16, .f32⟩
  | 113 => ⟨S1x1x16, .f32⟩
  | 114 => ⟨S32x1x16, .f32⟩
  | 115 => ⟨S32x1x16, .f32⟩
  | 116 => ⟨S1x1x16, .f32⟩
  | 117 => ⟨S32x1x16, .f32⟩
  | 118 => ⟨S32x1x16, .f32⟩
  | 119 => ⟨S32x1x16, .f32⟩
  | 120 => ⟨S32x1x32, .f32⟩
  | 121 => ⟨S128x8x64, .f32⟩
  | 122 => ⟨S8x128x32x1, .f32⟩
  | 123 => ⟨S32x1x8x128, .f32⟩
  | 124 => ⟨S32x1x512, .f32⟩
  | 125 => ⟨S32x1x512, .f32⟩
  | 126 => ⟨S_, .f32⟩
  | 127 => ⟨S32x1x512, .f32⟩
  | _ => ⟨S32x1x1024, .f32⟩

abbrev hbmTy0_1 (i : Nat) : BufTy := match i % 128 with
  | 0 => ⟨S32x1x512, .f32⟩
  | 1 => ⟨S32x1x512, .f32⟩
  | 2 => ⟨S_, .f32⟩
  | 3 => ⟨S32x1x512, .f32⟩
  | 4 => ⟨S32x1x512, .f32⟩
  | 5 => ⟨S32x1x512, .f32⟩
  | 6 => ⟨S_, .f32⟩
  | 7 => ⟨S32x1x512, .f32⟩
  | 8 => ⟨S32x1x512, .f32⟩
  | 9 => ⟨S_, .f32⟩
  | 10 => ⟨S32x1x512, .f32⟩
  | 11 => ⟨S32x1x512, .f32⟩
  | 12 => ⟨S32x1x512, .f32⟩
  | 13 => ⟨S_, .f32⟩
  | 14 => ⟨S32x1, .f32⟩
  | 15 => ⟨S32x1x1, .f32⟩
  | 16 => ⟨S_, .f32⟩
  | 17 => ⟨S32x1x1, .f32⟩
  | 18 => ⟨S32x1x1, .f32⟩
  | 19 => ⟨S32x1x512, .f32⟩
  | 20 => ⟨S32x1x512, .f32⟩
  | 21 => ⟨S32x1x512, .f32⟩
  | 22 => ⟨S_, .f32⟩
  | 23 => ⟨S32x1, .f32⟩
  | 24 => ⟨S32x1x1, .f32⟩
  | 25 => ⟨S_, .f32⟩
  | 26 => ⟨S32x1x1, .f32⟩
  | 27 => ⟨S32x1x1, .f32⟩
  | 28 => ⟨S32x1x512, .f32⟩
  | 29 => ⟨S32x1x512, .f32⟩
  | 30 => ⟨S_, .f32⟩
  | 31 => ⟨S32x1x1, .f32⟩
  | 32 => ⟨S32x1x1, .f32⟩
  | 33 => ⟨S32x1x1, .f32⟩
  | 34 => ⟨S32x1x512, .f32⟩
  | 35 => ⟨S32x1x512, .f32⟩
  | 36 => ⟨S1x1x512, .f32⟩
  | 37 => ⟨S32x1x512, .f32⟩
  | 38 => ⟨S32x1x512, .f32⟩
  | 39 => ⟨S1x1x512, .f32⟩
  | 40 => ⟨S32x1x512, .f32⟩
  | 41 => ⟨S32x1x512, .f32⟩
  | 42 => ⟨S32x1x512, .f32⟩
  | 43 => ⟨S32x1x512, .f32⟩
  | 44 => ⟨S_, .f32⟩
  | 45 => ⟨S32x1x512, .f32⟩
  | 46 => ⟨S32x1x512, .f32⟩
  | 47 => ⟨S32x1x512, .f32⟩
  | 48 => ⟨S_, .f32⟩
  | 49 => ⟨S32x1x512, .f32⟩
  | 50 => ⟨S32x1x512, .f32⟩
  | 51 => ⟨S32x1x512, .f32⟩
  | 52 => ⟨S_, .f32⟩
  | 53 => ⟨S32x1x512, .f32⟩
  | 54 => ⟨S32x1x512, .f32⟩
  | 55 => ⟨S_, .f32⟩
  | 56 => ⟨S32x1x512, .f32⟩
  | 57 => ⟨S32x1x512, .f32⟩
  | 58 => ⟨S32x1x512, .f32⟩
  | 59 => ⟨S_, .i32⟩
  | 60 => ⟨S_, .f32⟩
  | 61 => ⟨S32x128x512, .f32⟩
  | 62 => ⟨S32x1x128x8x64, .f32⟩
  | 63 => ⟨S_, .i1⟩
  | 64 => ⟨S128x128, .i1⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .i1⟩
  | 72 => ⟨S128x128, .i1⟩
  | 73 => ⟨S128x128, .i1⟩
  | 74 => ⟨S1x128x128, .i1⟩
  | 75 => ⟨S_, .i32⟩
  | 76 => ⟨S_, .f32⟩
  | 77 => ⟨S8x128x128, .i1⟩
  | 78 => ⟨S8x128x128, .f32⟩
  | 79 => ⟨S8x128x128, .f32⟩
  | 80 => ⟨S8x32x1x64x128, .f32⟩
  | 81 => ⟨S32x1x128x8x64, .f32⟩
  | 82 => ⟨S128x8, .f32⟩
  | 83 => ⟨S1x1x128x8x1, .f32⟩
  | 84 => ⟨S32x1x128x8x64, .f32⟩
  | 85 => ⟨S32x1x128x8x64, .f32⟩
  | 86 => ⟨S32x128x512, .f32⟩
  | 87 => ⟨S32x1x512, .f32⟩
  | 88 => ⟨S32x1x512, .f32⟩
  | 89 => ⟨S_, .i32⟩
  | 90 => ⟨S_, .f32⟩
  | 91 => ⟨S32x1x8x128, .f32⟩
  | 92 => ⟨S32x128, .f32⟩
  | 93 => ⟨S32x32, .f32⟩
  | 94 => ⟨S32x512, .f32⟩
  | 95 => ⟨S32x512, .bf16⟩
  | 96 => ⟨S32x512, .f32⟩
  | 97 => ⟨S32x1024, .f32⟩
  | 98 => ⟨S32x1024, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_7 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_9 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_10 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_11 : Ref sig .tc := ⟨.hbm, 134, rfl⟩
abbrev main_v111 : Ref sig .tc := ⟨.hbm, 135, rfl⟩
abbrev main_v112 : Ref sig .tc := ⟨.hbm, 136, rfl⟩
abbrev main_cst_12 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_13 : Ref sig .tc := ⟨.hbm, 141, rfl⟩
abbrev main_v116 : Ref sig .tc := ⟨.hbm, 142, rfl⟩
abbrev main_v117 : Ref sig .tc := ⟨.hbm, 143, rfl⟩
abbrev main_cst_14 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_15 : Ref sig .tc := ⟨.hbm, 150, rfl⟩
abbrev main_v123 : Ref sig .tc := ⟨.hbm, 151, rfl⟩
abbrev main_v124 : Ref sig .tc := ⟨.hbm, 152, rfl⟩
abbrev main_cst_16 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_17 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_18 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_19 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_cst_20 : Ref sig .tc := ⟨.hbm, 180, rfl⟩
abbrev main_v148 : Ref sig .tc := ⟨.hbm, 181, rfl⟩
abbrev main_v149 : Ref sig .tc := ⟨.hbm, 182, rfl⟩
abbrev main_cst_21 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_c_22 : Ref sig .tc := ⟨.hbm, 187, rfl⟩
abbrev main_call0_v0 : Ref sig .tc := ⟨.hbm, 188, rfl⟩
abbrev main_v153 : Ref sig .tc := ⟨.hbm, 189, rfl⟩
abbrev main_v154 : Ref sig .tc := ⟨.hbm, 190, rfl⟩
abbrev main_c_23 : Ref sig .tc := ⟨.hbm, 191, rfl⟩
abbrev main_v155 : Ref sig .tc := ⟨.hbm, 192, rfl⟩
abbrev main_call1_v0 : Ref sig .tc := ⟨.hbm, 193, rfl⟩
abbrev main_call1_c : Ref sig .tc := ⟨.hbm, 194, rfl⟩
abbrev main_call1_v1 : Ref sig .tc := ⟨.hbm, 195, rfl⟩
abbrev main_call1_v2 : Ref sig .tc := ⟨.hbm, 196, rfl⟩
abbrev main_call1_v3 : Ref sig .tc := ⟨.hbm, 197, rfl⟩
abbrev main_call1_v4 : Ref sig .tc := ⟨.hbm, 198, rfl⟩
abbrev main_call1_c_0 : Ref sig .tc := ⟨.hbm, 199, rfl⟩
abbrev main_call1_v5 : Ref sig .tc := ⟨.hbm, 200, rfl⟩
abbrev main_v156 : Ref sig .tc := ⟨.hbm, 201, rfl⟩
abbrev main_v157 : Ref sig .tc := ⟨.hbm, 202, rfl⟩
abbrev main_c_24 : Ref sig .tc := ⟨.hbm, 203, rfl⟩
abbrev main_call2_v0 : Ref sig .tc := ⟨.hbm, 204, rfl⟩
abbrev main_call2_v1 : Ref sig .tc := ⟨.hbm, 205, rfl⟩
abbrev main_call2_v2 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_c_25 : Ref sig .tc := ⟨.hbm, 217, rfl⟩
abbrev main_call3_v0 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩

abbrev nD : Nat := 1
abbrev τ : Topo := Topo.v7x

variable {F : FTy → Type} [FloatOps F]
-- ==== Proof.MixMath.lean ====
/- A row of the feed-forward block: add the mixed activations to the residual, normalise, apply the squared-ReLU
   network, normalise again. Everything is a function of one row and of the weights, over the extended reals. -/
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators
namespace Cert.Mix

/-- The residual's scale, the programs' literal for √2. -/
abbrev s2 : EReal := Ideal.ofBits FTy.f32 0x3FB504F3#32

/-- The mean of a row of 1024 entries. -/
def mean (v : Fin 1024 → EReal) : EReal := Ideal.div (∑ k, v k) (Ideal.ofBits FTy.f32 0x44800000#32)

/-- A row less its mean. -/
def cen (v : Fin 1024 → EReal) (j : Fin 1024) : EReal := v j - mean v

/-- One over the root of a centred row's mean square. -/
def rs (c : Fin 1024 → EReal) : EReal :=
  Ideal.rsqrt (mean (fun k => c k * c k) + Ideal.ofBits FTy.f32 0x3727C5AC#32)

/-- A centred row normalised, scaled and shifted. -/
def lnC (g b c : Fin 1024 → EReal) (j : Fin 1024) : EReal := c j * rs c * g j + b j

/-- Layer normalisation of a row. -/
def ln (g b v : Fin 1024 → EReal) (j : Fin 1024) : EReal := lnC g b (cen v) j

/-- An array of two axes as rows. -/
def mat {n p : ℕ} (v : (⟨2, ![n, p]⟩ : Shape).Idx → EReal) (r : Fin n) : Fin p → EReal := fun k => v (ix2 r k)

/-- A row times a matrix. -/
def dot {n p : ℕ} (y : Fin n → EReal) (w : Fin n → Fin p → EReal) (j : Fin p) : EReal := ∑ k, y k * w k j

/-- A squared-ReLU network with `p` hidden units. -/
def ffn {p : ℕ} (w1 : Fin 1024 → Fin p → EReal) (w2 : Fin p → Fin 1024 → EReal) (y : Fin 1024 → EReal)
    (j : Fin 1024) : EReal :=
  ∑ f, max (dot y w1 f) 0 * max (dot y w1 f) 0 * w2 f j

/-- The second half of the block, from the first normalised row. -/
def tail (g b : Fin 1024 → EReal) (w1 : Fin 1024 → Fin 4096 → EReal) (w2 : Fin 4096 → Fin 1024 → EReal)
    (y : Fin 1024 → EReal) (j : Fin 1024) : EReal := ln g b (fun k => s2 * y k + ffn w1 w2 y k) j

/-- The whole block on one row: residual `x`, mixed activations `d`. -/
def block (g1 b1 g2 b2 : Fin 1024 → EReal) (w1 : Fin 1024 → Fin 4096 → EReal) (w2 : Fin 4096 → Fin 1024 → EReal)
    (x d : Fin 1024 → EReal) (j : Fin 1024) : EReal := tail g2 b2 w1 w2 (ln g1 b1 fun k => s2 * x k + d k) j

/-- The `o`-th quarter of the hidden units. -/
abbrev cols (w1 : Fin 1024 → Fin 4096 → EReal) (o : ℕ) (h : o + 1024 ≤ 4096) : Fin 1024 → Fin 1024 → EReal :=
  fun k f => w1 k ⟨o + f, by omega⟩
abbrev rows (w2 : Fin 4096 → Fin 1024 → EReal) (o : ℕ) (h : o + 1024 ≤ 4096) : Fin 1024 → Fin 1024 → EReal :=
  fun f j => w2 ⟨o + f, by omega⟩ j

/-- A sum of 4096 terms is the sum of its quarters. -/
theorem sum_quarters (f : Fin 4096 → EReal) : (∑ i, f i)
    = (((∑ i : Fin 1024, f ⟨0 + i, by omega⟩) + ∑ i : Fin 1024, f ⟨1024 + i, by omega⟩)
      + ∑ i : Fin 1024, f ⟨2048 + i, by omega⟩) + ∑ i : Fin 1024, f ⟨3072 + i, by omega⟩ := by
  have h1 := Fin.sum_univ_add (a := 3072) (b := 1024) f
  have h2 := Fin.sum_univ_add (a := 2048) (b := 1024) (fun i : Fin 3072 => f (Fin.castAdd 1024 i))
  have h3 := Fin.sum_univ_add (a := 1024) (b := 1024) (fun i : Fin 2048 => f (Fin.castAdd 1024 (Fin.castAdd 1024 i)))
  refine h1.trans (congrArg₂ (· + ·) (h2.trans (congrArg₂ (· + ·) (h3.trans (congrArg₂ (· + ·) ?_ rfl)) rfl)) rfl)
  refine Finset.sum_congr rfl fun i _ => congrArg f (Fin.ext ?_)
  show (i : ℕ) = 0 + i
  omega

/-- The network computed a quarter of the hidden units at a time. -/
theorem ffn_quarters (w1 : Fin 1024 → Fin 4096 → EReal) (w2 : Fin 4096 → Fin 1024 → EReal) (y : Fin 1024 → EReal)
    (j : Fin 1024) : ffn (cols w1 0 (by omega)) (rows w2 0 (by omega)) y j
      + ffn (cols w1 1024 (by omega)) (rows w2 1024 (by omega)) y j
      + ffn (cols w1 2048 (by omega)) (rows w2 2048 (by omega)) y j
      + ffn (cols w1 3072 (by omega)) (rows w2 3072 (by omega)) y j = ffn w1 w2 y j :=
  (sum_quarters fun f => max (dot y w1 f) 0 * max (dot y w1 f) 0 * w2 f j).symm

/-- The first and the last 512 rows of a matrix. -/
def top (w : Fin 1024 → Fin 1024 → EReal) : Fin 512 → Fin 1024 → EReal := fun k j => w ⟨k, by omega⟩ j
def bot (w : Fin 1024 → Fin 1024 → EReal) : Fin 512 → Fin 1024 → EReal := fun k j => w ⟨512 + k, by omega⟩ j

/-- An entry of a tile of 256 rows that begins at row `o`. -/
theorem at_row (P : (⟨2, ![256, 1024]⟩ : Shape).Idx → EReal) (S : Fin 1024 → Fin 1024 → EReal) (o : ℕ) (ho : o ≤ 768)
    (t : ∀ r : Fin 256, mat P r = S ⟨o + r, by omega⟩) (x : (⟨2, ![256, 1024]⟩ : Shape).Idx) (R j : Fin 1024)
    (h0 : (R : ℕ) = o + (x 0 : Fin 256)) (h1 : (j : ℕ) = (x 1 : Fin 1024)) : P x = S R j := by
  idx_vars x
  exact (congrFun (t x0) x1).trans (congrArg₂ S (Fin.ext h0.symm) (Fin.ext h1.symm))

/-- An array of one axis as a row. -/
def vec (v : (⟨1, ![1024]⟩ : Shape).Idx → EReal) : Fin 1024 → EReal := fun k => v (ix1 k)

/-- The block on every row: residual `x`, mixed activations `d`. -/
def mix {n : ℕ} (x : (⟨2, ![n, 1024]⟩ : Shape).Idx → EReal) (d : Fin n → Fin 1024 → EReal)
    (g1 b1 g2 b2 : (⟨1, ![1024]⟩ : Shape).Idx → EReal) (w1 : (⟨2, ![1024, 4096]⟩ : Shape).Idx → EReal)
    (w2 : (⟨2, ![4096, 1024]⟩ : Shape).Idx → EReal) : (⟨2, ![n, 1024]⟩ : Shape).Idx → EReal := fun i =>
  block (vec g1) (vec b1) (vec g2) (vec b2) (mat w1) (mat w2) (mat x (i 0)) (d (i 0)) (i 1)

end Cert.Mix

end
-- ==== Proof.MixOddPay.lean ====
/- The values that the kernel of `KernelIdeal` binds, row by row, as functions of the values they are made from. -/
module

public import proofs.«01_k».proof.Proof.Gen.KernelIdeal.Value
public import proofs.«01_k».proof.Proof.MixMath

@[expose] public section

set_option maxRecDepth 16384

noncomputable section

open Idealize.ShloMosaic Idealize.ShloMosaic.TcCoe Idealize.SL.Sem
open Idealize.ShloMosaic.Pipeline (Dat)
open scoped BigOperators

open Cert.KernelIdeal Cert.KernelIdeal.Gen Cert.KernelIdeal.Value

namespace Cert.Mix.Odd

variable (x y d f : FVec Ideal S256x1024 .f32) (z : FVec Ideal S256x1024 .bf16) (g b : FVec Ideal S1x1024 .f32)
  (a a' : Vec Ideal S256x512 .bf16) (w w' : Vec Ideal S512x1024 .bf16) (u v : Vec Ideal S1024x1024 .bf16) (r : Fin 256)

theorem p6 : k0_pay6 g = g := by
  funext i; idx_vars i; pointwise [k0_pay6]
theorem p7 : k0_pay7 g = g := by
  funext i; idx_vars i; pointwise [k0_pay7]
theorem p12 : k0_pay12 g = g := by
  funext i; idx_vars i; pointwise [k0_pay12]
theorem p13 : k0_pay13 g = g := by
  funext i; idx_vars i; pointwise [k0_pay13]
theorem p42 : k0_pay42 g = g := by
  funext i; idx_vars i; pointwise [k0_pay42]
theorem p43 : k0_pay43 g = g := by
  funext i; idx_vars i; pointwise [k0_pay43]
theorem p46 : k0_pay46 g = g := by
  funext i; idx_vars i; pointwise [k0_pay46]
theorem p47 : k0_pay47 g = g := by
  funext i; idx_vars i; pointwise [k0_pay47]
theorem p16 : k0_pay16 y = y := by
  funext i; idx_vars i; pointwise [k0_pay16]
theorem p17 : k0_pay17 y = y := by
  funext i; idx_vars i; pointwise [k0_pay17]
theorem p18 : k0_pay18 y = y := by
  funext i; idx_vars i; pointwise [k0_pay18]
theorem p22 : k0_pay22 u = u := by
  funext i; idx_vars i; pointwise [k0_pay22]
theorem p3 : mat (k0_pay3 a w) r = dot (mat a r) (mat w) := by
  funext j; unfold mat; pointwise [k0_pay3] <;> rfl
theorem p4 : mat (k0_pay4 a w) r = dot (mat a r) (mat w) := by
  funext j; unfold mat; pointwise [k0_pay4] <;> rfl
theorem p5 : mat (k0_pay5 a w) r = dot (mat a r) (mat w) := by
  funext j; unfold mat; pointwise [k0_pay5] <;> rfl
theorem p8 : mat (k0_pay8 a w x) r = cen (fun k => s2 * mat x r k + dot (mat a r) (mat w) k) := by
  funext j; unfold mat; pointwise [k0_pay8] <;> rfl
theorem p9 : mat (k0_pay9 g b y) r = lnC (mat g 0) (mat b 0) (mat y r) := by
  funext j; unfold mat; pointwise [k0_pay9] <;> rfl
theorem p15 : mat (k0_pay15 g b y) r = lnC (mat g 0) (mat b 0) (mat y r) := by
  funext j; unfold mat; pointwise [k0_pay15] <;> rfl
theorem p19 : mat (k0_pay19 g b y) r = lnC (mat g 0) (mat b 0) (mat y r) := by
  funext j; unfold mat; pointwise [k0_pay19, k0_pay15] <;> rfl
theorem p10 : mat (k0_pay10 d x g b) r = ln (mat g 0) (mat b 0) (fun k => s2 * mat x r k + mat d r k) := by
  funext j; unfold mat; pointwise [k0_pay10] <;> rfl
theorem p11 : mat (k0_pay11 d x g b) r = ln (mat g 0) (mat b 0) (fun k => s2 * mat x r k + mat d r k) := by
  funext j; unfold mat; pointwise [k0_pay11] <;> rfl
theorem p14 : mat (k0_pay14 d x) r = cen (fun k => s2 * mat x r k + mat d r k) := by
  funext j; unfold mat; pointwise [k0_pay14] <;> rfl
theorem p20 : mat (k0_pay20 y u v) r = ffn (mat u) (mat v) (mat y r) := by
  funext j; unfold mat; pointwise [k0_pay20, k0_pay16] <;> rfl
theorem p21 : mat (k0_pay21 y u v) r = ffn (mat u) (mat v) (mat y r) := by
  funext j; unfold mat; pointwise [k0_pay21, k0_pay17] <;> rfl
theorem p23 : mat (k0_pay23 z u (constant S256x1024 .f32 0x00000000#32) v) r = ffn (mat u) (mat v) (mat z r) := by
  funext j; unfold mat; pointwise [k0_pay23] <;> rfl
theorem p24 : mat (k0_pay24 z u v) r = ffn (mat u) (mat v) (mat z r) := by
  funext j; unfold mat; pointwise [k0_pay24] <;> rfl
theorem p25 : mat (k0_pay25 z f u v) r = mat f r + ffn (mat u) (mat v) (mat z r) := by
  funext j; unfold mat; pointwise [k0_pay25] <;> rfl
theorem p28 : mat (k0_pay28 z f u v) r = mat f r + ffn (mat u) (mat v) (mat z r) := by
  funext j; unfold mat; pointwise [k0_pay28] <;> rfl
theorem p29 : mat (k0_pay29 z f u v) r = mat f r + ffn (mat u) (mat v) (mat z r) := by
  funext j; unfold mat; pointwise [k0_pay29] <;> rfl
theorem p30 : mat (k0_pay30 z f u v) r = mat f r + ffn (mat u) (mat v) (mat z r) := by
  funext j; unfold mat; pointwise [k0_pay30] <;> rfl
theorem p31 : mat (k0_pay31 z f u v) r = mat f r + ffn (mat u) (mat v) (mat z r) := by
  funext j; unfold mat; pointwise [k0_pay31] <;> rfl
theorem p32 : mat (k0_pay32 z f u v) r = mat f r + ffn (mat u) (mat v) (mat z r) := by
  funext j; unfold mat; pointwise [k0_pay32] <;> rfl
theorem p33 : mat (k0_pay33 z f u v) r = mat f r + ffn (mat u) (mat v) (mat z r) := by
  funext j; unfold mat; pointwise [k0_pay33] <;> rfl
theorem p36 : mat (k0_pay36 z f u v) r = mat f r + ffn (mat u) (mat v) (mat z r) := by
  funext j; unfold mat; pointwise [k0_pay36] <;> rfl
theorem p37 : mat (k0_pay37 z f u v) r = mat f r + ffn (mat u) (mat v) (mat z r) := by
  funext j; unfold mat; pointwise [k0_pay37] <;> rfl
theorem p26 : mat (k0_pay26 z u) r = fun k => max (dot (mat z r) (mat u) k) 0 * max (dot (mat z r) (mat u) k) 0 := by
  funext j; unfold mat; pointwise [k0_pay26] <;> rfl
theorem p38 : mat (k0_pay38 z u) r = fun k => max (dot (mat z r) (mat u) k) 0 * max (dot (mat z r) (mat u) k) 0 := by
  funext j; unfold mat; pointwise [k0_pay38] <;> rfl
theorem p27 : mat (k0_pay27 f z v) r = mat f r + dot (mat z r) (mat v) := by
  funext j; unfold mat; pointwise [k0_pay27] <;> rfl
theorem p39 : mat (k0_pay39 f z v) r = mat f r + dot (mat z r) (mat v) := by
  funext j; unfold mat; pointwise [k0_pay39] <;> rfl
theorem p34 : mat (k0_pay34 z u) r = dot (mat z r) (mat u) := by
  funext j; unfold mat; pointwise [k0_pay34] <;> rfl
theorem p35 : mat (k0_pay35 f y (Scalar.ofBits .f32 0x00000000#32) v) r = mat f r + dot (fun k => max (mat y r k) 0 * max (mat y r k) 0) (mat v) := by
  funext j; unfold mat; pointwise [k0_pay35] <;> rfl
theorem p2 : mat (k0_pay2 y f g b) r = ln (mat g 0) (mat b 0) (fun k => s2 * mat y r k + mat f r k) := by
  funext j; unfold mat; pointwise [k0_pay2] <;> rfl
theorem p40 : mat (k0_pay40 y f g b) r = ln (mat g 0) (mat b 0) (fun k => s2 * mat y r k + mat f r k) := by
  funext j; unfold mat; pointwise [k0_pay40] <;> rfl
theorem p41 : mat (k0_pay41 y f) r = fun k => s2 * mat y r k + mat f r k := by
  funext j; unfold mat; pointwise [k0_pay41] <;> rfl
theorem p48 : mat (k0_pay48 y f) r = fun j => cen (fun k => s2 * mat y r k + mat f r k) j * rs (cen (fun k => s2 * mat y r k + mat f r k)) := by
  funext j; unfold mat; pointwise [k0_pay48] <;> rfl
theorem p1 : mat (k0_pay1 g b y) r = fun j => mat y r j * mat g 0 j + mat b 0 j := by
  funext j; unfold mat; pointwise [k0_pay1] <;> rfl

/-- The last normalisation of the second tile, whose row sums are bound apart. -/
theorem p45 : mat (k0_pay45 (k0_pay41 y f) g b (k0_pay44 y f)) r = ln (mat g 0) (mat b 0) (fun k => s2 * mat y r k + mat f r k) := by
  funext j; unfold mat; pointwise [k0_pay45, k0_pay44, k0_pay41]; rfl

/-! ### What the kernel loads -/

theorem l0 (x1 : Vec Ideal S1024x512 .bf16) : mat (View.ld x1 r0_0) r = mat x1 ⟨0 + r, by omega⟩ := by
  funext j; unfold mat; pointwise; try simp only [Nat.zero_add]
theorem l2 (x1 : Vec Ideal S1024x512 .bf16) : mat (View.ld x1 r0_2) r = mat x1 ⟨256 + r, by omega⟩ := by
  funext j; unfold mat; pointwise; try simp only [Nat.zero_add]
theorem l3 (x1 : Vec Ideal S1024x512 .bf16) : mat (View.ld x1 r0_3) r = mat x1 ⟨512 + r, by omega⟩ := by
  funext j; unfold mat; pointwise; try simp only [Nat.zero_add]
theorem l4 (x1 : Vec Ideal S1024x512 .bf16) : mat (View.ld x1 r0_4) r = mat x1 ⟨768 + r, by omega⟩ := by
  funext j; unfold mat; pointwise; try simp only [Nat.zero_add]
theorem l5 (x0 : Vec Ideal S1024x1024 .f32) : mat (View.ld x0 r0_5) r = mat x0 ⟨0 + r, by omega⟩ := by
  funext j; unfold mat; pointwise; try simp only [Nat.zero_add]
theorem l7 (x0 : Vec Ideal S1024x1024 .f32) : mat (View.ld x0 r0_7) r = mat x0 ⟨256 + r, by omega⟩ := by
  funext j; unfold mat; pointwise; try simp only [Nat.zero_add]
theorem l8 (x0 : Vec Ideal S1024x1024 .f32) : mat (View.ld x0 r0_8) r = mat x0 ⟨512 + r, by omega⟩ := by
  funext j; unfold mat; pointwise; try simp only [Nat.zero_add]
theorem l9 (x0 : Vec Ideal S1024x1024 .f32) : mat (View.ld x0 r0_9) r = mat x0 ⟨768 + r, by omega⟩ := by
  funext j; unfold mat; pointwise; try simp only [Nat.zero_add]
theorem l1 (x2 : Vec Ideal S512x1024 .bf16) : View.ld x2 r0_1 = x2 := by
  funext i; idx_vars i; pointwise
theorem l6 (x3 : Vec Ideal S1x1024 .f32) : View.ld x3 r0_6 = x3 := by
  funext i; idx_vars i; rw [Subsingleton.elim i0 0]; pointwise
theorem l10 (x7 : Vec Ideal S1024x4096 .bf16) : mat (View.ld x7 r0_10) = cols (mat x7) 0 (by omega) := by
  funext k j; unfold mat; pointwise; try simp only [cols, rows, Nat.zero_add]
theorem l12 (x7 : Vec Ideal S1024x4096 .bf16) : mat (View.ld x7 r0_12) = cols (mat x7) 1024 (by omega) := by
  funext k j; unfold mat; pointwise; try simp only [cols, rows, Nat.zero_add]
theorem l14 (x7 : Vec Ideal S1024x4096 .bf16) : mat (View.ld x7 r0_14) = cols (mat x7) 2048 (by omega) := by
  funext k j; unfold mat; pointwise; try simp only [cols, rows, Nat.zero_add]
theorem l16 (x7 : Vec Ideal S1024x4096 .bf16) : mat (View.ld x7 r0_16) = cols (mat x7) 3072 (by omega) := by
  funext k j; unfold mat; pointwise; try simp only [cols, rows, Nat.zero_add]
theorem l11 (x8 : Vec Ideal S4096x1024 .bf16) : mat (View.ld x8 r0_11) = rows (mat x8) 0 (by omega) := by
  funext k j; unfold mat; pointwise; try simp only [cols, rows, Nat.zero_add]
theorem l13 (x8 : Vec Ideal S4096x1024 .bf16) : mat (View.ld x8 r0_13) = rows (mat x8) 1024 (by omega) := by
  funext k j; unfold mat; pointwise; try simp only [cols, rows, Nat.zero_add]
theorem l15 (x8 : Vec Ideal S4096x1024 .bf16) : mat (View.ld x8 r0_15) = rows (mat x8) 2048 (by omega) := by
  funext k j; unfold mat; pointwise; try simp only [cols, rows, Nat.zero_add]
theorem l17 (x8 : Vec Ideal S4096x1024 .bf16) : mat (View.ld x8 r0_17) = rows (mat x8) 3072 (by omega) := by
  funext k j; unfold mat; pointwise; try simp only [cols, rows, Nat.zero_add]

end Cert.Mix.Odd

end
-- ==== Proof.MixOddOut.lean ====
/- The kernel's stored block: each row is the feed-forward block of the same row of its inputs. -/
module

public import proofs.«01_k».proof.Proof.MixOddPay

@[expose] public section

set_option maxRecDepth 16384

noncomputable section

open Idealize.ShloMosaic Idealize.ShloMosaic.TcCoe Idealize.SL.Sem
open Idealize.ShloMosaic.Pipeline (Dat)
open scoped BigOperators

open Cert.KernelIdeal Cert.KernelIdeal.Gen Cert.KernelIdeal.Value

namespace Cert.Mix.Odd

variable (x0 : Vec Ideal S1024x1024 .f32) (x1 : Vec Ideal S1024x512 .bf16) (x2 : Vec Ideal S512x1024 .bf16)
  (x3 x4 x5 x6 : Vec Ideal S1x1024 .f32) (x7 : Vec Ideal S1024x4096 .bf16) (x8 : Vec Ideal S4096x1024 .bf16)

/-- A row after the first normalisation. -/
def yRow (R : Fin 1024) : Fin 1024 → EReal :=
  ln (mat x3 0) (mat x4 0) (fun k => s2 * mat x0 R k + dot (mat x1 R) (mat x2) k)

/-- A row of the block. -/
def outRow (R : Fin 1024) : Fin 1024 → EReal :=
  block (mat x3 0) (mat x4 0) (mat x5 0) (mat x6 0) (mat x7) (mat x8) (mat x0 R) (dot (mat x1 R) (mat x2))

/-- The last normalisation of the normalised row plus the network is the block. -/
theorem out_of (R : Fin 1024) (y f : Fin 1024 → EReal) (hy : y = yRow x0 x1 x2 x3 x4 R)
    (hf : f = ffn (mat x7) (mat x8) y) :
    ln (mat x5 0) (mat x6 0) (fun k => s2 * y k + f k) = outRow x0 x1 x2 x3 x4 x5 x6 x7 x8 R := by
  subst hf hy; rfl

/-! ### Rows 0 to 255 -/

theorem y0 (r : Fin 256) : mat (k0_pay49 x0 x1 x2 x3 x4 x5 x6 x7 x8) r = yRow x0 x1 x2 x3 x4 ⟨0 + r, by omega⟩ := by
  simp only [k0_pay49, p9, p8, p6, p7, l0, l1, l5, l6]; rfl

theorem t0 (r : Fin 256) : mat (k0_pay40 (k0_pay49 x0 x1 x2 x3 x4 x5 x6 x7 x8) (k0_pay35 (k0_pay30 (k0_pay55 x0 x1 x2 x3 x4 x5 x6 x7 x8) (k0_pay25 (k0_pay55 x0 x1 x2 x3 x4 x5 x6 x7 x8) (k0_pay20 (k0_pay49 x0 x1 x2 x3 x4 x5 x6 x7 x8) (View.ld x7 r0_10) (View.ld x8 r0_11)) (View.ld x7 r0_12) (View.ld x8 r0_13)) (View.ld x7 r0_14) (View.ld x8 r0_15)) (k0_pay34 (k0_pay55 x0 x1 x2 x3 x4 x5 x6 x7 x8) (View.ld x7 r0_16)) (Scalar.ofBits .f32 0x00000000#32) (View.ld x8 r0_17)) (View.ld x5 r0_6) (View.ld x6 r0_6)) r
    = outRow x0 x1 x2 x3 x4 x5 x6 x7 x8 ⟨0 + r, by omega⟩ := by
  simp only [p40, l6]
  refine out_of x0 x1 x2 x3 x4 x5 x6 x7 x8 _ (mat (k0_pay49 x0 x1 x2 x3 x4 x5 x6 x7 x8) r) _ (y0 x0 x1 x2 x3 x4 x5 x6 x7 x8 r) ?_
  refine Eq.trans ?_ (funext fun j => ffn_quarters (mat x7) (mat x8) _ j)
  simp only [k0_pay55, p16, p20, p25, p30, p35, p34, l6, l10, l11, l12, l13, l14, l15, l16, l17]
  rfl

/-! ### Rows 256 to 511 -/

theorem y1 (r : Fin 256) : mat (k0_pay50 x0 x1 x2 x3 x4 x5 x6 x7 x8) r = yRow x0 x1 x2 x3 x4 ⟨256 + r, by omega⟩ := by
  simp only [k0_pay50, p10, p3, l2, l1, l7, l6]; rfl

theorem t1 (r : Fin 256) : mat (k0_pay45 (k0_pay41 (k0_pay50 x0 x1 x2 x3 x4 x5 x6 x7 x8) (k0_pay59 x0 x1 x2 x3 x4 x5 x6 x7 x8)) (k0_pay42 (View.ld x5 r0_6)) (k0_pay43 (View.ld x6 r0_6)) (k0_pay44 (k0_pay50 x0 x1 x2 x3 x4 x5 x6 x7 x8) (k0_pay59 x0 x1 x2 x3 x4 x5 x6 x7 x8))) r
    = outRow x0 x1 x2 x3 x4 x5 x6 x7 x8 ⟨256 + r, by omega⟩ := by
  simp only [p45, p42, p43, l6]
  refine out_of x0 x1 x2 x3 x4 x5 x6 x7 x8 _ (mat (k0_pay50 x0 x1 x2 x3 x4 x5 x6 x7 x8) r) _ (y1 x0 x1 x2 x3 x4 x5 x6 x7 x8 r) ?_
  refine Eq.trans ?_ (funext fun j => ffn_quarters (mat x7) (mat x8) _ j)
  simp only [k0_pay59, k0_pay56, p17, p21, p27, p26, p31, p36, l6, l10, l11, l12, l13, l14, l15, l16, l17]
  rfl

/-! ### Rows 512 to 767 -/

theorem y2 (r : Fin 256) : mat (k0_pay51 x0 x1 x2 x3 x4 x5 x6 x7 x8) r = yRow x0 x1 x2 x3 x4 ⟨512 + r, by omega⟩ := by
  simp only [k0_pay51, p11, p4, l3, l1, l8, l6]; rfl

theorem t2 (r : Fin 256) : mat (k0_pay1 (k0_pay46 (View.ld x5 r0_6)) (k0_pay47 (View.ld x6 r0_6)) (k0_pay48 (k0_pay51 x0 x1 x2 x3 x4 x5 x6 x7 x8) (k0_pay37 (k0_pay57 x0 x1 x2 x3 x4 x5 x6 x7 x8) (k0_pay32 (k0_pay57 x0 x1 x2 x3 x4 x5 x6 x7 x8) (k0_pay28 (k0_pay57 x0 x1 x2 x3 x4 x5 x6 x7 x8) (k0_pay23 (k0_pay57 x0 x1 x2 x3 x4 x5 x6 x7 x8) (k0_pay22 (View.ld x7 r0_10)) (constant S256x1024 .f32 0x00000000#32) (View.ld x8 r0_11)) (View.ld x7 r0_12) (View.ld x8 r0_13)) (View.ld x7 r0_14) (View.ld x8 r0_15)) (View.ld x7 r0_16) (View.ld x8 r0_17)))) r
    = outRow x0 x1 x2 x3 x4 x5 x6 x7 x8 ⟨512 + r, by omega⟩ := by
  simp only [p1, p46, p47, p48, l6]
  refine out_of x0 x1 x2 x3 x4 x5 x6 x7 x8 _ (mat (k0_pay51 x0 x1 x2 x3 x4 x5 x6 x7 x8) r) _ (y2 x0 x1 x2 x3 x4 x5 x6 x7 x8 r) ?_
  refine Eq.trans ?_ (funext fun j => ffn_quarters (mat x7) (mat x8) _ j)
  simp only [k0_pay57, p18, p22, p23, p28, p32, p37, l6, l10, l11, l12, l13, l14, l15, l16, l17]
  rfl

/-! ### Rows 768 to 1023 -/

theorem y3 (r : Fin 256) : mat (k0_pay15 (k0_pay52 x0 x1 x2 x3 x4 x5 x6 x7 x8) (k0_pay53 x0 x1 x2 x3 x4 x5 x6 x7 x8) (k0_pay54 x0 x1 x2 x3 x4 x5 x6 x7 x8)) r = yRow x0 x1 x2 x3 x4 ⟨768 + r, by omega⟩ := by
  simp only [k0_pay52, k0_pay53, k0_pay54, p15, p12, p13, p14, p5, l4, l1, l9, l6]; rfl

theorem t3 (r : Fin 256) : mat (k0_pay2 (k0_pay15 (k0_pay52 x0 x1 x2 x3 x4 x5 x6 x7 x8) (k0_pay53 x0 x1 x2 x3 x4 x5 x6 x7 x8) (k0_pay54 x0 x1 x2 x3 x4 x5 x6 x7 x8)) (k0_pay39 (k0_pay33 (k0_pay58 x0 x1 x2 x3 x4 x5 x6 x7 x8) (k0_pay29 (k0_pay58 x0 x1 x2 x3 x4 x5 x6 x7 x8) (k0_pay24 (k0_pay58 x0 x1 x2 x3 x4 x5 x6 x7 x8) (View.ld x7 r0_10) (View.ld x8 r0_11)) (View.ld x7 r0_12) (View.ld x8 r0_13)) (View.ld x7 r0_14) (View.ld x8 r0_15)) (k0_pay38 (k0_pay58 x0 x1 x2 x3 x4 x5 x6 x7 x8) (View.ld x7 r0_16)) (View.ld x8 r0_17)) (View.ld x5 r0_6) (View.ld x6 r0_6)) r
    = outRow x0 x1 x2 x3 x4 x5 x6 x7 x8 ⟨768 + r, by omega⟩ := by
  simp only [p2, l6]
  refine out_of x0 x1 x2 x3 x4 x5 x6 x7 x8 _ (mat (k0_pay15 (k0_pay52 x0 x1 x2 x3 x4 x5 x6 x7 x8) (k0_pay53 x0 x1 x2 x3 x4 x5 x6 x7 x8) (k0_pay54 x0 x1 x2 x3 x4 x5 x6 x7 x8)) r) _ (y3 x0 x1 x2 x3 x4 x5 x6 x7 x8 r) ?_
  refine Eq.trans ?_ (funext fun j => ffn_quarters (mat x7) (mat x8) _ j)
  simp only [k0_pay58, p15, p19, p24, p29, p33, p39, p38, l6, l10, l11, l12, l13, l14, l15, l16, l17]
  rfl

theorem out_eq (R : Fin 1024) (j : Fin 1024) : out0_9 x0 x1 x2 x3 x4 x5 x6 x7 x8 (ix2 R j) = outRow x0 x1 x2 x3 x4 x5 x6 x7 x8 R j := by
  unfold out0_9
  canon_tiles x h
  · exact at_row _ _ 768 (by omega) (t3 x0 x1 x2 x3 x4 x5 x6 x7 x8) x R j h0 h1
  · exact at_row _ _ 512 (by omega) (t2 x0 x1 x2 x3 x4 x5 x6 x7 x8) x R j h0 h1
  · exact at_row _ _ 256 (by omega) (t1 x0 x1 x2 x3 x4 x5 x6 x7 x8) x R j h0 h1
  · exact at_row _ _ 0 (by omega) (t0 x0 x1 x2 x3 x4 x5 x6 x7 x8) x R j (by rw [Nat.zero_add]; exact h0) h1

end Cert.Mix.Odd

end
-- ==== Proof.MixOddFinal.lean ====
/- The result array after the whole grid: the block on every row of the arguments. -/
module

public import proofs.«01_k».proof.Proof.MixOddOut

@[expose] public section

set_option maxRecDepth 16384

noncomputable section

open Idealize.ShloMosaic Idealize.ShloMosaic.TcCoe Idealize.SL.Sem
open Idealize.ShloMosaic.Pipeline (Dat)
open scoped BigOperators
open Cert.KernelIdeal Cert.KernelIdeal.Gen Cert.KernelIdeal.Value

namespace Cert.Mix.Odd

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

theorem lt16 (t : Fin cfg0.N) : (t : ℕ) < 16 := t.isLt

/-- The result as a function of the launch memory. -/
def outArr : S16384x1024.Idx → EReal :=
  mix (m ((c : Thread nD τ).loc main_arg0)) (fun n => dot (mat (m ((c : Thread nD τ).loc main_arg1)) n) (mat (m ((c : Thread nD τ).loc main_arg2))))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

variable (t : Fin cfg0.N)

theorem b0 (r : Fin 1024) : mat (iblk m c 0 t : S1024x1024.Idx → EReal) r
    = mat (m ((c : Thread nD τ).loc main_arg0)) ⟨t * 1024 + r, by have := lt16 t; omega⟩ := by
  funext k; unfold mat; exact (by blk_point [iblk, idx t] : iblk m c 0 t (ix2 r k) = V m c main_arg0 (ix2 ⟨t * 1024 + r, by have := lt16 t; omega⟩ k)).trans (by entry_read; rfl)
theorem b1 (r : Fin 1024) : mat (iblk m c 1 t : S1024x512.Idx → EReal) r
    = mat (m ((c : Thread nD τ).loc main_arg1)) ⟨t * 1024 + r, by have := lt16 t; omega⟩ := by
  funext k; unfold mat; exact (by blk_point [iblk, idx t] : iblk m c 1 t (ix2 r k) = V m c main_arg1 (ix2 ⟨t * 1024 + r, by have := lt16 t; omega⟩ k)).trans (by entry_read; rfl)
theorem b2 : mat (iblk m c 2 t : S512x1024.Idx → EReal) = mat (m ((c : Thread nD τ).loc main_arg2)) := by
  funext r k; unfold mat; exact (by blk_point [iblk, idx t] : iblk m c 2 t (ix2 r k) = V m c main_v0 (ix2 r k)).trans (by entry_read; pointwise)
theorem b3 : mat (iblk m c 3 t : S1x1024.Idx → EReal) 0 = vec (m ((c : Thread nD τ).loc main_arg3)) := by
  funext k; unfold mat; exact (by blk_point [iblk, idx t] : iblk m c 3 t (ix2 0 k) = V m c main_v1 (ix2 0 k)).trans (by entry_read; pointwise; rfl)
theorem b4 : mat (iblk m c 4 t : S1x1024.Idx → EReal) 0 = vec (m ((c : Thread nD τ).loc main_arg4)) := by
  funext k; unfold mat; exact (by blk_point [iblk, idx t] : iblk m c 4 t (ix2 0 k) = V m c main_v2 (ix2 0 k)).trans (by entry_read; pointwise; rfl)
theorem b5 : mat (iblk m c 5 t : S1x1024.Idx → EReal) 0 = vec (m ((c : Thread nD τ).loc main_arg5)) := by
  funext k; unfold mat; exact (by blk_point [iblk, idx t] : iblk m c 5 t (ix2 0 k) = V m c main_v3 (ix2 0 k)).trans (by entry_read; pointwise; rfl)
theorem b6 : mat (iblk m c 6 t : S1x1024.Idx → EReal) 0 = vec (m ((c : Thread nD τ).loc main_arg6)) := by
  funext k; unfold mat; exact (by blk_point [iblk, idx t] : iblk m c 6 t (ix2 0 k) = V m c main_v4 (ix2 0 k)).trans (by entry_read; pointwise; rfl)
theorem b7 : mat (iblk m c 7 t : S1024x4096.Idx → EReal) = mat (m ((c : Thread nD τ).loc main_arg7)) := by
  funext r k; unfold mat; exact (by blk_point [iblk, idx t] : iblk m c 7 t (ix2 r k) = V m c main_v5 (ix2 r k)).trans (by entry_read; pointwise)
theorem b8 : mat (iblk m c 8 t : S4096x1024.Idx → EReal) = mat (m ((c : Thread nD τ).loc main_arg8)) := by
  funext r k; unfold mat; exact (by blk_point [iblk, idx t] : iblk m c 8 t (ix2 r k) = V m c main_v6 (ix2 r k)).trans (by entry_read; pointwise)

theorem emb9 (y0 y1 : Fin 1024) : (win0_9.blk t).view.emb (ix2 y0 y1)
    = ix2 ⟨t * 1024 + y0, by have := lt16 t; omega⟩ y1 := by
  blk_ext [idx t]

/-- The result after the run. -/
theorem final : (dats m 0 c).arrAt 9 cfg0.N = outArr m c := by
  refine (dats m 0 c).arrAt_eq_of_covers 9 _ (by decide +kernel) fun t hf y => ?_
  blk_simp
  rw [after0_9]
  idx_vars y
  rw [out_eq]
  refine Eq.trans ?_ (congrArg (outArr m c) (emb9 t y0 y1)).symm
  unfold outRow
  rw [b0, b1, b2, b3, b4, b5, b6, b7, b8]
  rfl

end Cert.Mix.Odd

end
-- ==== Proof.MixEvenPay.lean ====
/- The values that the kernel of `Kernel2Ideal` binds, row by row, as functions of the values they are made from. -/
module

public import proofs.«01_k».proof.Proof.Gen.Kernel2Ideal.Value
public import proofs.«01_k».proof.Proof.MixMath

@[expose] public section

set_option maxRecDepth 16384

noncomputable section

open Idealize.ShloMosaic Idealize.ShloMosaic.TcCoe Idealize.SL.Sem
open Idealize.ShloMosaic.Pipeline (Dat)
open scoped BigOperators

open Cert.Kernel2Ideal Cert.Kernel2Ideal.Gen Cert.Kernel2Ideal.Value

namespace Cert.Mix.Even

variable (x y d f : FVec Ideal S256x1024 .f32) (z : FVec Ideal S256x1024 .bf16) (g b : FVec Ideal S1x1024 .f32)
  (a a' : Vec Ideal S256x512 .bf16) (w w' : Vec Ideal S512x1024 .bf16) (u v : Vec Ideal S1024x1024 .bf16) (r : Fin 256)

theorem p8 : k0_pay8 g = g := by
  funext i; idx_vars i; pointwise [k0_pay8]
theorem p9 : k0_pay9 g = g := by
  funext i; idx_vars i; pointwise [k0_pay9]
theorem p39 : k0_pay39 g = g := by
  funext i; idx_vars i; pointwise [k0_pay39]
theorem p40 : k0_pay40 g = g := by
  funext i; idx_vars i; pointwise [k0_pay40]
theorem p43 : k0_pay43 g = g := by
  funext i; idx_vars i; pointwise [k0_pay43]
theorem p49 : k0_pay49 g = g := by
  funext i; idx_vars i; pointwise [k0_pay49]
theorem p50 : k0_pay50 g = g := by
  funext i; idx_vars i; pointwise [k0_pay50]
theorem p13 : k0_pay13 y = y := by
  funext i; idx_vars i; pointwise [k0_pay13]
theorem p14 : k0_pay14 y = y := by
  funext i; idx_vars i; pointwise [k0_pay14]
theorem p16 : k0_pay16 y = y := by
  funext i; idx_vars i; pointwise [k0_pay16]
theorem p26 : k0_pay26 u = u := by
  funext i; idx_vars i; pointwise [k0_pay26]
theorem p2 : mat (k0_pay2 a w a' w') r = fun k => dot (mat a r) (mat w) k + dot (mat a' r) (mat w') k := by
  funext j; unfold mat; pointwise [k0_pay2] <;> rfl
theorem p3 : mat (k0_pay3 a w a' w') r = fun k => dot (mat a r) (mat w) k + dot (mat a' r) (mat w') k := by
  funext j; unfold mat; pointwise [k0_pay3] <;> rfl
theorem p4 : mat (k0_pay4 a w a' w') r = fun k => dot (mat a r) (mat w) k + dot (mat a' r) (mat w') k := by
  funext j; unfold mat; pointwise [k0_pay4] <;> rfl
theorem p5 : mat (k0_pay5 a w a' w') r = fun k => dot (mat a r) (mat w) k + dot (mat a' r) (mat w') k := by
  funext j; unfold mat; pointwise [k0_pay5] <;> rfl
theorem p10 : mat (k0_pay10 d x) r = cen (fun k => s2 * mat x r k + mat d r k) := by
  funext j; unfold mat; pointwise [k0_pay10] <;> rfl
theorem p11 : mat (k0_pay11 g b y) r = lnC (mat g 0) (mat b 0) (mat y r) := by
  funext j; unfold mat; pointwise [k0_pay11] <;> rfl
theorem p15 : mat (k0_pay15 g b y) r = lnC (mat g 0) (mat b 0) (mat y r) := by
  funext j; unfold mat; pointwise [k0_pay15, k0_pay11] <;> rfl
theorem p6 : mat (k0_pay6 d x g b) r = ln (mat g 0) (mat b 0) (fun k => s2 * mat x r k + mat d r k) := by
  funext j; unfold mat; pointwise [k0_pay6] <;> rfl
theorem p7 : mat (k0_pay7 d x g b) r = ln (mat g 0) (mat b 0) (fun k => s2 * mat x r k + mat d r k) := by
  funext j; unfold mat; pointwise [k0_pay7] <;> rfl
theorem p12 : mat (k0_pay12 d x g b) r = ln (mat g 0) (mat b 0) (fun k => s2 * mat x r k + mat d r k) := by
  funext j; unfold mat; pointwise [k0_pay12] <;> rfl
theorem p17 : mat (k0_pay17 z u v) r = ffn (mat u) (mat v) (mat z r) := by
  funext j; unfold mat; pointwise [k0_pay17] <;> rfl
theorem p18 : mat (k0_pay18 z u v) r = ffn (mat u) (mat v) (mat z r) := by
  funext j; unfold mat; pointwise [k0_pay18] <;> rfl
theorem p19 : mat (k0_pay19 z u v) r = ffn (mat u) (mat v) (mat z r) := by
  funext j; unfold mat; pointwise [k0_pay19] <;> rfl
theorem p20 : mat (k0_pay20 y u) r = dot (mat y r) (mat u) := by
  funext j; unfold mat; pointwise [k0_pay20, k0_pay16] <;> rfl
theorem p22 : mat (k0_pay22 f k0_pay21 v) r = dot (fun k => max (mat f r k) 0 * max (mat f r k) 0) (mat v) := by
  funext j; unfold mat; pointwise [k0_pay22, k0_pay21] <;> rfl
theorem p23 : mat (k0_pay23 z f u v) r = mat f r + ffn (mat u) (mat v) (mat z r) := by
  funext j; unfold mat; pointwise [k0_pay23] <;> rfl
theorem p24 : mat (k0_pay24 z f u v) r = mat f r + ffn (mat u) (mat v) (mat z r) := by
  funext j; unfold mat; pointwise [k0_pay24] <;> rfl
theorem p28 : mat (k0_pay28 z f u v) r = mat f r + ffn (mat u) (mat v) (mat z r) := by
  funext j; unfold mat; pointwise [k0_pay28] <;> rfl
theorem p29 : mat (k0_pay29 z f u v) r = mat f r + ffn (mat u) (mat v) (mat z r) := by
  funext j; unfold mat; pointwise [k0_pay29] <;> rfl
theorem p30 : mat (k0_pay30 z f u v) r = mat f r + ffn (mat u) (mat v) (mat z r) := by
  funext j; unfold mat; pointwise [k0_pay30] <;> rfl
theorem p31 : mat (k0_pay31 z f u v) r = mat f r + ffn (mat u) (mat v) (mat z r) := by
  funext j; unfold mat; pointwise [k0_pay31] <;> rfl
theorem p32 : mat (k0_pay32 z f u v) r = mat f r + ffn (mat u) (mat v) (mat z r) := by
  funext j; unfold mat; pointwise [k0_pay32] <;> rfl
theorem p33 : mat (k0_pay33 z f u v) r = mat f r + ffn (mat u) (mat v) (mat z r) := by
  funext j; unfold mat; pointwise [k0_pay33] <;> rfl
theorem p36 : mat (k0_pay36 z f u v) r = mat f r + ffn (mat u) (mat v) (mat z r) := by
  funext j; unfold mat; pointwise [k0_pay36] <;> rfl
theorem p37 : mat (k0_pay37 z f u v) r = mat f r + ffn (mat u) (mat v) (mat z r) := by
  funext j; unfold mat; pointwise [k0_pay37] <;> rfl
theorem p25 : mat (k0_pay25 z u) r = fun k => max (dot (mat z r) (mat u) k) 0 * max (dot (mat z r) (mat u) k) 0 := by
  funext j; unfold mat; pointwise [k0_pay25] <;> rfl
theorem p27 : mat (k0_pay27 f z v) r = mat f r + dot (mat z r) (mat v) := by
  funext j; unfold mat; pointwise [k0_pay27] <;> rfl
theorem p34 : mat (k0_pay34 z u) r = fun k => max (dot (mat z r) (mat u) k) 0 := by
  funext j; unfold mat; pointwise [k0_pay34] <;> rfl
theorem p35 : mat (k0_pay35 f y v) r = mat f r + dot (fun k => mat y r k * mat y r k) (mat v) := by
  funext j; unfold mat; pointwise [k0_pay35] <;> rfl
theorem p38 : mat (k0_pay38 y f) r = fun k => s2 * mat y r k + mat f r k := by
  funext j; unfold mat; pointwise [k0_pay38] <;> rfl
theorem p48 : mat (k0_pay48 y f) r = fun k => s2 * mat y r k + mat f r k := by
  funext j; unfold mat; pointwise [k0_pay48] <;> rfl
theorem p44 : mat (k0_pay44 y f) r = fun j => cen (fun k => s2 * mat y r k + mat f r k) j * rs (cen (fun k => s2 * mat y r k + mat f r k)) := by
  funext j; unfold mat; pointwise [k0_pay44] <;> rfl
theorem p47 : mat (k0_pay47 y f g b) r = ln (mat g 0) (mat b 0) (fun k => s2 * mat y r k + mat f r k) := by
  funext j; unfold mat; pointwise [k0_pay47] <;> rfl
theorem p1 : mat (k0_pay1 y g b) r = ln (mat g 0) (mat b 0) (mat y r) := by
  funext j; unfold mat; pointwise [k0_pay1] <;> rfl

/-- The last normalisation of the first tile, whose row sums are bound apart. -/
theorem p42 : mat (k0_pay42 (k0_pay38 y f) g b (k0_pay41 y f)) r = ln (mat g 0) (mat b 0) (fun k => s2 * mat y r k + mat f r k) := by
  funext j; unfold mat; pointwise [k0_pay42, k0_pay41, k0_pay38] <;> rfl
theorem p46 : mat (k0_pay46 b y (k0_pay45 g)) r = fun j => mat y r j * mat g 0 j + mat b 0 j := by
  funext j; unfold mat; pointwise [k0_pay46, k0_pay45] <;> rfl

/-! ### What the kernel loads -/

theorem l0 (x1 : Vec Ideal S1024x512 .bf16) : mat (View.ld x1 r0_0) r = mat x1 ⟨0 + r, by omega⟩ := by
  funext j; unfold mat; pointwise; try simp only [Nat.zero_add]
theorem l2 (x1 : Vec Ideal S1024x512 .bf16) : mat (View.ld x1 r0_2) r = mat x1 ⟨256 + r, by omega⟩ := by
  funext j; unfold mat; pointwise; try simp only [Nat.zero_add]
theorem l3 (x1 : Vec Ideal S1024x512 .bf16) : mat (View.ld x1 r0_3) r = mat x1 ⟨512 + r, by omega⟩ := by
  funext j; unfold mat; pointwise; try simp only [Nat.zero_add]
theorem l4 (x1 : Vec Ideal S1024x512 .bf16) : mat (View.ld x1 r0_4) r = mat x1 ⟨768 + r, by omega⟩ := by
  funext j; unfold mat; pointwise; try simp only [Nat.zero_add]
theorem l5 (x0 : Vec Ideal S1024x1024 .f32) : mat (View.ld x0 r0_5) r = mat x0 ⟨0 + r, by omega⟩ := by
  funext j; unfold mat; pointwise; try simp only [Nat.zero_add]
theorem l7 (x0 : Vec Ideal S1024x1024 .f32) : mat (View.ld x0 r0_7) r = mat x0 ⟨256 + r, by omega⟩ := by
  funext j; unfold mat; pointwise; try simp only [Nat.zero_add]
theorem l8 (x0 : Vec Ideal S1024x1024 .f32) : mat (View.ld x0 r0_8) r = mat x0 ⟨512 + r, by omega⟩ := by
  funext j; unfold mat; pointwise; try simp only [Nat.zero_add]
theorem l9 (x0 : Vec Ideal S1024x1024 .f32) : mat (View.ld x0 r0_9) r = mat x0 ⟨768 + r, by omega⟩ := by
  funext j; unfold mat; pointwise; try simp only [Nat.zero_add]
theorem l1 (x2 : Vec Ideal S512x1024 .bf16) : View.ld x2 r0_1 = x2 := by
  funext i; idx_vars i; pointwise
theorem l6 (x3 : Vec Ideal S1x1024 .f32) : View.ld x3 r0_6 = x3 := by
  funext i; idx_vars i; rw [Subsingleton.elim i0 0]; pointwise
theorem l10 (x7 : Vec Ideal S1024x4096 .bf16) : mat (View.ld x7 r0_10) = cols (mat x7) 0 (by omega) := by
  funext k j; unfold mat; pointwise; try simp only [cols, rows, Nat.zero_add]
theorem l12 (x7 : Vec Ideal S1024x4096 .bf16) : mat (View.ld x7 r0_12) = cols (mat x7) 1024 (by omega) := by
  funext k j; unfold mat; pointwise; try simp only [cols, rows, Nat.zero_add]
theorem l14 (x7 : Vec Ideal S1024x4096 .bf16) : mat (View.ld x7 r0_14) = cols (mat x7) 2048 (by omega) := by
  funext k j; unfold mat; pointwise; try simp only [cols, rows, Nat.zero_add]
theorem l16 (x7 : Vec Ideal S1024x4096 .bf16) : mat (View.ld x7 r0_16) = cols (mat x7) 3072 (by omega) := by
  funext k j; unfold mat; pointwise; try simp only [cols, rows, Nat.zero_add]
theorem l11 (x8 : Vec Ideal S4096x1024 .bf16) : mat (View.ld x8 r0_11) = rows (mat x8) 0 (by omega) := by
  funext k j; unfold mat; pointwise; try simp only [cols, rows, Nat.zero_add]
theorem l13 (x8 : Vec Ideal S4096x1024 .bf16) : mat (View.ld x8 r0_13) = rows (mat x8) 1024 (by omega) := by
  funext k j; unfold mat; pointwise; try simp only [cols, rows, Nat.zero_add]
theorem l15 (x8 : Vec Ideal S4096x1024 .bf16) : mat (View.ld x8 r0_15) = rows (mat x8) 2048 (by omega) := by
  funext k j; unfold mat; pointwise; try simp only [cols, rows, Nat.zero_add]
theorem l17 (x8 : Vec Ideal S4096x1024 .bf16) : mat (View.ld x8 r0_17) = rows (mat x8) 3072 (by omega) := by
  funext k j; unfold mat; pointwise; try simp only [cols, rows, Nat.zero_add]

end Cert.Mix.Even

end
-- ==== Proof.MixEvenOut.lean ====
/- The kernel's stored block: each row is the feed-forward block of the same row of its inputs. -/
module

public import proofs.«01_k».proof.Proof.MixEvenPay

@[expose] public section

set_option maxRecDepth 16384

noncomputable section

open Idealize.ShloMosaic Idealize.ShloMosaic.TcCoe Idealize.SL.Sem
open Idealize.ShloMosaic.Pipeline (Dat)
open scoped BigOperators

open Cert.Kernel2Ideal Cert.Kernel2Ideal.Gen Cert.Kernel2Ideal.Value

namespace Cert.Mix.Even

variable (x0 : Vec Ideal S1024x1024 .f32) (x1 x2 : Vec Ideal S1024x512 .bf16) (x3 x4 : Vec Ideal S512x1024 .bf16)
  (x5 x6 x7 x8 : Vec Ideal S1x1024 .f32) (x9 : Vec Ideal S1024x4096 .bf16) (x10 : Vec Ideal S4096x1024 .bf16)

/-- The mixed activations of a row: the two parts, each through its half of the matrix. -/
def mixed (R : Fin 1024) (j : Fin 1024) : EReal := dot (mat x1 R) (mat x3) j + dot (mat x2 R) (mat x4) j

/-- A row after the first normalisation. -/
def yRow (R : Fin 1024) : Fin 1024 → EReal :=
  ln (mat x5 0) (mat x6 0) (fun k => s2 * mat x0 R k + mixed x1 x2 x3 x4 R k)

/-- A row of the block. -/
def outRow (R : Fin 1024) : Fin 1024 → EReal :=
  block (mat x5 0) (mat x6 0) (mat x7 0) (mat x8 0) (mat x9) (mat x10) (mat x0 R) (mixed x1 x2 x3 x4 R)

/-- The last normalisation of the normalised row plus the network is the block. -/
theorem out_of (R : Fin 1024) (y f : Fin 1024 → EReal) (hy : y = yRow x0 x1 x2 x3 x4 x5 x6 R)
    (hf : f = ffn (mat x9) (mat x10) y) :
    ln (mat x7 0) (mat x8 0) (fun k => s2 * y k + f k) = outRow x0 x1 x2 x3 x4 x5 x6 x7 x8 x9 x10 R := by
  subst hf hy; rfl

/-! ### Rows 0 to 255 -/

theorem y0 (r : Fin 256) : mat (k0_pay51 x0 x1 x2 x3 x4 x5 x6 x7 x8 x9 x10) r = yRow x0 x1 x2 x3 x4 x5 x6 ⟨0 + r, by omega⟩ := by
  simp only [k0_pay51, p6, p2, l0, l1, l5, l6]; rfl

theorem t0 (r : Fin 256) : mat (k0_pay42 (k0_pay38 (k0_pay51 x0 x1 x2 x3 x4 x5 x6 x7 x8 x9 x10) (k0_pay61 x0 x1 x2 x3 x4 x5 x6 x7 x8 x9 x10)) (k0_pay39 (View.ld x7 r0_6)) (k0_pay40 (View.ld x8 r0_6)) (k0_pay41 (k0_pay51 x0 x1 x2 x3 x4 x5 x6 x7 x8 x9 x10) (k0_pay61 x0 x1 x2 x3 x4 x5 x6 x7 x8 x9 x10))) r
    = outRow x0 x1 x2 x3 x4 x5 x6 x7 x8 x9 x10 ⟨0 + r, by omega⟩ := by
  simp only [p42, p39, p40, l6]
  refine out_of x0 x1 x2 x3 x4 x5 x6 x7 x8 x9 x10 _ (mat (k0_pay51 x0 x1 x2 x3 x4 x5 x6 x7 x8 x9 x10) r) _ (y0 x0 x1 x2 x3 x4 x5 x6 x7 x8 x9 x10 r) ?_
  refine Eq.trans ?_ (funext fun j => ffn_quarters (mat x9) (mat x10) _ j)
  simp only [k0_pay61, k0_pay57, p13, p17, p23, p29, p33, l6, l10, l11, l12, l13, l14, l15, l16, l17]
  rfl

/-! ### Rows 256 to 511 -/

theorem y1 (r : Fin 256) : mat (k0_pay52 x0 x1 x2 x3 x4 x5 x6 x7 x8 x9 x10) r = yRow x0 x1 x2 x3 x4 x5 x6 ⟨256 + r, by omega⟩ := by
  simp only [k0_pay52, p7, p3, l2, l1, l7, l6]; rfl

theorem t1 (r : Fin 256) : mat (k0_pay46 (k0_pay43 (View.ld x8 r0_6)) (k0_pay44 (k0_pay52 x0 x1 x2 x3 x4 x5 x6 x7 x8 x9 x10) (k0_pay35 (k0_pay30 (k0_pay58 x0 x1 x2 x3 x4 x5 x6 x7 x8 x9 x10) (k0_pay24 (k0_pay58 x0 x1 x2 x3 x4 x5 x6 x7 x8 x9 x10) (k0_pay18 (k0_pay58 x0 x1 x2 x3 x4 x5 x6 x7 x8 x9 x10) (View.ld x9 r0_10) (View.ld x10 r0_11)) (View.ld x9 r0_12) (View.ld x10 r0_13)) (View.ld x9 r0_14) (View.ld x10 r0_15)) (k0_pay34 (k0_pay58 x0 x1 x2 x3 x4 x5 x6 x7 x8 x9 x10) (View.ld x9 r0_16)) (View.ld x10 r0_17))) (k0_pay45 (View.ld x7 r0_6))) r
    = outRow x0 x1 x2 x3 x4 x5 x6 x7 x8 x9 x10 ⟨256 + r, by omega⟩ := by
  simp only [p46, p44, p43, l6]
  refine out_of x0 x1 x2 x3 x4 x5 x6 x7 x8 x9 x10 _ (mat (k0_pay52 x0 x1 x2 x3 x4 x5 x6 x7 x8 x9 x10) r) _ (y1 x0 x1 x2 x3 x4 x5 x6 x7 x8 x9 x10 r) ?_
  refine Eq.trans ?_ (funext fun j => ffn_quarters (mat x9) (mat x10) _ j)
  simp only [k0_pay58, p14, p18, p24, p30, p35, p34, l6, l10, l11, l12, l13, l14, l15, l16, l17]
  rfl

/-! ### Rows 512 to 767 -/

theorem y2 (r : Fin 256) : mat (k0_pay11 (k0_pay53 x0 x1 x2 x3 x4 x5 x6 x7 x8 x9 x10) (k0_pay54 x0 x1 x2 x3 x4 x5 x6 x7 x8 x9 x10) (k0_pay55 x0 x1 x2 x3 x4 x5 x6 x7 x8 x9 x10)) r = yRow x0 x1 x2 x3 x4 x5 x6 ⟨512 + r, by omega⟩ := by
  simp only [k0_pay53, k0_pay54, k0_pay55, p11, p10, p8, p9, p4, l3, l1, l8, l6]; rfl

theorem t2 (r : Fin 256) : mat (k0_pay47 (k0_pay11 (k0_pay53 x0 x1 x2 x3 x4 x5 x6 x7 x8 x9 x10) (k0_pay54 x0 x1 x2 x3 x4 x5 x6 x7 x8 x9 x10) (k0_pay55 x0 x1 x2 x3 x4 x5 x6 x7 x8 x9 x10)) (k0_pay36 (k0_pay59 x0 x1 x2 x3 x4 x5 x6 x7 x8 x9 x10) (k0_pay31 (k0_pay59 x0 x1 x2 x3 x4 x5 x6 x7 x8 x9 x10) (k0_pay27 (k0_pay19 (k0_pay59 x0 x1 x2 x3 x4 x5 x6 x7 x8 x9 x10) (View.ld x9 r0_10) (View.ld x10 r0_11)) (k0_pay25 (k0_pay59 x0 x1 x2 x3 x4 x5 x6 x7 x8 x9 x10) (View.ld x9 r0_12)) (k0_pay26 (View.ld x10 r0_13))) (View.ld x9 r0_14) (View.ld x10 r0_15)) (View.ld x9 r0_16) (View.ld x10 r0_17)) (View.ld x7 r0_6) (View.ld x8 r0_6)) r
    = outRow x0 x1 x2 x3 x4 x5 x6 x7 x8 x9 x10 ⟨512 + r, by omega⟩ := by
  simp only [p47, l6]
  refine out_of x0 x1 x2 x3 x4 x5 x6 x7 x8 x9 x10 _ (mat (k0_pay11 (k0_pay53 x0 x1 x2 x3 x4 x5 x6 x7 x8 x9 x10) (k0_pay54 x0 x1 x2 x3 x4 x5 x6 x7 x8 x9 x10) (k0_pay55 x0 x1 x2 x3 x4 x5 x6 x7 x8 x9 x10)) r) _ (y2 x0 x1 x2 x3 x4 x5 x6 x7 x8 x9 x10 r) ?_
  refine Eq.trans ?_ (funext fun j => ffn_quarters (mat x9) (mat x10) _ j)
  simp only [k0_pay59, p11, p15, p19, p27, p25, p26, p31, p36, l6, l10, l11, l12, l13, l14, l15, l16, l17]
  rfl

/-! ### Rows 768 to 1023 -/

theorem y3 (r : Fin 256) : mat (k0_pay56 x0 x1 x2 x3 x4 x5 x6 x7 x8 x9 x10) r = yRow x0 x1 x2 x3 x4 x5 x6 ⟨768 + r, by omega⟩ := by
  simp only [k0_pay56, p12, p5, l4, l1, l9, l6]; rfl

theorem t3 (r : Fin 256) : mat (k0_pay1 (k0_pay48 (k0_pay56 x0 x1 x2 x3 x4 x5 x6 x7 x8 x9 x10) (k0_pay37 (k0_pay60 x0 x1 x2 x3 x4 x5 x6 x7 x8 x9 x10) (k0_pay32 (k0_pay60 x0 x1 x2 x3 x4 x5 x6 x7 x8 x9 x10) (k0_pay28 (k0_pay60 x0 x1 x2 x3 x4 x5 x6 x7 x8 x9 x10) (k0_pay22 (k0_pay20 (k0_pay56 x0 x1 x2 x3 x4 x5 x6 x7 x8 x9 x10) (View.ld x9 r0_10)) (k0_pay21 (F := Ideal)) (View.ld x10 r0_11)) (View.ld x9 r0_12) (View.ld x10 r0_13)) (View.ld x9 r0_14) (View.ld x10 r0_15)) (View.ld x9 r0_16) (View.ld x10 r0_17))) (k0_pay49 (View.ld x7 r0_6)) (k0_pay50 (View.ld x8 r0_6))) r
    = outRow x0 x1 x2 x3 x4 x5 x6 x7 x8 x9 x10 ⟨768 + r, by omega⟩ := by
  simp only [p1, p48, p49, p50, l6]
  refine out_of x0 x1 x2 x3 x4 x5 x6 x7 x8 x9 x10 _ (mat (k0_pay56 x0 x1 x2 x3 x4 x5 x6 x7 x8 x9 x10) r) _ (y3 x0 x1 x2 x3 x4 x5 x6 x7 x8 x9 x10 r) ?_
  refine Eq.trans ?_ (funext fun j => ffn_quarters (mat x9) (mat x10) _ j)
  simp only [k0_pay60, p16, p20, p22, p28, p32, p37, l6, l10, l11, l12, l13, l14, l15, l16, l17]
  rfl

theorem out_eq (R : Fin 1024) (j : Fin 1024) : out0_11 x0 x1 x2 x3 x4 x5 x6 x7 x8 x9 x10 (ix2 R j) = outRow x0 x1 x2 x3 x4 x5 x6 x7 x8 x9 x10 R j := by
  unfold out0_11
  canon_tiles x h
  · exact at_row _ _ 768 (by omega) (t3 x0 x1 x2 x3 x4 x5 x6 x7 x8 x9 x10) x R j h0 h1
  · exact at_row _ _ 512 (by omega) (t2 x0 x1 x2 x3 x4 x5 x6 x7 x8 x9 x10) x R j h0 h1
  · exact at_row _ _ 256 (by omega) (t1 x0 x1 x2 x3 x4 x5 x6 x7 x8 x9 x10) x R j h0 h1
  · exact at_row _ _ 0 (by omega) (t0 x0 x1 x2 x3 x4 x5 x6 x7 x8 x9 x10) x R j (by rw [Nat.zero_add]; exact h0) h1

end Cert.Mix.Even

end
-- ==== Proof.MixEvenFinal.lean ====
/- The result array after the whole grid: the block on every row of the arguments. -/
module

public import proofs.«01_k».proof.Proof.MixEvenOut

@[expose] public section

set_option maxRecDepth 16384

noncomputable section

open Idealize.ShloMosaic Idealize.ShloMosaic.TcCoe Idealize.SL.Sem
open Idealize.ShloMosaic.Pipeline (Dat)
open scoped BigOperators
open Cert.Kernel2Ideal Cert.Kernel2Ideal.Gen Cert.Kernel2Ideal.Value

namespace Cert.Mix.Even

variable (m : (ℓ : Loc nD τ sig) → Buf (Elt Ideal) ℓ) (c : Dev nD)

/-- Every window's block index at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

theorem lt16 (t : Fin cfg0.N) : (t : ℕ) < 16 := t.isLt

/-- The result as a function of the launch memory. -/
def outArr : S16384x1024.Idx → EReal :=
  mix (m ((c : Thread nD τ).loc main_arg0)) (fun n => fun j => dot (mat (m ((c : Thread nD τ).loc main_arg1)) n) (top (mat (m ((c : Thread nD τ).loc main_arg3)))) j
      + dot (mat (m ((c : Thread nD τ).loc main_arg2)) n) (bot (mat (m ((c : Thread nD τ).loc main_arg3)))) j)
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

variable (t : Fin cfg0.N)

theorem b0 (r : Fin 1024) : mat (iblk m c 0 t : S1024x1024.Idx → EReal) r = mat (m ((c : Thread nD τ).loc main_arg0)) ⟨t * 1024 + r, by have := lt16 t; omega⟩ := by
  funext k; unfold mat; exact (by blk_point [iblk, idx t] : iblk m c 0 t (ix2 r k) = V m c main_arg0 (ix2 ⟨t * 1024 + r, by have := lt16 t; omega⟩ k)).trans (by entry_read; rfl)
theorem b1 (r : Fin 1024) : mat (iblk m c 1 t : S1024x512.Idx → EReal) r = mat (m ((c : Thread nD τ).loc main_arg1)) ⟨t * 1024 + r, by have := lt16 t; omega⟩ := by
  funext k; unfold mat; exact (by blk_point [iblk, idx t] : iblk m c 1 t (ix2 r k) = V m c main_arg1 (ix2 ⟨t * 1024 + r, by have := lt16 t; omega⟩ k)).trans (by entry_read; rfl)
theorem b2 (r : Fin 1024) : mat (iblk m c 2 t : S1024x512.Idx → EReal) r = mat (m ((c : Thread nD τ).loc main_arg2)) ⟨t * 1024 + r, by have := lt16 t; omega⟩ := by
  funext k; unfold mat; exact (by blk_point [iblk, idx t] : iblk m c 2 t (ix2 r k) = V m c main_arg2 (ix2 ⟨t * 1024 + r, by have := lt16 t; omega⟩ k)).trans (by entry_read; rfl)
theorem b3 : mat (iblk m c 3 t : S512x1024.Idx → EReal) = top (mat (m ((c : Thread nD τ).loc main_arg3))) := by
  funext r k; unfold top mat; exact (by blk_point [iblk, idx t] : iblk m c 3 t (ix2 r k) = V m c main_v1 (ix2 r k)).trans (by entry_read; pointwise <;> rfl)
theorem b4 : mat (iblk m c 4 t : S512x1024.Idx → EReal) = bot (mat (m ((c : Thread nD τ).loc main_arg3))) := by
  funext r k; unfold bot mat; exact (by blk_point [iblk, idx t] : iblk m c 4 t (ix2 r k) = V m c main_v3 (ix2 r k)).trans (by entry_read; pointwise <;> rfl)
theorem b9 : mat (iblk m c 9 t : S1024x4096.Idx → EReal) = mat (m ((c : Thread nD τ).loc main_arg8)) := by
  funext r k; unfold mat; exact (by blk_point [iblk, idx t] : iblk m c 9 t (ix2 r k) = V m c main_v8 (ix2 r k)).trans (by entry_read; pointwise)
theorem b10 : mat (iblk m c 10 t : S4096x1024.Idx → EReal) = mat (m ((c : Thread nD τ).loc main_arg9)) := by
  funext r k; unfold mat; exact (by blk_point [iblk, idx t] : iblk m c 10 t (ix2 r k) = V m c main_v9 (ix2 r k)).trans (by entry_read; pointwise)
theorem b5 : mat (iblk m c 5 t : S1x1024.Idx → EReal) 0 = vec (m ((c : Thread nD τ).loc main_arg4)) := by
  funext k; unfold mat; exact (by blk_point [iblk, idx t] : iblk m c 5 t (ix2 0 k) = V m c main_v4 (ix2 0 k)).trans (by entry_read; pointwise; rfl)
theorem b6 : mat (iblk m c 6 t : S1x1024.Idx → EReal) 0 = vec (m ((c : Thread nD τ).loc main_arg5)) := by
  funext k; unfold mat; exact (by blk_point [iblk, idx t] : iblk m c 6 t (ix2 0 k) = V m c main_v5 (ix2 0 k)).trans (by entry_read; pointwise; rfl)
theorem b7 : mat (iblk m c 7 t : S1x1024.Idx → EReal) 0 = vec (m ((c : Thread nD τ).loc main_arg6)) := by
  funext k; unfold mat; exact (by blk_point [iblk, idx t] : iblk m c 7 t (ix2 0 k) = V m c main_v6 (ix2 0 k)).trans (by entry_read; pointwise; rfl)
theorem b8 : mat (iblk m c 8 t : S1x1024.Idx → EReal) 0 = vec (m ((c : Thread nD τ).loc main_arg7)) := by
  funext k; unfold mat; exact (by blk_point [iblk, idx t] : iblk m c 8 t (ix2 0 k) = V m c main_v7 (ix2 0 k)).trans (by entry_read; pointwise; rfl)

theorem emb11 (y0 y1 : Fin 1024) : (win0_11.blk t).view.emb (ix2 y0 y1)
    = ix2 ⟨t * 1024 + y0, by have := lt16 t; omega⟩ y1 := by
  blk_ext [idx t]

/-- The result after the run. -/
theorem final : (dats m 0 c).arrAt 11 cfg0.N = outArr m c := by
  refine (dats m 0 c).arrAt_eq_of_covers 11 _ (by decide +kernel) fun t hf y => ?_
  blk_simp
  rw [after0_11]
  idx_vars y
  rw [out_eq]
  refine Eq.trans ?_ (congrArg (outArr m c) (emb11 t y0 y1)).symm
  unfold outRow
  rw [show mixed (iblk m c 1 t) (iblk m c 2 t) (iblk m c 3 t) (iblk m c 4 t) y0 = _ from
    funext fun j => by unfold mixed; rw [b1, b2, b3, b4], b0, b5, b6, b7, b8, b9, b10]
  rfl

end Cert.Mix.Even

end
-- ==== Proof.MixOddRef.lean ====
/- The reference's result row by row: the same block on every row. -/
module

public import proofs.«01_k».proof.Proof.Gen.ReferenceIdeal.Run
public import proofs.«01_k».proof.Proof.MixMath

@[expose] public section

set_option maxRecDepth 16384

noncomputable section

open Idealize.ShloMosaic Idealize.ShloMosaic.TcCoe Idealize.SL.Sem
open Idealize.ShloMosaic.Pipeline (Dat)
open scoped BigOperators

open Cert.ReferenceIdeal Cert.ReferenceIdeal.Gen Cert.ReferenceIdeal.Value

namespace Cert.Mix.OddRef

/-- The rows' means, spread over the rows. -/
def meanV (v : FVec Ideal S16384x1024 .f32) : FVec Ideal S16384x1024 .f32 :=
  (broadcastInDim S16384x1024 ![0, 1] bcast_S16384x1_S16384x1024_0_1 (Host.divf (broadcastInDim S16384x1 ![0] bcast_S16384_S16384x1_0 (Host.reduceAdd v (constant S_ .f32 0x00000000#32) reducesTo_S16384x1024_S16384_d1 h_S_)) (broadcastInDim S16384x1 ![] bcast_S_S16384x1 (constant S_ .f32 0x44800000#32))))

theorem mean_at (v : FVec Ideal S16384x1024 .f32) (n : Fin 16384) (j : Fin 1024) : meanV v (ix2 n j) = mean (mat v n) := by
  unfold meanV; pointwise <;> rfl

/-- The reference's layer normalisation. -/
def lnV (v : FVec Ideal S16384x1024 .f32) (g b : FVec Ideal S1024 .f32) : FVec Ideal S16384x1024 .f32 :=
  addf (mulf (mulf (subf v (meanV v)) (broadcastInDim S16384x1024 ![0, 1] bcast_S16384x1_S16384x1024_0_1 (Host.rsqrt (addf (Host.divf (broadcastInDim S16384x1 ![0] bcast_S16384_S16384x1_0 (Host.reduceAdd (mulf (subf v (meanV v)) (subf v (meanV v))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

theorem ln_at (v : FVec Ideal S16384x1024 .f32) (g b : FVec Ideal S1024 .f32) (n : Fin 16384) :
    mat (lnV v g b) n = ln (vec g) (vec b) (mat v n) := by
  funext j; show lnV v g b (ix2 n j) = _; unfold lnV; pointwise [mean_at] <;> rfl

/-- The scaled residual plus what is mixed in. -/
def resV (x d : FVec Ideal S16384x1024 .f32) : FVec Ideal S16384x1024 .f32 :=
  addf (mulf (broadcastInDim S16384x1024 ![] bcast_S_S16384x1024 (constant S_ .f32 0x3FB504F3#32)) x) d

theorem res_at (x d : FVec Ideal S16384x1024 .f32) (n : Fin 16384) : mat (resV x d) n = fun k => s2 * mat x n k + mat d n k := by
  funext j; unfold mat resV; pointwise <;> rfl

/-- The reference's squared-ReLU network. -/
def ffnV (y : FVec Ideal S16384x1024 .f32) (w1 : FVec Ideal S1024x4096 .f32) (w2 : FVec Ideal S4096x1024 .f32) : FVec Ideal S16384x1024 .f32 :=
  Host.dotGeneral dot_S16384x4096_S4096x1024_S16384x1024_1_0_0_1_n_n none (mulf (maximumf (Host.dotGeneral dot_S16384x1024_S1024x4096_S16384x4096_1_0_0_1_n_n none y w1) (broadcastInDim S16384x4096 ![] bcast_S_S16384x4096 (constant S_ .f32 0x00000000#32))) (maximumf (Host.dotGeneral dot_S16384x1024_S1024x4096_S16384x4096_1_0_0_1_n_n none y w1) (broadcastInDim S16384x4096 ![] bcast_S_S16384x4096 (constant S_ .f32 0x00000000#32)))) w2

theorem ffn_at (y : FVec Ideal S16384x1024 .f32) (w1 : FVec Ideal S1024x4096 .f32) (w2 : FVec Ideal S4096x1024 .f32) (n : Fin 16384) :
    mat (ffnV y w1 w2) n = ffn (mat w1) (mat w2) (mat y n) := by
  funext j; unfold mat ffnV; pointwise <;> rfl

variable (m : (ℓ : Loc nD τ sig) → Buf (Elt Ideal) ℓ) (c : Dev nD)

/-- What is mixed into the residual. -/
def dV : FVec Ideal S16384x1024 .f32 :=
  Host.dotGeneral (φ₂ := .f32) dot_S16384x512_S512x1024_S16384x1024_1_0_0_1_n_n none (extf .f32 (m ((c.tc : Thread nD τ).loc main_arg1)) bitsLt_bf16_f32) (m ((c.tc : Thread nD τ).loc main_arg2))

theorem d_at (n : Fin 16384) : mat (dV m c) n = dot (mat (m ((c.tc : Thread nD τ).loc main_arg1)) n) (mat (m ((c.tc : Thread nD τ).loc main_arg2))) := by
  funext j; unfold mat dV; pointwise <;> rfl

/-- The reference's result is its stages composed. -/
theorem res_eq : res_main_v59 m c = lnV (resV (lnV (resV (m ((c.tc : Thread nD τ).loc main_arg0)) (dV m c)) (m ((c.tc : Thread nD τ).loc main_arg3)) (m ((c.tc : Thread nD τ).loc main_arg4))) (ffnV (lnV (resV (m ((c.tc : Thread nD τ).loc main_arg0)) (dV m c)) (m ((c.tc : Thread nD τ).loc main_arg3)) (m ((c.tc : Thread nD τ).loc main_arg4))) (m ((c.tc : Thread nD τ).loc main_arg7)) (m ((c.tc : Thread nD τ).loc main_arg8)))) (m ((c.tc : Thread nD τ).loc main_arg5)) (m ((c.tc : Thread nD τ).loc main_arg6)) := by
  unfold res_main_v59; rfl

theorem ref_eq : (res_main_v59 m c : S16384x1024.Idx → EReal) = mix (m ((c.tc : Thread nD τ).loc main_arg0)) (fun n => dot (mat (m ((c.tc : Thread nD τ).loc main_arg1)) n) (mat (m ((c.tc : Thread nD τ).loc main_arg2))))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  idx_vars i
  rw [res_eq]
  show mat (lnV _ _ _) i0 i1 = _
  rw [ln_at, res_at, ffn_at, ln_at, res_at, d_at]
  rfl

end Cert.Mix.OddRef

end
-- ==== Proof.MixEvenRef.lean ====
/- The reference's result row by row: the same block on every row. -/
module

public import proofs.«01_k».proof.Proof.Gen.Reference2Ideal.Run
public import proofs.«01_k».proof.Proof.MixMath

@[expose] public section

set_option maxRecDepth 16384

noncomputable section

open Idealize.ShloMosaic Idealize.ShloMosaic.TcCoe Idealize.SL.Sem
open Idealize.ShloMosaic.Pipeline (Dat)
open scoped BigOperators

open Cert.Reference2Ideal Cert.Reference2Ideal.Gen Cert.Reference2Ideal.Value

namespace Cert.Mix.EvenRef

/-- The rows' means, spread over the rows. -/
def meanV (v : FVec Ideal S16384x1024 .f32) : FVec Ideal S16384x1024 .f32 :=
  (broadcastInDim S16384x1024 ![0, 1] bcast_S16384x1_S16384x1024_0_1 (Host.divf (broadcastInDim S16384x1 ![0] bcast_S16384_S16384x1_0 (Host.reduceAdd v (constant S_ .f32 0x00000000#32) reducesTo_S16384x1024_S16384_d1 h_S_)) (broadcastInDim S16384x1 ![] bcast_S_S16384x1 (constant S_ .f32 0x44800000#32))))

theorem mean_at (v : FVec Ideal S16384x1024 .f32) (n : Fin 16384) (j : Fin 1024) : meanV v (ix2 n j) = mean (mat v n) := by
  unfold meanV; pointwise <;> rfl

/-- The reference's layer normalisation. -/
def lnV (v : FVec Ideal S16384x1024 .f32) (g b : FVec Ideal S1024 .f32) : FVec Ideal S16384x1024 .f32 :=
  addf (mulf (mulf (subf v (meanV v)) (broadcastInDim S16384x1024 ![0, 1] bcast_S16384x1_S16384x1024_0_1 (Host.rsqrt (addf (Host.divf (broadcastInDim S16384x1 ![0] bcast_S16384_S16384x1_0 (Host.reduceAdd (mulf (subf v (meanV v)) (subf v (meanV v))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

theorem ln_at (v : FVec Ideal S16384x1024 .f32) (g b : FVec Ideal S1024 .f32) (n : Fin 16384) :
    mat (lnV v g b) n = ln (vec g) (vec b) (mat v n) := by
  funext j; show lnV v g b (ix2 n j) = _; unfold lnV; pointwise [mean_at] <;> rfl

/-- The scaled residual plus what is mixed in. -/
def resV (x d : FVec Ideal S16384x1024 .f32) : FVec Ideal S16384x1024 .f32 :=
  addf (mulf (broadcastInDim S16384x1024 ![] bcast_S_S16384x1024 (constant S_ .f32 0x3FB504F3#32)) x) d

theorem res_at (x d : FVec Ideal S16384x1024 .f32) (n : Fin 16384) : mat (resV x d) n = fun k => s2 * mat x n k + mat d n k := by
  funext j; unfold mat resV; pointwise <;> rfl

/-- The reference's squared-ReLU network. -/
def ffnV (y : FVec Ideal S16384x1024 .f32) (w1 : FVec Ideal S1024x4096 .f32) (w2 : FVec Ideal S4096x1024 .f32) : FVec Ideal S16384x1024 .f32 :=
  Host.dotGeneral dot_S16384x4096_S4096x1024_S16384x1024_1_0_0_1_n_n none (mulf (maximumf (Host.dotGeneral dot_S16384x1024_S1024x4096_S16384x4096_1_0_0_1_n_n none y w1) (broadcastInDim S16384x4096 ![] bcast_S_S16384x4096 (constant S_ .f32 0x00000000#32))) (maximumf (Host.dotGeneral dot_S16384x1024_S1024x4096_S16384x4096_1_0_0_1_n_n none y w1) (broadcastInDim S16384x4096 ![] bcast_S_S16384x4096 (constant S_ .f32 0x00000000#32)))) w2

theorem ffn_at (y : FVec Ideal S16384x1024 .f32) (w1 : FVec Ideal S1024x4096 .f32) (w2 : FVec Ideal S4096x1024 .f32) (n : Fin 16384) :
    mat (ffnV y w1 w2) n = ffn (mat w1) (mat w2) (mat y n) := by
  funext j; unfold mat ffnV; pointwise <;> rfl

variable (m : (ℓ : Loc nD τ sig) → Buf (Elt Ideal) ℓ) (c : Dev nD)

/-- What is mixed into the residual. -/
def dV : FVec Ideal S16384x1024 .f32 :=
  Host.dotGeneral (φ₁ := .f32) (φ₂ := .f32) dot_S16384x1024_S1024x1024_S16384x1024_1_0_0_1_n_n none (concatenate S16384x1024 1 [⟨S16384x512, (extf .f32 (m ((c.tc : Thread nD τ).loc main_arg1)) bitsLt_bf16_f32)⟩, ⟨S16384x512, (extf .f32 (m ((c.tc : Thread nD τ).loc main_arg2)) bitsLt_bf16_f32)⟩] concatenates_S16384x512_S16384x512_S16384x1024_d1) (m ((c.tc : Thread nD τ).loc main_arg3))

theorem d_at (n : Fin 16384) : mat (dV m c) n = fun j => dot (mat (m ((c.tc : Thread nD τ).loc main_arg1)) n) (top (mat (m ((c.tc : Thread nD τ).loc main_arg3)))) j + dot (mat (m ((c.tc : Thread nD τ).loc main_arg2)) n) (bot (mat (m ((c.tc : Thread nD τ).loc main_arg3)))) j := by
  funext j; unfold mat dV; pointwise <;> rfl

/-- The reference's result is its stages composed. -/
theorem res_eq : res_main_v61 m c = lnV (resV (lnV (resV (m ((c.tc : Thread nD τ).loc main_arg0)) (dV m c)) (m ((c.tc : Thread nD τ).loc main_arg4)) (m ((c.tc : Thread nD τ).loc main_arg5))) (ffnV (lnV (resV (m ((c.tc : Thread nD τ).loc main_arg0)) (dV m c)) (m ((c.tc : Thread nD τ).loc main_arg4)) (m ((c.tc : Thread nD τ).loc main_arg5))) (m ((c.tc : Thread nD τ).loc main_arg8)) (m ((c.tc : Thread nD τ).loc main_arg9)))) (m ((c.tc : Thread nD τ).loc main_arg6)) (m ((c.tc : Thread nD τ).loc main_arg7)) := by
  unfold res_main_v61; rfl

theorem ref_eq : (res_main_v61 m c : S16384x1024.Idx → EReal) = mix (m ((c.tc : Thread nD τ).loc main_arg0)) (fun n => fun j => dot (mat (m ((c.tc : Thread nD τ).loc main_arg1)) n) (top (mat (m ((c.tc : Thread nD τ).loc main_arg3)))) j + dot (mat (m ((c.tc : Thread nD τ).loc main_arg2)) n) (bot (mat (m ((c.tc : Thread nD τ).loc main_arg3)))) j)
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  idx_vars i
  rw [res_eq]
  show mat (lnV _ _ _) i0 i1 = _
  rw [ln_at, res_at, ffn_at, ln_at, res_at, d_at]
  rfl

end Cert.Mix.EvenRef

end
-- ==== Proof.MixClaim.lean ====
/- The claims about the prompt's feed-forward calls: frames, and that each kernel's result is its reference's. Both
   runs are read at `mix`, and the two programs' arguments agree. -/
module

public import proofs.«01_k».proof.Defs
public import proofs.«01_k».proof.Proof.Gen.Kernel.Frame
public import proofs.«01_k».proof.Proof.Gen.Kernel2.Frame
public import proofs.«01_k».proof.Proof.MixOddFinal
public import proofs.«01_k».proof.Proof.MixEvenFinal
public import proofs.«01_k».proof.Proof.MixOddRef
public import proofs.«01_k».proof.Proof.MixEvenRef

@[expose] public section

set_option maxRecDepth 16384

noncomputable section

open Idealize.ShloMosaic Idealize.ShloMosaic.TcCoe Idealize.SL.Sem
open Idealize.ShloMosaic.Pipeline (Dat)
open scoped BigOperators

namespace Cert.Mix

theorem frame_kernel : Cert.quiescent_Kernel := fun m ρ _ => Cert.Kernel.Gen.frame m ρ
theorem frame_ideal : Cert.quiescent_KernelIdeal := fun m ρ _ => Cert.KernelIdeal.Gen.frame m ρ
theorem frame_kernel2 : Cert.quiescent_Kernel2 := fun m ρ _ => Cert.Kernel2.Gen.frame m ρ
theorem frame_ideal2 : Cert.quiescent_Kernel2Ideal := fun m ρ _ => Cert.Kernel2Ideal.Gen.frame m ρ

/-- The reference runs on the host and declares no semaphore. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference runs on the host and declares no semaphore. -/
theorem frame_ref2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's result is the reference's. -/
theorem algebraic : Cert.algebraic_KernelIdeal_ReferenceIdeal := by
  intro m ρ m' ρ' _ hag
  refine ⟨fun c => Odd.outArr m c, ?_, ?_⟩
  · exact (θ_run Cert.KernelIdeal.defs _ _).mono (fun _ h c =>
      ⟨(h c).1.trans (Odd.final m c), (h c).2⟩) (Cert.KernelIdeal.Value.run_blocks (F := Ideal) m ρ)
  · refine (θ_run Cert.ReferenceIdeal.defs _ _).mono (fun _ h c =>
      ⟨(h c).1.trans ((OddRef.ref_eq m' c).trans ?_), (h c).2⟩) (Cert.ReferenceIdeal.Value.run (F := Ideal) m' ρ')
    obtain ⟨h0, h1, h2, h3, h4, h5, h6, h7, h8⟩ := hag c
    unfold Odd.outArr
    rw [h0, h1, h2, h3, h4, h5, h6, h7, h8]

/-- The kernel's result is the reference's. -/
theorem algebraic2 : Cert.algebraic_Kernel2Ideal_Reference2Ideal := by
  intro m ρ m' ρ' _ hag
  refine ⟨fun c => Even.outArr m c, ?_, ?_⟩
  · exact (θ_run Cert.Kernel2Ideal.defs _ _).mono (fun _ h c =>
      ⟨(h c).1.trans (Even.final m c), (h c).2⟩) (Cert.Kernel2Ideal.Value.run_blocks (F := Ideal) m ρ)
  · refine (θ_run Cert.Reference2Ideal.defs _ _).mono (fun _ h c =>
      ⟨(h c).1.trans ((EvenRef.ref_eq m' c).trans ?_), (h c).2⟩) (Cert.Reference2Ideal.Value.run (F := Ideal) m' ρ')
    obtain ⟨h0, h1, h2, h3, h4, h5, h6, h7, h8, h9⟩ := hag c
    unfold Even.outArr
    rw [h0, h1, h2, h3, h4, h5, h6, h7, h8, h9]

end Cert.Mix

end
-- ==== Proof.S5Math.lean ====
/- The mathematics of one step of the diagonal state-space layer over the extended reals, and the two facts about sums
   that relate a product with a block-diagonal matrix to the sum within one channel group. -/
module

public import Idealize.ShloMosaic.Lib.Pointwise
public import Idealize.ShloMosaic.PureOps.Ideal

@[expose] public section

set_option maxRecDepth 16384

noncomputable section

open Idealize.ShloMosaic
open scoped BigOperators

namespace Cert.S5

/-! ## The discretised coefficients of one state -/

/-- Real part of `exp (λ dt)`, for `λ = a + i b` and `dt = exp l`. -/
def aR (a b l : EReal) : EReal := Ideal.exp (a * Ideal.exp l) * Ideal.cos (b * Ideal.exp l)
/-- Imaginary part of `exp (λ dt)`. -/
def aI (a b l : EReal) : EReal := Ideal.exp (a * Ideal.exp l) * Ideal.sin (b * Ideal.exp l)
/-- Real part of `(exp (λ dt) - 1) / λ`. -/
def qR (a b l : EReal) : EReal := Ideal.div ((aR a b l - 1) * a + aI a b l * b) (a * a + b * b)
/-- Imaginary part of `(exp (λ dt) - 1) / λ`. -/
def qI (a b l : EReal) : EReal := Ideal.div (aI a b l * a - (aR a b l - 1) * b) (a * a + b * b)
/-- Real part of the input coefficient `(exp (λ dt) - 1) / λ * (br + i bi)`. -/
def bR (a b l br bi : EReal) : EReal := qR a b l * br - qI a b l * bi
/-- Imaginary part of the input coefficient. -/
def bI (a b l br bi : EReal) : EReal := qR a b l * bi + qI a b l * br

/-! ## Block-diagonal products -/

/-- An entry of the identity matrix as the programs make it: two counters compared and the bit converted. -/
theorem eye_eq (a b : ℕ) (ha : a < 8) (hb : b < 8) :
    FloatOps.uitofp (F := Ideal) FTy.f32
      (IntOp.cmpi CmpIPredicate.eq (IntOp.addi (BitVec.ofNat 32 a) 0#32) (BitVec.ofNat 32 b))
      = (if a = b then (1 : EReal) else 0) := by
  have key : ∀ a b : Fin 8, IntOp.cmpi CmpIPredicate.eq (IntOp.addi (BitVec.ofNat 32 a) 0#32) (BitVec.ofNat 32 b)
      = if a.val = b.val then 1#1 else 0#1 := by decide
  rw [show IntOp.cmpi CmpIPredicate.eq (IntOp.addi (BitVec.ofNat 32 a) 0#32) (BitVec.ofNat 32 b)
      = if a = b then 1#1 else 0#1 from key ⟨a, ha⟩ ⟨b, hb⟩]
  by_cases h : a = b
  · rw [if_pos h, if_pos h]
    show (((1#1 : BitVec 1).toNat : ℝ) : EReal) = 1
    norm_num
  · rw [if_neg h, if_neg h]
    show (((0#1 : BitVec 1).toNat : ℝ) : EReal) = 0
    norm_num

/-- A sum over `A` groups of `B` terms each, all but group `G`'s being zero, is the sum of that group. -/
theorem sum_group {A B N : ℕ} (hN : A * B = N) (G : ℕ) (hG : G < A) (f : Fin N → EReal)
    (hf : ∀ k : Fin N, (k : ℕ) / B ≠ G → f k = 0) :
    ∑ k, f k = ∑ c : Fin B, f ⟨G * B + c, by
      have := c.isLt; calc G * B + c < G * B + B := by omega
        _ = (G + 1) * B := by ring
        _ ≤ A * B := Nat.mul_le_mul_right _ hG
        _ = N := hN⟩ := by
  symm
  have hlt : ∀ c : Fin B, G * B + c < N := fun c => by
    have := c.isLt; calc G * B + c < G * B + B := by omega
        _ = (G + 1) * B := by ring
        _ ≤ A * B := Nat.mul_le_mul_right _ hG
        _ = N := hN
  refine Finset.sum_of_injOn (fun c : Fin B => (⟨G * B + c, hlt c⟩ : Fin N)) ?_ ?_ ?_ ?_
  · intro x _ y _ h
    have : G * B + (x : ℕ) = G * B + y := congrArg Fin.val h
    exact Fin.ext (by omega)
  · intro x _; simp
  · intro k _ hk
    refine hf k fun h => hk ?_
    have hB : 0 < B := by
      rcases Nat.eq_zero_or_pos B with h0 | h0
      · have := k.isLt
        rw [h0, Nat.mul_zero] at hN
        omega
      · exact h0
    refine ⟨⟨(k : ℕ) % B, Nat.mod_lt _ hB⟩, by simp, Fin.ext ?_⟩
    show G * B + (k : ℕ) % B = k
    rw [← h, Nat.mul_comm]; exact Nat.div_add_mod _ _
  · intro x _; rfl

/-- One column of the slab product: lane `s` of the 2048 states takes only its own group's 16 channels. -/
theorem in_sum (u : Fin 512 → EReal) (β : Fin 32 → Fin 64 → Fin 16 → EReal) (s : Fin 2048) :
    (∑ k : Fin 128, u ⟨s / 512 * 128 + k, by omega⟩ * (β ⟨s / 512 * 8 + k / 16, by omega⟩ ⟨s % 512 % 64, by omega⟩ ⟨k % 16, by omega⟩
      * if (k : ℕ) / 16 = s % 512 / 64 then 1 else 0))
    = ∑ c : Fin 16, u ⟨s / 64 * 16 + c, by omega⟩ * β ⟨s / 64, by omega⟩ ⟨s % 64, by omega⟩ c := by
  rw [sum_group (A := 8) (B := 16) rfl ((s : ℕ) % 512 / 64) (by omega)]
  · refine Finset.sum_congr rfl fun c _ => ?_
    rw [if_pos (show ((s : ℕ) % 512 / 64 * 16 + c) / 16 = s % 512 / 64 by omega), mul_one]
    congr 1
    · exact congrArg u (Fin.ext (by show _ + _ = _ + _; dsimp only; omega))
    · congr 1
      · exact Fin.ext (by show _ + _ = _; dsimp only; omega)
      · exact Fin.ext (by dsimp only; omega)
      · exact Fin.ext (by dsimp only; omega)
  · intro k hk
    rw [if_neg hk, mul_zero, mul_zero]

/-- One column of the slab readout: channel `j` of the 512 takes only its own group's 64 states. -/
theorem out_sum (h : Fin 2048 → EReal) (γ : Fin 32 → Fin 16 → Fin 64 → EReal) (j : Fin 512) :
    (∑ x : Fin 512, h ⟨j / 128 * 512 + x, by omega⟩ * (γ ⟨j / 128 * 8 + x / 64, by omega⟩ ⟨j % 128 % 16, by omega⟩ ⟨x % 64, by omega⟩
      * if (x : ℕ) / 64 = j % 128 / 16 then 1 else 0))
    = ∑ p : Fin 64, h ⟨j / 16 * 64 + p, by omega⟩ * γ ⟨j / 16, by omega⟩ ⟨j % 16, by omega⟩ p := by
  rw [sum_group (A := 8) (B := 64) rfl ((j : ℕ) % 128 / 16) (by omega)]
  · refine Finset.sum_congr rfl fun c _ => ?_
    rw [if_pos (show ((j : ℕ) % 128 / 16 * 64 + c) / 64 = j % 128 / 16 by omega), mul_one]
    congr 1
    · exact congrArg h (Fin.ext (by show _ + _ = _ + _; dsimp only; omega))
    · congr 1
      · exact Fin.ext (by show _ + _ = _; dsimp only; omega)
      · exact Fin.ext (by dsimp only; omega)
      · exact Fin.ext (by dsimp only; omega)
  · intro k hk
    rw [if_neg hk, mul_zero, mul_zero]

/-! ## The step -/

/-- The inputs of one step for 32 sequences: 32 groups of 64 states, each group reading and writing 16 channels. -/
structure Inp where
  x : Fin 32 → Fin 1024 → EReal
  hr : Fin 32 → Fin 32 → Fin 64 → EReal
  hi : Fin 32 → Fin 32 → Fin 64 → EReal
  w : Fin 1024 → Fin 512 → EReal
  a : Fin 32 → Fin 64 → EReal
  b : Fin 32 → Fin 64 → EReal
  br : Fin 32 → Fin 64 → Fin 16 → EReal
  bi : Fin 32 → Fin 64 → Fin 16 → EReal
  cr : Fin 32 → Fin 16 → Fin 64 → EReal
  ci : Fin 32 → Fin 16 → Fin 64 → EReal
  d : Fin 32 → Fin 16 → EReal
  l : Fin 32 → EReal
  wg : Fin 512 → Fin 512 → EReal

variable (I : Inp)

/-- The projected input. -/
def U (n : Fin 32) (j : Fin 512) : EReal := ∑ k, I.x n k * I.w k j
/-- Channel `c` of group `g` as a column. -/
def chan (g : Fin 32) (c : Fin 16) : Fin 512 := ⟨g * 16 + c, by omega⟩
theorem chan_dm (j : Fin 512) (h : (j : ℕ) / 16 < 32) (h' : (j : ℕ) % 16 < 16) : chan ⟨j / 16, h⟩ ⟨j % 16, h'⟩ = j :=
  Fin.ext (Nat.div_add_mod' _ _)
/-- Real part of the new state. -/
def HR (n g : Fin 32) (p : Fin 64) : EReal :=
  (∑ c : Fin 16, U I n (chan g c) * bR (I.a g p) (I.b g p) (I.l g) (I.br g p c) (I.bi g p c))
    + (aR (I.a g p) (I.b g p) (I.l g) * I.hr n g p - aI (I.a g p) (I.b g p) (I.l g) * I.hi n g p)
/-- Imaginary part of the new state. -/
def HI (n g : Fin 32) (p : Fin 64) : EReal :=
  (∑ c : Fin 16, U I n (chan g c) * bI (I.a g p) (I.b g p) (I.l g) (I.br g p c) (I.bi g p c))
    + (aR (I.a g p) (I.b g p) (I.l g) * I.hi n g p + aI (I.a g p) (I.b g p) (I.l g) * I.hr n g p)
/-- The readout of channel `j` of the 512, with the direct term. -/
def Y (n : Fin 32) (j : Fin 512) : EReal :=
  ((∑ p : Fin 64, HR I n ⟨j / 16, by omega⟩ p * I.cr ⟨j / 16, by omega⟩ ⟨j % 16, by omega⟩ p)
    + ∑ p : Fin 64, HI I n ⟨j / 16, by omega⟩ p * -(I.ci ⟨j / 16, by omega⟩ ⟨j % 16, by omega⟩ p))
    + I.d ⟨j / 16, by omega⟩ ⟨j % 16, by omega⟩ * U I n j
/-- The activation (the tanh form), its cube taken as `y (y y)`. -/
def act (y : EReal) : EReal := y * (Ideal.ofBits .f32 0x3F000000#32 * (1 + Ideal.tanh (Ideal.ofBits .f32 0x3F4C422A#32 *
  (y + Ideal.ofBits .f32 0x3D372713#32 * (y * (y * y))))))
/-- The readout after the activation (the tanh form). -/
def YG (n : Fin 32) (j : Fin 512) : EReal := act (Y I n j)
/-- The gated output. -/
def OUT (n : Fin 32) (j : Fin 512) : EReal := YG I n j * Ideal.logistic (∑ k, YG I n k * I.wg k j)

/-- A flat state index as group and state. -/
def hrAt (n : Fin 32) (s : Fin 2048) : EReal := HR I n ⟨s / 64, by omega⟩ ⟨s % 64, by omega⟩
/-- The same of the imaginary part. -/
def hiAt (n : Fin 32) (s : Fin 2048) : EReal := HI I n ⟨s / 64, by omega⟩ ⟨s % 64, by omega⟩

/-- The readout from the flat states. -/
theorem y_flat (n : Fin 32) (j : Fin 512) :
    ((∑ p : Fin 64, hrAt I n ⟨j / 16 * 64 + p, by omega⟩ * I.cr ⟨j / 16, by omega⟩ ⟨j % 16, by omega⟩ p)
    + ∑ p : Fin 64, hiAt I n ⟨j / 16 * 64 + p, by omega⟩ * -(I.ci ⟨j / 16, by omega⟩ ⟨j % 16, by omega⟩ p))
    + I.d ⟨j / 16, by omega⟩ ⟨j % 16, by omega⟩ * U I n j = Y I n j := by
  have h1 : ∀ p : Fin 64, (j / 16 * 64 + (p : ℕ)) / 64 = (j : ℕ) / 16 := fun p => by omega
  have h2 : ∀ p : Fin 64, (j / 16 * 64 + (p : ℕ)) % 64 = (p : ℕ) := fun p => by omega
  simp only [hrAt, hiAt, h1, h2, Y]

end Cert.S5

end
-- ==== Proof.S5Kernel.lean ====
/- What the kernel's windows hold, and what its stores are, entry by entry, in terms of the arguments. -/
module

public import proofs.«01_k».proof.Proof.Gen.Kernel3Ideal.Value
public import proofs.«01_k».proof.Proof.S5Math
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

open Cert.Kernel3Ideal Cert.Kernel3Ideal.Gen Cert.Kernel3Ideal.Value

namespace Cert.S5

variable (m : (ℓ : Loc nD τ sig) → Buf (Elt Ideal) ℓ) (c : Dev nD)

/-- The arguments at launch, as functions. -/
def kInp : Inp where
  x n k := m (c, Proc.tc.devRef main_arg0) (ix3 n 0 k)
  hr n g p := m (c, Proc.tc.devRef main_arg1) (ix3 n g p)
  hi n g p := m (c, Proc.tc.devRef main_arg2) (ix3 n g p)
  w k j := m (c, Proc.tc.devRef main_arg3) (ix2 k j)
  a g p := m (c, Proc.tc.devRef main_arg4) (ix2 g p)
  b g p := m (c, Proc.tc.devRef main_arg5) (ix2 g p)
  br g p k := m (c, Proc.tc.devRef main_arg6) (ix3 g p k)
  bi g p k := m (c, Proc.tc.devRef main_arg7) (ix3 g p k)
  cr g k p := m (c, Proc.tc.devRef main_arg8) (ix3 g k p)
  ci g k p := m (c, Proc.tc.devRef main_arg9) (ix3 g k p)
  d g k := m (c, Proc.tc.devRef main_arg10) (ix2 g k)
  l g := m (c, Proc.tc.devRef main_arg11) (ix1 g)
  wg k j := m (c, Proc.tc.devRef main_arg12) (ix2 k j)

/-! ## The arrays the host code prepares -/

theorem e107 (n : Fin 32) (k : Fin 1024) : V m c main_v107 (ix2 n k) = (kInp m c).x n k := by
  entry_read; pointwise; simp only [kInp, aR, aI]
theorem e108 (n : Fin 32) (s : Fin 2048) :
    V m c main_v108 (ix2 n s) = (kInp m c).hr n ⟨s / 64, by omega⟩ ⟨s % 64, by omega⟩ := by
  entry_read; pointwise; simp only [kInp, aR, aI]
theorem e109 (n : Fin 32) (s : Fin 2048) :
    V m c main_v109 (ix2 n s) = (kInp m c).hi n ⟨s / 64, by omega⟩ ⟨s % 64, by omega⟩ := by
  entry_read; pointwise; simp only [kInp, aR, aI]
theorem e110 (k : Fin 1024) (j : Fin 512) : V m c main_v110 (ix2 k j) = (kInp m c).w k j := by
  entry_read; pointwise; simp only [kInp, aR, aI]
theorem e111 (j : Fin 512) : V m c main_v111 (ix2 0 j) = (kInp m c).d ⟨j / 16, by omega⟩ ⟨j % 16, by omega⟩ := by
  entry_read; pointwise; simp only [kInp, aR, aI]
theorem e112 (k j : Fin 512) : V m c main_v112 (ix2 k j) = (kInp m c).wg k j := by
  entry_read; pointwise; simp only [kInp, aR, aI]
theorem e105 (s : Fin 2048) : V m c main_v105 (ix2 0 s) = aR ((kInp m c).a ⟨s / 64, by omega⟩ ⟨s % 64, by omega⟩)
    ((kInp m c).b ⟨s / 64, by omega⟩ ⟨s % 64, by omega⟩) ((kInp m c).l ⟨s / 64, by omega⟩) := by
  entry_read; pointwise; simp only [kInp, aR, aI]
theorem e106 (s : Fin 2048) : V m c main_v106 (ix2 0 s) = aI ((kInp m c).a ⟨s / 64, by omega⟩ ⟨s % 64, by omega⟩)
    ((kInp m c).b ⟨s / 64, by omega⟩ ⟨s % 64, by omega⟩) ((kInp m c).l ⟨s / 64, by omega⟩) := by
  entry_read; pointwise; simp only [kInp, aR, aI]
/-- The input matrix of the four slabs: 128 channels to 512 real and 512 imaginary parts, block diagonal. -/
theorem e71 (q : Fin 4) (r : Fin 128) (s : Fin 1024) : V m c main_v71 (ix3 q r s) =
    if h : (s : ℕ) < 512 then
      bR ((kInp m c).a ⟨q * 8 + r / 16, by omega⟩ ⟨s % 64, by omega⟩) ((kInp m c).b ⟨q * 8 + r / 16, by omega⟩ ⟨s % 64, by omega⟩)
        ((kInp m c).l ⟨q * 8 + r / 16, by omega⟩) ((kInp m c).br ⟨q * 8 + r / 16, by omega⟩ ⟨s % 64, by omega⟩ ⟨r % 16, by omega⟩)
        ((kInp m c).bi ⟨q * 8 + r / 16, by omega⟩ ⟨s % 64, by omega⟩ ⟨r % 16, by omega⟩)
        * if (r : ℕ) / 16 = s / 64 then 1 else 0
    else
      bI ((kInp m c).a ⟨q * 8 + r / 16, by omega⟩ ⟨(s - 512) % 64, by omega⟩) ((kInp m c).b ⟨q * 8 + r / 16, by omega⟩ ⟨(s - 512) % 64, by omega⟩)
        ((kInp m c).l ⟨q * 8 + r / 16, by omega⟩) ((kInp m c).br ⟨q * 8 + r / 16, by omega⟩ ⟨(s - 512) % 64, by omega⟩ ⟨r % 16, by omega⟩)
        ((kInp m c).bi ⟨q * 8 + r / 16, by omega⟩ ⟨(s - 512) % 64, by omega⟩ ⟨r % 16, by omega⟩)
        * if (r : ℕ) / 16 = (s - 512) / 64 then 1 else 0 := by
  entry_read; pointwise
  by_cases h : (s : ℕ) < 512
  · simp only [h, ↓reduceDIte, eye_eq _ _ (show (r : ℕ) / 16 < 8 by omega) (show (s : ℕ) / 64 < 8 by omega), kInp, bR, bI, qR, qI, aR, aI]
  · simp only [h, ↓reduceDIte, eye_eq _ _ (show (r : ℕ) / 16 < 8 by omega) (show ((s : ℕ) - 512) / 64 < 8 by omega), kInp, bR, bI, qR, qI, aR, aI]
/-- The readout matrix of the four slabs: 512 real and 512 imaginary parts to 128 channels, block diagonal. -/
theorem e104 (q : Fin 4) (s : Fin 1024) (r : Fin 128) : V m c main_v104 (ix3 q s r) =
    if h : (s : ℕ) < 512 then
      (kInp m c).cr ⟨q * 8 + s / 64, by omega⟩ ⟨r % 16, by omega⟩ ⟨s % 64, by omega⟩
        * if (s : ℕ) / 64 = r / 16 then 1 else 0
    else
      -((kInp m c).ci ⟨q * 8 + (s - 512) / 64, by omega⟩ ⟨r % 16, by omega⟩ ⟨(s - 512) % 64, by omega⟩)
        * if ((s : ℕ) - 512) / 64 = r / 16 then 1 else 0 := by
  entry_read; pointwise
  by_cases h : (s : ℕ) < 512
  · simp only [h, ↓reduceDIte, eye_eq _ _ (show (s : ℕ) / 64 < 8 by omega) (show (r : ℕ) / 16 < 8 by omega), kInp, bR, bI, qR, qI, aR, aI]
  · simp only [h, ↓reduceDIte, eye_eq _ _ (show ((s : ℕ) - 512) / 64 < 8 by omega) (show (r : ℕ) / 16 < 8 by omega), kInp, bR, bI, qR, qI, aR, aI]

end Cert.S5

end
-- ==== Proof.S5Pay.lean ====
/- The kernel's stored values as functions of the window contents. -/
module

public import proofs.«01_k».proof.Proof.Gen.Kernel3Ideal.Value
public import proofs.«01_k».proof.Proof.S5Math
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

open Cert.Kernel3Ideal Cert.Kernel3Ideal.Gen Cert.Kernel3Ideal.Value

namespace Cert.S5

variable (x0 : Vec Ideal S32x1024 .f32) (x1 x2 : Vec Ideal S32x2048 .f32) (x3 : Vec Ideal S1024x512 .bf16)
  (x4 : Vec Ideal S4x128x1024 .bf16) (x5 x6 : Vec Ideal S1x2048 .f32) (x7 : Vec Ideal S4x1024x128 .bf16)
  (x8 : Vec Ideal S1x512 .f32) (x9 : Vec Ideal S512x512 .bf16)

theorem pay2_eq (n : Fin 32) (j : Fin 512) : k0_pay2 x0 x3 (ix2 n j) = ∑ k : Fin 1024, x0 (ix2 n k) * x3 (ix2 k j) := by
  pointwise [k0_pay2]

theorem ld0 : View.ld x0 r0_0 = x0 := by
  funext i; idx_vars i; pointwise
theorem ld3 : View.ld x3 r0_1 = x3 := by
  funext i; idx_vars i; pointwise

/-- One product of the slab sum, its indices given two ways. -/
theorem term_congr {n : Fin 32} {a a' : Fin 512} {q q' : Fin 4} {k : Fin 128} {s s' : Fin 1024}
    (u : FVec Ideal S32x512 .f32) (w : Vec Ideal S4x128x1024 .bf16)
    (ha : (a : ℕ) = a') (hq : (q : ℕ) = q') (hs : (s : ℕ) = s') :
    u (ix2 n a) * w (ix3 q k s) = u (ix2 n a') * w (ix3 q' k s') := by
  rw [Fin.ext ha, Fin.ext hq, Fin.ext hs]

theorem pay21_eq (n : Fin 32) (s : Fin 2048) : k0_pay21 x0 x1 x2 x3 x4 x5 x6 x7 x8 x9 (ix2 n s)
    = ∑ k : Fin 128, k0_pay2 x0 x3 (ix2 n ⟨s / 512 * 128 + k, by omega⟩)
        * x4 (ix3 ⟨s / 512, by omega⟩ k ⟨s % 512, by omega⟩) := by
  pointwise [k0_pay21, k0_pay8, k0_pay4, k0_pay5, k0_pay6, k0_pay7, k0_pay3]
  simp only [ld0, ld3]
  split_ifs <;> refine Finset.sum_congr rfl fun k _ => term_congr _ x4 ?_ ?_ ?_
  all_goals first | rfl | (show _ = _ ; dsimp only; omega) | (show (0 : ℕ) = _; omega) | (show (1 : ℕ) = _; omega) | (show (2 : ℕ) = _; omega) | (show (3 : ℕ) = _; omega)

theorem pay22_eq (n : Fin 32) (s : Fin 2048) : k0_pay22 x0 x1 x2 x3 x4 x5 x6 x7 x8 x9 (ix2 n s)
    = ∑ k : Fin 128, k0_pay2 x0 x3 (ix2 n ⟨s / 512 * 128 + k, by omega⟩)
        * x4 (ix3 ⟨s / 512, by omega⟩ k ⟨s % 512 + 512, by omega⟩) := by
  pointwise [k0_pay22, k0_pay9, k0_pay4, k0_pay5, k0_pay6, k0_pay7, k0_pay3]
  simp only [ld0, ld3]
  split_ifs <;> refine Finset.sum_congr rfl fun k _ => term_congr _ x4 ?_ ?_ ?_
  all_goals first | rfl | (show _ = _ ; dsimp only; omega) | (show (0 : ℕ) = _; omega) | (show (1 : ℕ) = _; omega) | (show (2 : ℕ) = _; omega) | (show (3 : ℕ) = _; omega)

/-- The new state's real part as the kernel computes it. -/
theorem out11_eq (n : Fin 32) (s : Fin 2048) : out0_11 x0 x1 x2 x3 x4 x5 x6 x7 x8 x9 (ix2 n s)
    = k0_pay21 x0 x1 x2 x3 x4 x5 x6 x7 x8 x9 (ix2 n s)
      + (x5 (ix2 0 s) * x1 (ix2 n s) - x6 (ix2 0 s) * x2 (ix2 n s)) := by
  unfold out0_11
  frame_out
  pointwise [k0_pay14, k0_pay23, k0_pay10, k0_pay11, k0_pay12, k0_pay13]

/-- The new state's imaginary part as the kernel computes it. -/
theorem out12_eq (n : Fin 32) (s : Fin 2048) : out0_12 x0 x1 x2 x3 x4 x5 x6 x7 x8 x9 (ix2 n s)
    = k0_pay22 x0 x1 x2 x3 x4 x5 x6 x7 x8 x9 (ix2 n s)
      + (x5 (ix2 0 s) * x2 (ix2 n s) + x6 (ix2 0 s) * x1 (ix2 n s)) := by
  unfold out0_12
  frame_out
  pointwise [k0_pay15, k0_pay23, k0_pay10, k0_pay11, k0_pay12, k0_pay13]

/-- The readout's four slabs side by side, with the direct term. -/
def yCat (v5 : FVec Ideal S32x512 .f32) (v62 v66 v70 : FVec Ideal S32x1024 .bf16)
   (v73 : FVec Ideal S32x128 .f32) (v75 : FVec Ideal S1024x128 .bf16) (v77 v80 : FVec Ideal S1x1024x128 .bf16)
   (x8 : Vec Ideal S1x512 .f32) (n : Fin 32) (j : Fin 512) : EReal :=
  (if h : (j : ℕ) < 128 then v73 (ix2 n ⟨j, by omega⟩)
    else if h : (j : ℕ) - 128 < 128 then ∑ x, v62 (ix2 n x) * v75 (ix2 x ⟨j - 128, by omega⟩)
    else if h : (j : ℕ) - 128 - 128 < 128 then ∑ x, v66 (ix2 n x) * v77 (ix3 0 x ⟨j - 128 - 128, by omega⟩)
    else ∑ x, v70 (ix2 n x) * v80 (ix3 0 x ⟨j - 128 - 128 - 128, by omega⟩)) + x8 (ix2 0 j) * v5 (ix2 n j)

theorem pay1_eq (n : Fin 32) (j : Fin 512) (v5 : FVec Ideal S32x512 .f32) (v62 v66 v70 : FVec Ideal S32x1024 .bf16)
   (v73 : FVec Ideal S32x128 .f32) (v75 : FVec Ideal S1024x128 .bf16) (v77 v80 : FVec Ideal S1x1024x128 .bf16) :
   k0_pay1 v5 v62 v66 v70 v73 v75 (constant S32x128 .f32 0x00000000#32) v77 v80 x8 x9 (ix2 n j)
    = act (yCat v5 v62 v66 v70 v73 v75 v77 v80 x8 n j)
      * Ideal.logistic (∑ x, act (yCat v5 v62 v66 v70 v73 v75 v77 v80 x8 n x) * x9 (ix2 x j)) := by
  pointwise [k0_pay1]
  simp only [act, yCat]

theorem term7_congr {n : Fin 32} {a a' : Fin 2048} {q q' : Fin 4} {k k' : Fin 1024} {s s' : Fin 128}
    (u : FVec Ideal S32x2048 .f32) (w : Vec Ideal S4x1024x128 .bf16)
    (ha : (a : ℕ) = a') (hq : (q : ℕ) = q') (hk : (k : ℕ) = k') (hs : (s : ℕ) = s') :
    u (ix2 n a) * w (ix3 q k s) = u (ix2 n a') * w (ix3 q' k' s') := by
  rw [Fin.ext ha, Fin.ext hq, Fin.ext hs, Fin.ext hk]

/-- The readout before the activation, as two sums over the states of column `j`'s slab. -/
theorem yCat_eq (v5 : FVec Ideal S32x512 .f32) (v27 v32 : FVec Ideal S32x2048 .f32) (v34 : FVec Ideal S1x2048 .f32)
    (v35 : Vec Ideal S1x2048 .f32) (v37 v39 : Vec Ideal S32x2048 .f32) (n : Fin 32) (j : Fin 512) :
    yCat v5 (k0_pay16 v27 v32 v34 v35 v37 v39) (k0_pay17 v27 v32 v34 v35 v37 v39) (k0_pay18 v27 v32 v34 v35 v37 v39)
      (k0_pay19 v27 v32 v34 v35 v37 v39 (View.ld x7 r0_8)) (k0_pay20 (View.ld x7 r0_9)) (View.ld x7 r0_10)
      (View.ld x7 r0_11) x8 n j
    = ((∑ x : Fin 512, k0_pay14 v27 v34 v35 v37 v39 (ix2 n ⟨j / 128 * 512 + x, by omega⟩)
          * x7 (ix3 ⟨j / 128, by omega⟩ ⟨x, by omega⟩ ⟨j % 128, by omega⟩))
        + ∑ x : Fin 512, k0_pay15 v32 v34 v35 v37 v39 (ix2 n ⟨j / 128 * 512 + x, by omega⟩)
          * x7 (ix3 ⟨j / 128, by omega⟩ ⟨512 + x, by omega⟩ ⟨j % 128, by omega⟩))
      + x8 (ix2 0 j) * v5 (ix2 n j) := by
  unfold yCat
  refine congrArg (· + _) ?_
  pointwise [k0_pay16, k0_pay17, k0_pay18, k0_pay19, k0_pay20]
  split_ifs <;> refine congrArg₂ (· + ·) (Finset.sum_congr rfl fun x _ => term7_congr _ x7 ?_ ?_ ?_ ?_)
    (Finset.sum_congr rfl fun x _ => term7_congr _ x7 ?_ ?_ ?_ ?_)
  all_goals first | rfl | (show _ = _ ; dsimp only; omega) | (show (0 : ℕ) = _; omega) | (show (1 : ℕ) = _; omega) | (show (2 : ℕ) = _; omega) | (show (3 : ℕ) = _; omega)

theorem out11_pay (n : Fin 32) (s : Fin 2048) : out0_11 x0 x1 x2 x3 x4 x5 x6 x7 x8 x9 (ix2 n s)
    = k0_pay14 (k0_pay21 x0 x1 x2 x3 x4 x5 x6 x7 x8 x9) (k0_pay23 x0 x1 x2 x3 x4 x5 x6 x7 x8 x9) x6 x1 x2 (ix2 n s) := by
  unfold out0_11
  frame_out
theorem out12_pay (n : Fin 32) (s : Fin 2048) : out0_12 x0 x1 x2 x3 x4 x5 x6 x7 x8 x9 (ix2 n s)
    = k0_pay15 (k0_pay22 x0 x1 x2 x3 x4 x5 x6 x7 x8 x9) (k0_pay23 x0 x1 x2 x3 x4 x5 x6 x7 x8 x9) x6 x1 x2 (ix2 n s) := by
  unfold out0_12
  frame_out

/-- The gated output as the kernel computes it, from its own two states. -/
theorem out10_eq (n : Fin 32) (j : Fin 512) (y : Fin 32 → Fin 512 → EReal)
    (hy : ∀ (n : Fin 32) (j : Fin 512), ((∑ x : Fin 512, out0_11 x0 x1 x2 x3 x4 x5 x6 x7 x8 x9 (ix2 n ⟨j / 128 * 512 + x, by omega⟩)
          * x7 (ix3 ⟨j / 128, by omega⟩ ⟨x, by omega⟩ ⟨j % 128, by omega⟩))
        + ∑ x : Fin 512, out0_12 x0 x1 x2 x3 x4 x5 x6 x7 x8 x9 (ix2 n ⟨j / 128 * 512 + x, by omega⟩)
          * x7 (ix3 ⟨j / 128, by omega⟩ ⟨512 + x, by omega⟩ ⟨j % 128, by omega⟩))
      + x8 (ix2 0 j) * k0_pay2 x0 x3 (ix2 n j) = y n j) :
    out0_10 x0 x1 x2 x3 x4 x5 x6 x7 x8 x9 (ix2 n j)
      = act (y n j) * Ideal.logistic (∑ x, act (y n x) * x9 (ix2 x j)) := by
  simp only [out11_pay, out12_pay] at hy
  unfold out0_10
  frame_out
  rw [pay1_eq]
  simp only [yCat_eq, hy]

end Cert.S5

end
-- ==== Proof.S5Out.lean ====
/- The kernel's three result arrays after the run, entry by entry, in terms of the arguments. -/
module

public import proofs.«01_k».proof.Proof.S5Kernel
public import proofs.«01_k».proof.Proof.S5Pay

@[expose] public section

set_option maxRecDepth 16384

noncomputable section

open Idealize.ShloMosaic Idealize.ShloMosaic.TcCoe Idealize.SL.Sem
open Idealize.ShloMosaic.Pipeline (Dat)
open scoped BigOperators

open Cert.Kernel3Ideal Cert.Kernel3Ideal.Gen Cert.Kernel3Ideal.Value

namespace Cert.S5

/-- The real parts as an array. -/
def hrArr (I : Inp) : S32x2048.Idx → EReal := fun i => hrAt I (i 0) (i 1)
/-- The imaginary parts as an array. -/
def hiArr (I : Inp) : S32x2048.Idx → EReal := fun i => hiAt I (i 0) (i 1)
/-- The gated output as an array. -/
def outArr (I : Inp) : S32x512.Idx → EReal := fun i => OUT I (i 0) (i 1)

variable (m : (ℓ : Loc nD τ sig) → Buf (Elt Ideal) ℓ) (c : Dev nD)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

section Blocks
variable (t : Fin cfg0.N)
theorem ib0 (n : Fin 32) (k : Fin 1024) : iblk m c 0 t (ix2 n k) = (kInp m c).x n k := by
  rw [← e107]; blk_point [iblk, idx t]
theorem ib1 (n : Fin 32) (s : Fin 2048) : iblk m c 1 t (ix2 n s) = (kInp m c).hr n ⟨s / 64, by omega⟩ ⟨s % 64, by omega⟩ := by
  rw [← e108]; blk_point [iblk, idx t]
theorem ib2 (n : Fin 32) (s : Fin 2048) : iblk m c 2 t (ix2 n s) = (kInp m c).hi n ⟨s / 64, by omega⟩ ⟨s % 64, by omega⟩ := by
  rw [← e109]; blk_point [iblk, idx t]
theorem ib3 (k : Fin 1024) (j : Fin 512) : iblk m c 3 t (ix2 k j) = (kInp m c).w k j := by
  rw [← e110]; blk_point [iblk, idx t]
theorem ib4 (q : Fin 4) (r : Fin 128) (s : Fin 1024) : iblk m c 4 t (ix3 q r s) = V m c main_v71 (ix3 q r s) := by
  blk_point [iblk, idx t]
theorem ib5 (s : Fin 2048) : iblk m c 5 t (ix2 0 s) = aR ((kInp m c).a ⟨s / 64, by omega⟩ ⟨s % 64, by omega⟩)
    ((kInp m c).b ⟨s / 64, by omega⟩ ⟨s % 64, by omega⟩) ((kInp m c).l ⟨s / 64, by omega⟩) := by
  rw [← e105]; blk_point [iblk, idx t]
theorem ib6 (s : Fin 2048) : iblk m c 6 t (ix2 0 s) = aI ((kInp m c).a ⟨s / 64, by omega⟩ ⟨s % 64, by omega⟩)
    ((kInp m c).b ⟨s / 64, by omega⟩ ⟨s % 64, by omega⟩) ((kInp m c).l ⟨s / 64, by omega⟩) := by
  rw [← e106]; blk_point [iblk, idx t]
theorem ib7 (q : Fin 4) (s : Fin 1024) (r : Fin 128) : iblk m c 7 t (ix3 q s r) = V m c main_v104 (ix3 q s r) := by
  blk_point [iblk, idx t]
theorem ib8 (j : Fin 512) : iblk m c 8 t (ix2 0 j) = (kInp m c).d ⟨j / 16, by omega⟩ ⟨j % 16, by omega⟩ := by
  rw [← e111]; blk_point [iblk, idx t]
theorem ib9 (k j : Fin 512) : iblk m c 9 t (ix2 k j) = (kInp m c).wg k j := by
  rw [← e112]; blk_point [iblk, idx t]

theorem u_eq (n : Fin 32) (j : Fin 512) : k0_pay2 (iblk m c 0 t) (iblk m c 3 t) (ix2 n j) = U (kInp m c) n j := by
  rw [pay2_eq]; simp only [ib0, ib3, U]

/-- The input coefficients' real parts by group, state and channel. -/
def bRf (I : Inp) (g : Fin 32) (p : Fin 64) (k : Fin 16) : EReal := bR (I.a g p) (I.b g p) (I.l g) (I.br g p k) (I.bi g p k)
/-- The input coefficients' imaginary parts. -/
def bIf (I : Inp) (g : Fin 32) (p : Fin 64) (k : Fin 16) : EReal := bI (I.a g p) (I.b g p) (I.l g) (I.br g p k) (I.bi g p k)

theorem ib4r (q : Fin 4) (r : Fin 128) (s : Fin 1024) (h : (s : ℕ) < 512) : iblk m c 4 t (ix3 q r s)
    = bRf (kInp m c) ⟨q * 8 + r / 16, by omega⟩ ⟨s % 64, by omega⟩ ⟨r % 16, by omega⟩ * if (r : ℕ) / 16 = s / 64 then 1 else 0 :=
  (ib4 m c t q r s).trans ((e71 m c q r s).trans (dif_pos h))
theorem ib4i (q : Fin 4) (r : Fin 128) (s : Fin 1024) (h : ¬ (s : ℕ) < 512) : iblk m c 4 t (ix3 q r s)
    = bIf (kInp m c) ⟨q * 8 + r / 16, by omega⟩ ⟨(s - 512) % 64, by omega⟩ ⟨r % 16, by omega⟩
      * if (r : ℕ) / 16 = (s - 512) / 64 then 1 else 0 :=
  (ib4 m c t q r s).trans ((e71 m c q r s).trans (dif_neg h))
theorem ib7r (q : Fin 4) (s : Fin 1024) (r : Fin 128) (h : (s : ℕ) < 512) : iblk m c 7 t (ix3 q s r)
    = (kInp m c).cr ⟨q * 8 + s / 64, by omega⟩ ⟨r % 16, by omega⟩ ⟨s % 64, by omega⟩ * if (s : ℕ) / 64 = r / 16 then 1 else 0 :=
  (ib7 m c t q s r).trans ((e104 m c q s r).trans (dif_pos h))
theorem ib7i (q : Fin 4) (s : Fin 1024) (r : Fin 128) (h : ¬ (s : ℕ) < 512) : iblk m c 7 t (ix3 q s r)
    = -((kInp m c).ci ⟨q * 8 + (s - 512) / 64, by omega⟩ ⟨r % 16, by omega⟩ ⟨(s - 512) % 64, by omega⟩)
      * if ((s : ℕ) - 512) / 64 = r / 16 then 1 else 0 :=
  (ib7 m c t q s r).trans ((e104 m c q s r).trans (dif_neg h))

/-- The new state's real part. -/
theorem hr_eq (n : Fin 32) (s : Fin 2048) :
    out0_11 (iblk m c 0 t) (iblk m c 1 t) (iblk m c 2 t) (iblk m c 3 t) (iblk m c 4 t) (iblk m c 5 t) (iblk m c 6 t)
      (iblk m c 7 t) (iblk m c 8 t) (iblk m c 9 t) (ix2 n s)
    = hrAt (kInp m c) n s := by
  rw [out11_eq, pay21_eq, ib1, ib2, ib5, ib6]
  refine congrArg (· + _) (Eq.trans (Finset.sum_congr rfl fun k _ => ?_) (in_sum (U (kInp m c) n) (bRf (kInp m c)) s))
  rw [u_eq, ib4r m c t _ _ _ (show (s : ℕ) % 512 < 512 by omega)]

/-- The new state's imaginary part. -/
theorem hi_eq (n : Fin 32) (s : Fin 2048) :
    out0_12 (iblk m c 0 t) (iblk m c 1 t) (iblk m c 2 t) (iblk m c 3 t) (iblk m c 4 t) (iblk m c 5 t) (iblk m c 6 t)
      (iblk m c 7 t) (iblk m c 8 t) (iblk m c 9 t) (ix2 n s)
    = hiAt (kInp m c) n s := by
  rw [out12_eq, pay22_eq, ib1, ib2, ib5, ib6]
  refine congrArg (· + _) (Eq.trans (Finset.sum_congr rfl fun k _ => ?_) (in_sum (U (kInp m c) n) (bIf (kInp m c)) s))
  rw [u_eq, ib4i m c t _ _ _ (show ¬ (s : ℕ) % 512 + 512 < 512 by omega)]
  simp only [Nat.add_sub_cancel]

/-- A slab's readout: real parts in the first 512 lanes, imaginary parts in the last. -/
theorem slab (n : Fin 32) (j : Fin 512) (h h' : Fin 2048 → EReal) (q : Fin 4) (r : Fin 128) (hq : (q : ℕ) = j / 128)
    (hr : (r : ℕ) = j % 128) :
    (∑ x : Fin 512, h ⟨q * 512 + x, by omega⟩ * iblk m c 7 t (ix3 q ⟨x, by omega⟩ r))
      + (∑ x : Fin 512, h' ⟨q * 512 + x, by omega⟩ * iblk m c 7 t (ix3 q ⟨512 + x, by omega⟩ r))
    = (∑ p : Fin 64, h ⟨j / 16 * 64 + p, by omega⟩ * (kInp m c).cr ⟨j / 16, by omega⟩ ⟨j % 16, by omega⟩ p)
      + ∑ p : Fin 64, h' ⟨j / 16 * 64 + p, by omega⟩ * -((kInp m c).ci ⟨j / 16, by omega⟩ ⟨j % 16, by omega⟩ p) := by
  obtain ⟨q, hq'⟩ := q
  obtain ⟨r, hr'⟩ := r
  dsimp only at hq hr
  subst hq hr
  refine congrArg₂ (· + ·) (Eq.trans (Finset.sum_congr rfl fun x _ => ?_) (out_sum h (kInp m c).cr j))
    (Eq.trans (Finset.sum_congr rfl fun x _ => ?_) (out_sum h' (fun g k p => -((kInp m c).ci g k p)) j))
  · rw [ib7r m c t _ _ _ (show (x : ℕ) < 512 by omega)]
  · rw [ib7i m c t _ _ _ (show ¬ 512 + (x : ℕ) < 512 by omega)]
    simp only [Nat.add_sub_cancel_left]

/-- The gated output. -/
theorem out_eq (n : Fin 32) (j : Fin 512) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 n j)
    = OUT (kInp m c) n j := by
  rw [out10_eq _ _ _ _ _ _ _ _ _ _ n j (Y (kInp m c)) fun n j => ?_]
  · simp only [OUT, YG, ib9]
  · simp only [hr_eq, hi_eq, u_eq]
    rw [slab m c t n j (hrAt (kInp m c) n) (hiAt (kInp m c) n) ⟨j / 128, by omega⟩ ⟨j % 128, by omega⟩ rfl rfl, ib8]
    exact y_flat _ n j
end Blocks

theorem emb11 (t : Fin cfg0.N) (y0 : Fin 32) (y1 : Fin 2048) : (win0_11.blk t).view.emb (ix2 y0 y1) = ix2 y0 y1 := by
  blk_ext [idx t]
theorem emb12 (t : Fin cfg0.N) (y0 : Fin 32) (y1 : Fin 2048) : (win0_12.blk t).view.emb (ix2 y0 y1) = ix2 y0 y1 := by
  blk_ext [idx t]
theorem emb10 (t : Fin cfg0.N) (y0 : Fin 32) (y1 : Fin 512) : (win0_10.blk t).view.emb (ix2 y0 y1) = ix2 y0 y1 := by
  blk_ext [idx t]

/-- Result 1 after the run. -/
theorem final_11 : (dats m 0 c).arrAt 11 cfg0.N
    = hrArr (kInp m c) := by
  refine (dats m 0 c).arrAt_eq_of_covers 11 _ (by decide +kernel) fun t hf y => ?_
  blk_simp
  rw [after0_11]
  idx_vars y
  rw [hr_eq]
  exact (congrArg (hrArr (kInp m c)) (emb11 t y0 y1)).symm

/-- Result 2 after the run. -/
theorem final_12 : (dats m 0 c).arrAt 12 cfg0.N
    = hiArr (kInp m c) := by
  refine (dats m 0 c).arrAt_eq_of_covers 12 _ (by decide +kernel) fun t hf y => ?_
  blk_simp
  rw [after0_12]
  idx_vars y
  rw [hi_eq]
  exact (congrArg (hiArr (kInp m c)) (emb12 t y0 y1)).symm

/-- Result 0 after the run. -/
theorem final_10 : (dats m 0 c).arrAt 10 cfg0.N = outArr (kInp m c) := by
  refine (dats m 0 c).arrAt_eq_of_covers 10 _ (by decide +kernel) fun t hf y => ?_
  blk_simp
  rw [after0_10]
  idx_vars y
  rw [out_eq]
  exact (congrArg (outArr (kInp m c)) (emb10 t y0 y1)).symm

end Cert.S5

end
-- ==== Proof.S5Ref.lean ====
/- The reference's three results entry by entry. -/
module

public import proofs.«01_k».proof.Proof.Gen.Reference3Ideal.Run
public import proofs.«01_k».proof.Proof.S5Math
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

open Cert.Reference3Ideal Cert.Reference3Ideal.Gen Cert.Reference3Ideal.Value

namespace Cert.S5

variable (V0 : Valuation τ sig (Elt Ideal))

/-- The reference's arguments as functions. -/
def rInp : Inp where
  x n k := V0 (Proc.tc.devRef main_arg0) (ix3 n 0 k)
  hr n g p := V0 (Proc.tc.devRef main_arg1) (ix3 n g p)
  hi n g p := V0 (Proc.tc.devRef main_arg2) (ix3 n g p)
  w k j := V0 (Proc.tc.devRef main_arg3) (ix2 k j)
  a g p := V0 (Proc.tc.devRef main_arg4) (ix2 g p)
  b g p := V0 (Proc.tc.devRef main_arg5) (ix2 g p)
  br g p k := V0 (Proc.tc.devRef main_arg6) (ix3 g p k)
  bi g p k := V0 (Proc.tc.devRef main_arg7) (ix3 g p k)
  cr g k p := V0 (Proc.tc.devRef main_arg8) (ix3 g k p)
  ci g k p := V0 (Proc.tc.devRef main_arg9) (ix3 g k p)
  d g k := V0 (Proc.tc.devRef main_arg10) (ix2 g k)
  l g := V0 (Proc.tc.devRef main_arg11) (ix1 g)
  wg k j := V0 (Proc.tc.devRef main_arg12) (ix2 k j)

theorem r2 (n g : Fin 32) (k : Fin 16) : res_main_v2 V0 (ix3 n g k) = U (rInp V0) n (chan g k) := by
  unfold res_main_v2; pointwise; simp only [U, rInp, chan]
theorem r11 (g : Fin 32) (p : Fin 64) : res_main_v11 V0 (ix2 g p) = aR ((rInp V0).a g p) ((rInp V0).b g p) ((rInp V0).l g) := by
  unfold res_main_v11 res_main_v6 res_main_v8 res_main_v4; pointwise; simp only [rInp, aR]
theorem r14 (g : Fin 32) (p : Fin 64) : res_main_v14 V0 (ix2 g p) = aI ((rInp V0).a g p) ((rInp V0).b g p) ((rInp V0).l g) := by
  unfold res_main_v14 res_main_v6 res_main_v8 res_main_v4; pointwise; simp only [rInp, aI]
theorem r23 (g : Fin 32) (p : Fin 64) : res_main_v23 V0 (ix2 g p) = qR ((rInp V0).a g p) ((rInp V0).b g p) ((rInp V0).l g) := by
  unfold res_main_v23 res_main_v17; pointwise [r11, r14]; simp only [rInp, qR]
theorem r29 (g : Fin 32) (p : Fin 64) : res_main_v29 V0 (ix2 g p) = qI ((rInp V0).a g p) ((rInp V0).b g p) ((rInp V0).l g) := by
  unfold res_main_v29 res_main_v17; pointwise [r11, r14]; simp only [rInp, qI]
theorem r78 (n : Fin 32) (j : Fin 512) : res_main_v78 V0 (ix2 n j) = Y (rInp V0) n j := by
  unfold res_main_v78; pointwise [r2, r11, r14, r23, r29]; unfold Y
  refine congrArg₂ (· + ·) ?_ (congrArg (fun z : EReal => (rInp V0).d ⟨j / 16, by omega⟩ ⟨j % 16, by omega⟩ * z) (congrArg (U _ n) (chan_dm j (by omega) (by omega))))
  simp only [HR, HI, bR, bI]; rfl
theorem r91 (n : Fin 32) (j : Fin 512) : res_main_v91 V0 (ix2 n j) = YG (rInp V0) n j := by
  unfold res_main_v91; pointwise [r78]; simp only [YG, act, mul_assoc]

end Cert.S5

end
-- ==== Proof.S5Claim.lean ====
/- The claims about the sample's state-space layer step: frames, and that the kernel's results are the
   reference's. Both runs are read at the functions of `S5Math`, and the two programs' arguments agree. -/
module

public import proofs.«01_k».proof.Defs
public import proofs.«01_k».proof.Proof.Gen.Kernel3.Frame
public import proofs.«01_k».proof.Proof.Gen.Kernel3Ideal.Frame
public import proofs.«01_k».proof.Proof.S5Out
public import proofs.«01_k».proof.Proof.S5Ref

@[expose] public section

set_option maxRecDepth 16384

noncomputable section

open Idealize.ShloMosaic Idealize.ShloMosaic.TcCoe Idealize.SL.Sem
open Idealize.ShloMosaic.Pipeline (Dat)
open scoped BigOperators

namespace Cert.S5

theorem frame_kernel : Cert.quiescent_Kernel3 := fun m ρ _ => Cert.Kernel3.Gen.frame m ρ
theorem frame_ideal : Cert.quiescent_Kernel3Ideal := fun m ρ _ => Cert.Kernel3Ideal.Gen.frame m ρ
/-- The reference runs on the host and declares no semaphore. -/
theorem frame_ref : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- Arguments that agree give the same functions. -/
theorem inp_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) : rInp (StableHlo.launchContents m' c) = kInp m c := by
  obtain ⟨h0, h1, h2, h3, h4, h5, h6, h7, h8, h9, h10, h11, h12⟩ := h
  unfold rInp kInp
  congr 1 <;> (funext _; try funext _; try funext _) <;> first
    | exact congrFun h0 _ | exact congrFun h1 _ | exact congrFun h2 _ | exact congrFun h3 _ | exact congrFun h4 _
    | exact congrFun h5 _ | exact congrFun h6 _ | exact congrFun h7 _ | exact congrFun h8 _ | exact congrFun h9 _
    | exact congrFun h10 _ | exact congrFun h11 _ | exact congrFun h12 _

/-- The kernel's three results are the reference's. -/
theorem algebraic : Cert.algebraic_Kernel3Ideal_Reference3Ideal := by
  intro m ρ m' ρ' _ hag
  refine ⟨fun c => outArr (kInp m c), fun c => hrArr (kInp m c), fun c => hiArr (kInp m c), ?_, ?_⟩
  · exact (θ_run Cert.Kernel3Ideal.defs _ _).mono (fun _ h c =>
      ⟨(h c).1.trans (final_10 m c), (h c).2.1.trans (final_11 m c), (h c).2.2.1.trans (final_12 m c), (h c).2.2.2⟩)
      (Cert.Kernel3Ideal.Value.run_blocks (F := Ideal) m ρ)
  · refine (θ_run Cert.Reference3Ideal.defs _ _).mono (fun _ h c =>
      ⟨(h c).1.trans ?_, (h c).2.1.trans ?_, (h c).2.2.1.trans ?_, (h c).2.2.2⟩)
      (Cert.Reference3Ideal.Value.run (F := Ideal) m' ρ')
    · refine Eq.trans ?_ (congrArg outArr (inp_eq m m' c (hag c))); funext i; idx_vars i; pointwise [r91]; exact rfl
    · refine Eq.trans ?_ (congrArg hrArr (inp_eq m m' c (hag c))); funext i; idx_vars i; pointwise [r2, r11, r14, r23, r29]; rfl
    · refine Eq.trans ?_ (congrArg hiArr (inp_eq m m' c (hag c))); funext i; idx_vars i; pointwise [r2, r11, r14, r23, r29]; rfl

end Cert.S5

end
-- ==== Proof.InprojMath.lean ====
/- The even layer's input projection, row by row over the extended reals: the latent keys normalised, the position
   turned into a rotation of the key's last lanes, the gate's halves activated, the causal mixing of a chunk's rows. -/
module

public import proofs.«01_k».proof.Proof.MixMath

@[expose] public section

set_option maxRecDepth 16384

noncomputable section

open Idealize.ShloMosaic Idealize.ShloMosaic.TcCoe Idealize.SL.Sem
open Idealize.ShloMosaic.Pipeline (Dat)
open scoped BigOperators

namespace Cert.Inproj
open Cert.Mix (mat dot)

/-- The tanh form of the activation, its cube taken as `y (y y)`. -/
def act (y : EReal) : EReal := y * (Ideal.ofBits .f32 0x3F000000#32 * (1 + Ideal.tanh (Ideal.ofBits .f32 0x3F4C422A#32 *
  (y + Ideal.ofBits .f32 0x3D372713#32 * (y * (y * y))))))

/-- The mean of a row of 512 entries. -/
def mean (v : Fin 512 → EReal) : EReal := Ideal.div (∑ k, v k) (Ideal.ofBits FTy.f32 0x44000000#32)
/-- A row less its mean. -/
def cen (v : Fin 512 → EReal) (j : Fin 512) : EReal := v j - mean v
/-- Layer normalisation of a row of 512 entries. -/
def ln (g b v : Fin 512 → EReal) (j : Fin 512) : EReal :=
  cen v j * Ideal.rsqrt (mean (fun k => cen v k * cen v k) + Ideal.ofBits FTy.f32 0x3727C5AC#32) * g j + b j
/-- A row of 128 entries over the root of its mean square, scaled. -/
def rms (g v : Fin 128 → EReal) (j : Fin 128) : EReal :=
  v j * Ideal.rsqrt (Ideal.div (∑ k, v k * v k) (Ideal.ofBits FTy.f32 0x43000000#32) + Ideal.ofBits FTy.f32 0x358637BD#32) * g j

/-- A rotation as the kernel takes it: the row, the row turned right by 16 lanes and the row turned left by 16. -/
def turn (z cs sa sb : Fin 128 → EReal) (j : Fin 128) : EReal :=
  z j * cs j + z ⟨(j + 128 - 16) % 128, by omega⟩ * sa j + z ⟨(j + 128 - 112) % 128, by omega⟩ * sb j

/-- Two rows of 128 entries side by side. -/
def side (a b : Fin 128 → EReal) (j : Fin 256) : EReal := if h : (j : ℕ) < 128 then a ⟨j, h⟩ else b ⟨j - 128, by omega⟩

/-- Two sums of which one is masked away: the lanes below 64 keep the first, the others the second. -/
theorem pair_eq (n : ℕ) (f g : Fin 128 → EReal) :
    (∑ x, Scalar.select (if n < 64 then 1#1 else 0#1) (f x) 0) + (∑ x, Scalar.select (if n < 64 then 1#1 else 0#1) 0 (g x))
      = if n < 64 then ∑ x, f x else ∑ x, g x := by
  by_cases h : n < 64
  · simp [h, Scalar.select]
  · simp [h, Scalar.select]

/-- A chunk's mixing at row `t` and lane `j`: the weights of the lane's head against the lane's column. -/
def mixed (w : (⟨3, ![8, 128, 128]⟩ : Shape).Idx → EReal) (t : Fin 128) (v : Fin 128 → Fin 512 → EReal) (j : Fin 512) : EReal :=
  ∑ s, w (ix3 ⟨j / 64, by omega⟩ t s) * v s j

/-- One term of it, with the head and the lane given. -/
theorem leaf (w : (⟨3, ![8, 128, 128]⟩ : Shape).Idx → EReal) (t s : Fin 128) (v : (⟨2, ![256, 512]⟩ : Shape).Idx → EReal)
    (R : Fin 256) (j col : Fin 512) (h : Fin 8) (e1 : (h : ℕ) = j / 64) (e2 : (col : ℕ) = j) :
    w (ix3 h t s) * v (ix2 R col) = w (ix3 ⟨j / 64, by omega⟩ t s) * v (ix2 R j) := by
  obtain rfl : col = j := Fin.ext e2
  obtain ⟨h, hh⟩ := h
  dsimp only at e1
  subst e1
  rfl

end Cert.Inproj

end
-- ==== Proof.InprojPay.lean ====
/- What the kernel's values are, row by row. -/
module

public import proofs.«01_k».proof.Proof.Gen.Kernel4Ideal.Frame
public import Idealize.ShloMosaic.Lib.Pipeline.ValueKit
public import proofs.«01_k».proof.Proof.InprojMath

@[expose] public section

set_option maxRecDepth 16384

noncomputable section

open Idealize.ShloMosaic Idealize.ShloMosaic.TcCoe Idealize.SL.Sem
open Idealize.ShloMosaic.Pipeline (Dat)
open scoped BigOperators
open Cert.Kernel4Ideal Cert.Kernel4Ideal.Gen

namespace Cert.Inproj
open Cert.Mix (mat dot)

/-- The first 64 lanes. -/
theorem mask_at (t j : Fin 128) : k0_pay30 (ix2 t j) = if (j : ℕ) < 64 then 1#1 else 0#1 := by
  have key : ∀ j : Fin 128, IntOp.cmpi CmpIPredicate.slt (BitVec.ofNat 32 j) 64#32 = if (j : ℕ) < 64 then 1#1 else 0#1 := by decide
  refine Eq.trans ?_ (key j)
  pointwise [k0_pay30]

/-! ### The projection and what is read off its columns -/

theorem p2 (x : Vec Ideal S256x1024 .f32) (w : Vec Ideal S1024x1536 .bf16) (r : Fin 256) : mat (k0_pay2 x w) r = dot (mat x r) (mat w) := by
  funext j; unfold mat; pointwise [k0_pay2] <;> rfl
theorem p3 (x : Vec Ideal S256x1024 .f32) (w : Vec Ideal S1024x1536 .bf16) (r : Fin 256) : mat (k0_pay3 x w) r = dot (mat x r) (mat w) := by
  funext j; unfold mat; pointwise [k0_pay3] <;> rfl
theorem p4 (x : Vec Ideal S256x1024 .f32) (w : Vec Ideal S1024x1536 .bf16) (r : Fin 256) :
    mat (k0_pay4 x w) r = fun j : Fin 256 => dot (mat x r) (mat w) ⟨j, by omega⟩ := by
  funext j; rw [← p2]; unfold mat; pointwise [k0_pay4]
theorem p16 (z : FVec Ideal S256x1536 .f32) (r : Fin 256) : mat (k0_pay16 z) r = fun j : Fin 256 => mat z r ⟨j, by omega⟩ := by
  funext j; unfold mat; pointwise [k0_pay16]
theorem p5 (x : Vec Ideal S256x1024 .f32) (w : Vec Ideal S1024x1536 .bf16) (g : Vec Ideal S1x128 .f32) (r : Fin 256) :
    mat (k0_pay5 x w g) r = rms (mat g 0) (fun k => dot (mat x r) (mat w) ⟨256 + k, by omega⟩) := by
  funext j; rw [← p2]; unfold mat; pointwise [k0_pay5] <;> rfl
theorem p20 (z : FVec Ideal S256x1536 .f32) (g : Vec Ideal S1x128 .f32) (r : Fin 256) :
    mat (k0_pay20 (k0_pay17 z) (k0_pay18 g) (k0_pay19 z)) r = rms (mat g 0) (fun k => mat z r ⟨256 + k, by omega⟩) := by
  funext j; unfold mat; pointwise [k0_pay20, k0_pay17, k0_pay18, k0_pay19] <;> rfl
theorem p6 (x : Vec Ideal S256x1024 .f32) (w : Vec Ideal S1024x1536 .bf16) (r : Fin 256) :
    mat (k0_pay6 x w) r = fun k : Fin 128 => dot (mat x r) (mat w) ⟨1408 + k, by omega⟩ := by
  funext j; rw [← p2]; unfold mat; pointwise [k0_pay6] <;> rfl
theorem p8 (z : FVec Ideal S256x128 .f32) (cs sa sb : Vec Ideal S256x128 .f32) (r : Fin 256) :
    mat (k0_pay8 z (k0_pay7 cs) sa sb) r = turn (mat z r) (mat cs r) (mat sa r) (mat sb r) := by
  funext j; unfold mat turn; pointwise [k0_pay8, k0_pay7] <;> rfl
theorem p21 (z : FVec Ideal S256x1536 .f32) (cs sa sb : Vec Ideal S256x128 .f32) (r : Fin 256) :
    mat (k0_pay21 z cs sa sb) r = turn (fun k => mat z r ⟨1408 + k, by omega⟩) (mat cs r) (mat sa r) (mat sb r) := by
  funext j; unfold mat turn; pointwise [k0_pay21] <;> rfl
theorem p9 (z : FVec Ideal S256x128 .f32) (cs sa sb : Vec Ideal S256x128 .f32) (l : Fin 32) (r : Fin 256) :
    k0_pay9 z (k0_pay7 cs) sa sb (ix3 0 l r) = mat (k0_pay8 z (k0_pay7 cs) sa sb) r ⟨l, by omega⟩ := by
  unfold mat; pointwise [k0_pay9]
theorem p22 (z : FVec Ideal S256x1536 .f32) (cs sa sb : Vec Ideal S256x128 .f32) (l : Fin 32) (r : Fin 256) :
    k0_pay22 z cs sa sb (ix3 0 l r) = mat (k0_pay21 z cs sa sb) r ⟨l, by omega⟩ := by
  unfold mat; pointwise [k0_pay22]
theorem p10 (a z : FVec Ideal S256x128 .f32) (cs sa sb : Vec Ideal S256x128 .f32) (r : Fin 256) :
    mat (k0_pay10 a z (k0_pay7 cs) sa sb) r = side (mat a r) (mat (k0_pay8 z (k0_pay7 cs) sa sb) r) := by
  funext j; unfold mat side; pointwise [k0_pay10]
theorem p23 (z : FVec Ideal S256x1536 .f32) (a : FVec Ideal S256x128 .f32) (b : FVec Ideal S1x128 .f32) (d : FVec Ideal S256x128 .f32)
    (cs sa sb : Vec Ideal S256x128 .f32) (r : Fin 256) :
    mat (k0_pay23 z a b d cs sa sb) r = side (mat (k0_pay20 a b d) r) (mat (k0_pay21 z cs sa sb) r) := by
  funext j; unfold mat side; pointwise [k0_pay23]
theorem p11 (z : FVec Ideal S256x1536 .f32) (r : Fin 256) : mat (k0_pay11 z) r = fun j : Fin 512 => act (mat z r ⟨384 + j, by omega⟩) := by
  funext j; unfold mat; pointwise [k0_pay11] <;> rfl
theorem p27 (z : FVec Ideal S256x1536 .f32) (r : Fin 256) :
    mat (k0_pay27 (k0_pay24 z) (k0_pay25 z) k0_pay26) r = fun j : Fin 512 => act (mat z r ⟨384 + j, by omega⟩) := by
  funext j; unfold mat; pointwise [k0_pay27, k0_pay24, k0_pay25, k0_pay26] <;> rfl
theorem p28 (z : FVec Ideal S256x1536 .f32) (g b : Vec Ideal S1x512 .f32) (r : Fin 256) :
    mat (k0_pay28 z g b) r = ln (mat g 0) (mat b 0) (fun k => act (mat z r ⟨896 + k, by omega⟩)) := by
  funext j; unfold mat; pointwise [k0_pay28] <;> rfl
theorem p15 (z : FVec Ideal S256x1536 .f32) (g b : Vec Ideal S1x512 .f32) (r : Fin 256) :
    mat (k0_pay15 (k0_pay12 z) (k0_pay13 z) k0_pay14 g b) r = ln (mat g 0) (mat b 0) (fun k => act (mat z r ⟨896 + k, by omega⟩)) := by
  funext j; unfold mat; pointwise [k0_pay15, k0_pay12, k0_pay13, k0_pay14] <;> rfl
theorem p29 (z : FVec Ideal S256x1536 .f32) (g b : Vec Ideal S1x512 .f32) (t : Fin 128) (j : Fin 512) :
    k0_pay29 z g b (ix3 0 t j) = mat (k0_pay28 z g b) ⟨128 + t, by omega⟩ j := by
  unfold mat; pointwise [k0_pay29]

/-! ### The gate, four chunks of 128 rows -/

section Tiles
variable (u v : FVec Ideal S256x512 .f32) (bs : FVec Ideal S128x512 .f32) (x5 : Vec Ideal S8x128x128 .bf16) (t : Fin 128) (j : Fin 512)

theorem t0 : k0_pay35 u v k0_pay30 bs (k0_pay32 v (View.ld x5 r0_13) (View.ld x5 r0_14)) (k0_pay33 v (View.ld x5 r0_15) (View.ld x5 r0_16)) (k0_pay34 v) (View.ld x5 r0_17) (View.ld x5 r0_18) (View.ld x5 r0_19) (View.ld x5 r0_20) (ix2 t j)
    = u (ix2 ⟨t, by omega⟩ j) * (mixed x5 t (fun s l => v (ix2 ⟨s, by omega⟩ l)) j + bs (ix2 t j)) := by
  pointwise [k0_pay35, k0_pay32, k0_pay33, k0_pay34, mask_at]
  refine congrArg (fun q => u _ * (q + bs _)) ?_
  simp only [pair_eq]
  unfold mixed
  split_ifs <;> refine Finset.sum_congr rfl fun s _ => leaf x5 t s v _ j _ _ ?_ ?_ <;> first | omega | (dsimp only; omega) | (show (_ : ℕ) = _; omega)

theorem t1 : k0_pay43 u v k0_pay30 bs (k0_pay38 k0_pay30 (k0_pay36 v) (k0_pay37 (View.ld x5 r0_13)) (View.ld x5 r0_14)) (k0_pay39 v k0_pay30 (View.ld x5 r0_15) (View.ld x5 r0_16)) (k0_pay40 v) (k0_pay41 v k0_pay30 (View.ld x5 r0_17)) (k0_pay42 (View.ld x5 r0_18)) (Scalar.ofBits .f32 0x00000000#32) (View.ld x5 r0_19) (View.ld x5 r0_20) (ix2 t j)
    = u (ix2 ⟨128 + t, by omega⟩ j) * (mixed x5 t (fun s l => v (ix2 ⟨128 + s, by omega⟩ l)) j + bs (ix2 t j)) := by
  pointwise [k0_pay43, k0_pay38, k0_pay36, k0_pay37, k0_pay39, k0_pay40, k0_pay41, k0_pay42, mask_at]
  refine congrArg (fun q => u _ * (q + bs _)) ?_
  simp only [pair_eq]
  unfold mixed
  split_ifs <;> refine Finset.sum_congr rfl fun s _ => leaf x5 t s v _ j _ _ ?_ ?_ <;> first | omega | (dsimp only; omega) | (show (_ : ℕ) = _; omega)

theorem t2 : k0_pay54 u k0_pay30 bs (k0_pay48 (k0_pay45 v k0_pay30 (View.ld x5 r0_13)) (k0_pay46 (View.ld x5 r0_14)) (k0_pay47 v k0_pay30)) (k0_pay49 v k0_pay30 (View.ld x5 r0_15) (View.ld x5 r0_16)) (k0_pay50 v k0_pay30 (View.ld x5 r0_17) (View.ld x5 r0_18)) (k0_pay51 v) (k0_pay52 (View.ld x5 r0_19)) (k0_pay53 v k0_pay30) (View.ld x5 r0_20) (ix2 t j)
    = u (ix2 ⟨t, by omega⟩ j) * (mixed x5 t (fun s l => v (ix2 ⟨s, by omega⟩ l)) j + bs (ix2 t j)) := by
  pointwise [k0_pay54, k0_pay48, k0_pay45, k0_pay46, k0_pay47, k0_pay49, k0_pay50, k0_pay51, k0_pay52, k0_pay53, k0_pay44, mask_at]
  refine congrArg (fun q => u _ * (q + bs _)) ?_
  simp only [pair_eq]
  unfold mixed
  split_ifs <;> refine Finset.sum_congr rfl fun s _ => leaf x5 t s v _ j _ _ ?_ ?_ <;> first | omega | (dsimp only; omega) | (show (_ : ℕ) = _; omega)

theorem t3 : k0_pay1 u bs (k0_pay55 v k0_pay30 (View.ld x5 r0_13) (View.ld x5 r0_14)) (k0_pay58 k0_pay30 (k0_pay56 v) (k0_pay57 v k0_pay30 (View.ld x5 r0_15)) (View.ld x5 r0_16)) (k0_pay59 v k0_pay30 (View.ld x5 r0_17) (View.ld x5 r0_18)) (k0_pay60 v k0_pay30 (View.ld x5 r0_19) (View.ld x5 r0_20)) (ix2 t j)
    = u (ix2 ⟨128 + t, by omega⟩ j) * (mixed x5 t (fun s l => v (ix2 ⟨128 + s, by omega⟩ l)) j + bs (ix2 t j)) := by
  pointwise [k0_pay1, k0_pay55, k0_pay58, k0_pay56, k0_pay57, k0_pay59, k0_pay60, mask_at]
  refine congrArg (fun q => u _ * (q + bs _)) ?_
  simp only [pair_eq]
  unfold mixed
  split_ifs <;> refine Finset.sum_congr rfl fun s _ => leaf x5 t s v _ j _ _ ?_ ?_ <;> first | omega | (dsimp only; omega) | (show (_ : ℕ) = _; omega)

end Tiles

/-! ### What the kernel loads -/

section Loads
variable (r : Fin 256)
theorem l0 (x0 : Vec Ideal S512x1024 .f32) : mat (View.ld x0 r0_0) r = mat x0 ⟨0 + r, by omega⟩ := by
  funext j; unfold mat; pointwise; try simp only [Nat.zero_add]
theorem l2 (x0 : Vec Ideal S512x1024 .f32) : mat (View.ld x0 r0_2) r = mat x0 ⟨256 + r, by omega⟩ := by
  funext j; unfold mat; pointwise; try simp only [Nat.zero_add]
theorem l5 (x7 : Vec Ideal S512x128 .f32) : mat (View.ld x7 r0_5) r = mat x7 ⟨0 + r, by omega⟩ := by
  funext j; unfold mat; pointwise; try simp only [Nat.zero_add]
theorem l9 (x7 : Vec Ideal S512x128 .f32) : mat (View.ld x7 r0_9) r = mat x7 ⟨256 + r, by omega⟩ := by
  funext j; unfold mat; pointwise; try simp only [Nat.zero_add]
theorem l1 (x : Vec Ideal S1024x1536 .bf16) : View.ld x r0_1 = x := by
  funext i; idx_vars i; pointwise
theorem l4 (x : Vec Ideal S1x128 .f32) : View.ld x r0_4 = x := by
  funext i; idx_vars i; rw [Subsingleton.elim i0 0]; pointwise
theorem l7 (x : Vec Ideal S1x512 .f32) : View.ld x r0_7 = x := by
  funext i; idx_vars i; rw [Subsingleton.elim i0 0]; pointwise
theorem l12 (x : Vec Ideal S128x512 .f32) : View.ld x r0_12 = x := by
  funext i; idx_vars i; pointwise

end Loads

end Cert.Inproj

end
-- ==== Proof.InprojOut.lean ====
/- The blocks the kernel leaves at one grid point, entry by entry, from the blocks it reads. -/
module

public import proofs.«01_k».proof.Proof.InprojPay

@[expose] public section

set_option maxRecDepth 16384

noncomputable section

open Idealize.ShloMosaic Idealize.ShloMosaic.TcCoe Idealize.SL.Sem
open Idealize.ShloMosaic.Pipeline (Dat)
open scoped BigOperators

open Cert.Kernel4Ideal Cert.Kernel4Ideal.Gen

namespace Cert.Inproj
open Cert.Mix (mat dot)

variable (x0 : Vec Ideal S512x1024 .f32) (x1 : Vec Ideal S1024x1536 .bf16) (x2 : Vec Ideal S1x128 .f32) (x3 x4 : Vec Ideal S1x512 .f32)
  (x5 : Vec Ideal S8x128x128 .bf16) (x6 : Vec Ideal S128x512 .f32) (x7 x8 x9 : Vec Ideal S512x128 .f32)

/-- The projected row. -/
def zR (R : Fin 512) : Fin 1536 → EReal := dot (mat x0 R) (mat x1)
/-- The latent keys. -/
def cR (R : Fin 512) : Fin 128 → EReal := rms (mat x2 0) (fun k => zR x0 x1 R ⟨256 + k, by omega⟩)
/-- The rotated lanes. -/
def kR (R : Fin 512) : Fin 128 → EReal := turn (fun k => zR x0 x1 R ⟨1408 + k, by omega⟩) (mat x7 R) (mat x8 R) (mat x9 R)
/-- The gate's own half. -/
def uR (R : Fin 512) (j : Fin 512) : EReal := act (zR x0 x1 R ⟨384 + j, by omega⟩)
/-- The gate's mixed half, normalised. -/
def vR (R : Fin 512) : Fin 512 → EReal := ln (mat x3 0) (mat x4 0) (fun k => act (zR x0 x1 R ⟨896 + k, by omega⟩))
/-- The gate at chunk `q`, row `t` of the chunk. -/
def gR (q : Fin 4) (t : Fin 128) (j : Fin 512) : EReal :=
  uR x0 x1 ⟨q * 128 + t, by omega⟩ j * (mixed x5 t (fun s l => vR x0 x1 x3 x4 ⟨q * 128 + s, by omega⟩ l) j + x6 (ix2 t j))

/-! ### The two halves of the projection -/

theorem z0 (r : Fin 256) : mat (k0_pay61 x0 x1 x2 x3 x4 x5 x6 x7 x8 x9) r = zR x0 x1 ⟨0 + r, by omega⟩ := by simp only [k0_pay61, p2, l0, l1]; rfl
theorem z1 (r : Fin 256) : mat (k0_pay62 x0 x1 x2 x3 x4 x5 x6 x7 x8 x9) r = zR x0 x1 ⟨256 + r, by omega⟩ := by simp only [k0_pay62, p3, l2, l1]; rfl

theorem a0 (r : Fin 256) : mat (k0_pay4 (View.ld x0 r0_0) (View.ld x1 r0_1)) r = fun j : Fin 256 => zR x0 x1 ⟨0 + r, by omega⟩ ⟨j, by omega⟩ := by
  rw [p4, l0, l1]; rfl
theorem a1 (r : Fin 256) : mat (k0_pay16 (k0_pay62 x0 x1 x2 x3 x4 x5 x6 x7 x8 x9)) r = fun j : Fin 256 => zR x0 x1 ⟨256 + r, by omega⟩ ⟨j, by omega⟩ := by
  rw [p16, z1]
theorem c0 (r : Fin 256) : mat (k0_pay5 (View.ld x0 r0_0) (View.ld x1 r0_1) (View.ld x2 r0_4)) r = cR x0 x1 x2 ⟨0 + r, by omega⟩ := by
  rw [p5, l0, l1, l4]; rfl
theorem c1 (r : Fin 256) : mat (k0_pay20 (k0_pay67 x0 x1 x2 x3 x4 x5 x6 x7 x8 x9) (k0_pay68 x0 x1 x2 x3 x4 x5 x6 x7 x8 x9) (k0_pay69 x0 x1 x2 x3 x4 x5 x6 x7 x8 x9)) r = cR x0 x1 x2 ⟨256 + r, by omega⟩ := by
  unfold k0_pay67 k0_pay68 k0_pay69; rw [p20, z1, l4]; rfl
theorem k0 (r : Fin 256) : mat (k0_pay8 (k0_pay63 x0 x1 x2 x3 x4 x5 x6 x7 x8 x9) (k0_pay64 x0 x1 x2 x3 x4 x5 x6 x7 x8 x9) (View.ld x8 r0_5) (View.ld x9 r0_5)) r = kR x0 x1 x7 x8 x9 ⟨0 + r, by omega⟩ := by
  unfold k0_pay63 k0_pay64; rw [p8, p6, l0, l1, l5, l5, l5]; rfl
theorem k1 (r : Fin 256) : mat (k0_pay21 (k0_pay62 x0 x1 x2 x3 x4 x5 x6 x7 x8 x9) (View.ld x7 r0_9) (View.ld x8 r0_9) (View.ld x9 r0_9)) r = kR x0 x1 x7 x8 x9 ⟨256 + r, by omega⟩ := by
  rw [p21, z1, l9, l9, l9]; rfl
theorem kt0 (l : Fin 32) (r : Fin 256) : k0_pay9 (k0_pay63 x0 x1 x2 x3 x4 x5 x6 x7 x8 x9) (k0_pay64 x0 x1 x2 x3 x4 x5 x6 x7 x8 x9) (View.ld x8 r0_5) (View.ld x9 r0_5) (ix3 0 l r) = kR x0 x1 x7 x8 x9 ⟨0 + r, by omega⟩ ⟨l, by omega⟩ := by
  rw [← k0 x0 x1 x2 x3 x4 x5 x6 x7 x8 x9 r]; unfold k0_pay64; rw [p9]
theorem kt1 (l : Fin 32) (r : Fin 256) : k0_pay22 (k0_pay62 x0 x1 x2 x3 x4 x5 x6 x7 x8 x9) (View.ld x7 r0_9) (View.ld x8 r0_9) (View.ld x9 r0_9) (ix3 0 l r) = kR x0 x1 x7 x8 x9 ⟨256 + r, by omega⟩ ⟨l, by omega⟩ := by
  rw [← k1 x0 x1 x2 x3 x4 x5 x6 x7 x8 x9 r, p22]
theorem s0 (r : Fin 256) : mat (k0_pay10 (k0_pay5 (View.ld x0 r0_0) (View.ld x1 r0_1) (View.ld x2 r0_4)) (k0_pay63 x0 x1 x2 x3 x4 x5 x6 x7 x8 x9) (k0_pay64 x0 x1 x2 x3 x4 x5 x6 x7 x8 x9) (View.ld x8 r0_5) (View.ld x9 r0_5)) r
    = side (cR x0 x1 x2 ⟨0 + r, by omega⟩) (kR x0 x1 x7 x8 x9 ⟨0 + r, by omega⟩) := by
  rw [← k0 x0 x1 x2 x3 x4 x5 x6 x7 x8 x9 r]; unfold k0_pay64; rw [p10, c0]
theorem s1 (r : Fin 256) : mat (k0_pay23 (k0_pay62 x0 x1 x2 x3 x4 x5 x6 x7 x8 x9) (k0_pay67 x0 x1 x2 x3 x4 x5 x6 x7 x8 x9) (k0_pay68 x0 x1 x2 x3 x4 x5 x6 x7 x8 x9) (k0_pay69 x0 x1 x2 x3 x4 x5 x6 x7 x8 x9) (View.ld x7 r0_9) (View.ld x8 r0_9) (View.ld x9 r0_9)) r
    = side (cR x0 x1 x2 ⟨256 + r, by omega⟩) (kR x0 x1 x7 x8 x9 ⟨256 + r, by omega⟩) := by
  rw [p23, c1, k1]
theorem u0 (r : Fin 256) : mat (k0_pay65 x0 x1 x2 x3 x4 x5 x6 x7 x8 x9) r = uR x0 x1 ⟨0 + r, by omega⟩ := by
  unfold k0_pay65; rw [p11, z0]; rfl
theorem u1 (r : Fin 256) : mat (k0_pay70 x0 x1 x2 x3 x4 x5 x6 x7 x8 x9) r = uR x0 x1 ⟨256 + r, by omega⟩ := by
  unfold k0_pay70; rw [p27, z1]; rfl
theorem v0 (r : Fin 256) : mat (k0_pay66 x0 x1 x2 x3 x4 x5 x6 x7 x8 x9) r = vR x0 x1 x3 x4 ⟨0 + r, by omega⟩ := by
  unfold k0_pay66; rw [p15, z0, l7, l7]; rfl
theorem v1 (r : Fin 256) : mat (k0_pay71 x0 x1 x2 x3 x4 x5 x6 x7 x8 x9) r = vR x0 x1 x3 x4 ⟨256 + r, by omega⟩ := by
  unfold k0_pay71; rw [p28, z1, l7, l7]; rfl

theorem z1v (r : Fin 256) (j : Fin 512) : mat (k0_pay28 (k0_pay62 x0 x1 x2 x3 x4 x5 x6 x7 x8 x9) (View.ld x3 r0_7) (View.ld x4 r0_7)) r j = vR x0 x1 x3 x4 ⟨256 + r, by omega⟩ j := by
  rw [p28, z1, l7, l7]; rfl
theorem bs_at (i : S128x512.Idx) : shapeCast S128x512 (View.ld x6 r0_12) shapeCasts_S128x512_S128x512 i = x6 i := by
  rw [l12]; idx_vars i; pointwise

/-! ### The blocks -/

/-- An entry of a tile of 256 rows that begins at row `o`. -/
theorem at_row {n : ℕ} (P : (⟨2, ![256, n]⟩ : Shape).Idx → EReal) (S : Fin 512 → Fin n → EReal) (o : ℕ) (ho : o ≤ 256)
    (t : ∀ r : Fin 256, mat P r = S ⟨o + r, by omega⟩) (x : (⟨2, ![256, n]⟩ : Shape).Idx) (R : Fin 512) (j : Fin n)
    (h0 : (R : ℕ) = o + (x 0 : Fin 256)) (h1 : (j : ℕ) = (x 1 : Fin n)) : P x = S R j := by
  rw [eq_ix2 x]
  exact (congrFun (t (x 0)) (x 1)).trans (by rw [show R = ⟨o + (x 0 : Fin 256), by omega⟩ from Fin.ext h0, show j = (x 1 : Fin n) from Fin.ext h1])

theorem out10 (R : Fin 512) (j : Fin 256) : out0_10 x0 x1 x2 x3 x4 x5 x6 x7 x8 x9 (ix2 R j) = zR x0 x1 R ⟨j, by omega⟩ := by
  unfold out0_10
  canon_tiles y h
  · exact at_row _ (fun R j => zR x0 x1 R ⟨j, by omega⟩) 256 (by omega) (a1 x0 x1 x2 x3 x4 x5 x6 x7 x8 x9) y R j h0 h1
  · exact at_row _ (fun R j => zR x0 x1 R ⟨j, by omega⟩) 0 (by omega) (a0 x0 x1) y R j (by rw [Nat.zero_add]; exact h0) h1

theorem out11 (R : Fin 512) (j : Fin 128) : out0_11 x0 x1 x2 x3 x4 x5 x6 x7 x8 x9 (ix2 R j) = cR x0 x1 x2 R j := by
  unfold out0_11
  canon_tiles y h
  · exact at_row _ (cR x0 x1 x2) 256 (by omega) (c1 x0 x1 x2 x3 x4 x5 x6 x7 x8 x9) y R j h0 h1
  · exact at_row _ (cR x0 x1 x2) 0 (by omega) (c0 x0 x1 x2) y R j (by rw [Nat.zero_add]; exact h0) h1

theorem out13 (R : Fin 512) (j : Fin 256) : out0_13 x0 x1 x2 x3 x4 x5 x6 x7 x8 x9 (ix2 R j) = side (cR x0 x1 x2 R) (kR x0 x1 x7 x8 x9 R) j := by
  unfold out0_13
  canon_tiles y h
  · exact at_row _ (fun R => side (cR x0 x1 x2 R) (kR x0 x1 x7 x8 x9 R)) 256 (by omega) (s1 x0 x1 x2 x3 x4 x5 x6 x7 x8 x9) y R j h0 h1
  · exact at_row _ (fun R => side (cR x0 x1 x2 R) (kR x0 x1 x7 x8 x9 R)) 0 (by omega) (s0 x0 x1 x2 x3 x4 x5 x6 x7 x8 x9) y R j (by rw [Nat.zero_add]; exact h0) h1

theorem out12 (R : Fin 512) (l : Fin 32) : out0_12 x0 x1 x2 x3 x4 x5 x6 x7 x8 x9 (ix3 0 l R) = kR x0 x1 x7 x8 x9 R ⟨l, by omega⟩ := by
  unfold out0_12
  canon_tiles y h
  · idx_vars y
    have e1 : (l : ℕ) = y1 := h1
    have e2 : (R : ℕ) = 256 + y2 := h2
    rw [Subsingleton.elim y0 0, kt1, show R = ⟨256 + y2, by omega⟩ from Fin.ext e2, show l = y1 from Fin.ext e1]
  · idx_vars y
    have e1 : (l : ℕ) = y1 := h1
    have e2 : (R : ℕ) = 0 + y2 := by rw [Nat.zero_add]; exact h2
    rw [Subsingleton.elim y0 0, kt0, show R = ⟨0 + y2, by omega⟩ from Fin.ext e2, show l = y1 from Fin.ext e1]

theorem out15 (t : Fin 128) (j : Fin 512) : out0_15 x0 x1 x2 x3 x4 x5 x6 x7 x8 x9 (ix3 0 t j) = vR x0 x1 x3 x4 ⟨384 + t, by omega⟩ j := by
  unfold out0_15
  canon_tiles y h
  idx_vars y
  have e1 : (t : ℕ) = y1 := h1
  have e2 : (j : ℕ) = y2 := h2
  obtain rfl : t = y1 := Fin.ext e1
  obtain rfl : j = y2 := Fin.ext e2
  rw [Subsingleton.elim y0 0, p29, z1v]
  exact congrArg (fun R => vR x0 x1 x3 x4 R j) (Fin.ext (by show 256 + (128 + (t : ℕ)) = 384 + t; omega))

/-- A chunk's gate from the halves' tiles of 256 rows, of which it is the 128 rows from `a`. -/
theorem gate_of (U V : FVec Ideal S256x512 .f32) (a b : ℕ) (hb : b ≤ 256) (hU : ∀ r : Fin 256, mat U r = uR x0 x1 ⟨b + r, by omega⟩)
    (hV : ∀ r : Fin 256, mat V r = vR x0 x1 x3 x4 ⟨b + r, by omega⟩) (ro : Fin 128 → Fin 256) (hr : ∀ s, (ro s : ℕ) = a + s)
    (q : Fin 4) (hq : (q : ℕ) * 128 = b + a) (t : Fin 128) (j : Fin 512) :
    U (ix2 (ro t) j) * (mixed x5 t (fun s l => V (ix2 (ro s) l)) j + x6 (ix2 t j)) = gR x0 x1 x3 x4 x5 x6 q t j := by
  have e : ∀ s : Fin 128, (⟨q * 128 + s, by omega⟩ : Fin 512) = ⟨b + ro s, by omega⟩ := fun s =>
    Fin.ext (by show (q : ℕ) * 128 + s = b + ro s; rw [hr s]; omega)
  unfold gR
  simp only [e, ← hU, ← hV]
  rfl

theorem out14 (q : Fin 4) (t : Fin 128) (j : Fin 512) : out0_14 x0 x1 x2 x3 x4 x5 x6 x7 x8 x9 (ix2 ⟨q * 128 + t, by omega⟩ j) = gR x0 x1 x3 x4 x5 x6 q t j := by
  unfold out0_14
  canon_tiles y h
  · idx_vars y
    have e0 : (q : ℕ) * 128 + t = 384 + y0 := h0
    have e1 : (j : ℕ) = y1 := h1
    obtain rfl : t = y0 := Fin.ext (by omega)
    obtain rfl : j = y1 := Fin.ext e1
    unfold k0_pay72 k0_pay73 k0_pay31
    refine (t3 (k0_pay70 x0 x1 x2 x3 x4 x5 x6 x7 x8 x9) (k0_pay71 x0 x1 x2 x3 x4 x5 x6 x7 x8 x9) _ x5 t j).trans ?_
    rw [bs_at]
    exact gate_of x0 x1 x3 x4 x5 x6 (k0_pay70 x0 x1 x2 x3 x4 x5 x6 x7 x8 x9) (k0_pay71 x0 x1 x2 x3 x4 x5 x6 x7 x8 x9) 128 256 (by omega) (u1 x0 x1 x2 x3 x4 x5 x6 x7 x8 x9) (v1 x0 x1 x2 x3 x4 x5 x6 x7 x8 x9) (fun s => ⟨128 + s, by omega⟩) (fun s => rfl) q (by omega) t j
  · idx_vars y
    have e0 : (q : ℕ) * 128 + t = 256 + y0 := h0
    have e1 : (j : ℕ) = y1 := h1
    obtain rfl : t = y0 := Fin.ext (by omega)
    obtain rfl : j = y1 := Fin.ext e1
    unfold k0_pay72 k0_pay73 k0_pay31
    refine (t2 (k0_pay70 x0 x1 x2 x3 x4 x5 x6 x7 x8 x9) (k0_pay71 x0 x1 x2 x3 x4 x5 x6 x7 x8 x9) _ x5 t j).trans ?_
    rw [bs_at]
    exact gate_of x0 x1 x3 x4 x5 x6 (k0_pay70 x0 x1 x2 x3 x4 x5 x6 x7 x8 x9) (k0_pay71 x0 x1 x2 x3 x4 x5 x6 x7 x8 x9) 0 256 (by omega) (u1 x0 x1 x2 x3 x4 x5 x6 x7 x8 x9) (v1 x0 x1 x2 x3 x4 x5 x6 x7 x8 x9) (fun s => ⟨s, by omega⟩) (fun s => (Nat.zero_add _).symm) q (by omega) t j
  · idx_vars y
    have e0 : (q : ℕ) * 128 + t = 128 + y0 := h0
    have e1 : (j : ℕ) = y1 := h1
    obtain rfl : t = y0 := Fin.ext (by omega)
    obtain rfl : j = y1 := Fin.ext e1
    unfold k0_pay72 k0_pay73 k0_pay31
    refine (t1 (k0_pay65 x0 x1 x2 x3 x4 x5 x6 x7 x8 x9) (k0_pay66 x0 x1 x2 x3 x4 x5 x6 x7 x8 x9) _ x5 t j).trans ?_
    rw [bs_at]
    exact gate_of x0 x1 x3 x4 x5 x6 (k0_pay65 x0 x1 x2 x3 x4 x5 x6 x7 x8 x9) (k0_pay66 x0 x1 x2 x3 x4 x5 x6 x7 x8 x9) 128 0 (by omega) (u0 x0 x1 x2 x3 x4 x5 x6 x7 x8 x9) (v0 x0 x1 x2 x3 x4 x5 x6 x7 x8 x9) (fun s => ⟨128 + s, by omega⟩) (fun s => rfl) q (by omega) t j
  · idx_vars y
    have e0 : (q : ℕ) * 128 + t = 0 + y0 := by rw [Nat.zero_add]; exact h0
    have e1 : (j : ℕ) = y1 := h1
    obtain rfl : t = y0 := Fin.ext (by omega)
    obtain rfl : j = y1 := Fin.ext e1
    unfold k0_pay72 k0_pay73 k0_pay31
    refine (t0 (k0_pay65 x0 x1 x2 x3 x4 x5 x6 x7 x8 x9) (k0_pay66 x0 x1 x2 x3 x4 x5 x6 x7 x8 x9) _ x5 t j).trans ?_
    rw [bs_at]
    exact gate_of x0 x1 x3 x4 x5 x6 (k0_pay65 x0 x1 x2 x3 x4 x5 x6 x7 x8 x9) (k0_pay66 x0 x1 x2 x3 x4 x5 x6 x7 x8 x9) 0 0 (by omega) (u0 x0 x1 x2 x3 x4 x5 x6 x7 x8 x9) (v0 x0 x1 x2 x3 x4 x5 x6 x7 x8 x9) (fun s => ⟨s, by omega⟩) (fun s => (Nat.zero_add _).symm) q (by omega) t j

end Cert.Inproj

end
-- ==== Proof.InprojRun.lean ====
/- The input projection's run with each result array named, from the frame run. -/
module

public import proofs.«01_k».proof.Proof.Gen.Kernel4Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

open Cert.Kernel4Ideal Cert.Kernel4Ideal.Gen

namespace Cert.Inproj

variable (m : (ℓ : Loc nD τ sig) → Buf (Elt Ideal) ℓ) (ρ : Dev nD → PrngReg)

/-- After the run an array that no window stages is as launched. -/
theorem kept (c : Dev nD) (r : PUnit × MemSt nD τ sig (Elt Ideal)) (h : Pipeline.FramePost cfgs (dats m) 0 (V m) r)
    (b : Ref sig .tc) (hb : b ∈ Pipeline.restRefs sig cfg0.spec) (hv : V m c b = m ((c : Thread nD τ).loc b)) :
    r.2.mem ((c : Thread nD τ).loc b) = m ((c : Thread nD τ).loc b) :=
  ((h c).2 b hb).trans hv

/-- The run: each result is its window's array after the last grid point, the arguments are as launched. -/
theorem run_blocks : θ_run defs (onTc (τ := τ) (main (F := Ideal))) ⟨m, fun _ => 0, ρ⟩ fun r => ∀ c : Dev nD,
      r.2.mem ((c : Thread nD τ).loc main_v39_0) = (dats m 0 c).arrAt 10 cfg0.N
      ∧ r.2.mem ((c : Thread nD τ).loc main_v39_1) = (dats m 0 c).arrAt 11 cfg0.N
      ∧ r.2.mem ((c : Thread nD τ).loc main_v39_2) = (dats m 0 c).arrAt 12 cfg0.N
      ∧ r.2.mem ((c : Thread nD τ).loc main_v39_3) = (dats m 0 c).arrAt 13 cfg0.N
      ∧ r.2.mem ((c : Thread nD τ).loc main_v39_4) = (dats m 0 c).arrAt 14 cfg0.N
      ∧ r.2.mem ((c : Thread nD τ).loc main_v39_5) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 10, (h c).1 11, (h c).1 12, (h c).1 13, (h c).1 14, (h c).1 15,
      kept m c r h main_arg0 (Pipeline.mem_restRefs_of main_arg0 (by decide) (by decide)) (V_main_arg0 m c),
      kept m c r h main_arg1 (Pipeline.mem_restRefs_of main_arg1 (by decide) (by decide)) (V_main_arg1 m c),
      kept m c r h main_arg2 (Pipeline.mem_restRefs_of main_arg2 (by decide) (by decide)) (V_main_arg2 m c),
      kept m c r h main_arg3 (Pipeline.mem_restRefs_of main_arg3 (by decide) (by decide)) (V_main_arg3 m c),
      kept m c r h main_arg4 (Pipeline.mem_restRefs_of main_arg4 (by decide) (by decide)) (V_main_arg4 m c),
      kept m c r h main_arg5 (Pipeline.mem_restRefs_of main_arg5 (by decide) (by decide)) (V_main_arg5 m c),
      kept m c r h main_arg6 (Pipeline.mem_restRefs_of main_arg6 (by decide) (by decide)) (V_main_arg6 m c)⟩)
    (run_main m ρ)

end Cert.Inproj

end
-- ==== Proof.InprojSpec.lean ====
/- The input projection's six results as functions of the arguments, entry by entry. -/
module

public import proofs.«01_k».proof.Proof.InprojMath

@[expose] public section

set_option maxRecDepth 16384

noncomputable section

open Idealize.ShloMosaic Idealize.ShloMosaic.TcCoe Idealize.SL.Sem
open Idealize.ShloMosaic.Pipeline (Dat)
open scoped BigOperators

namespace Cert.Inproj
open Cert.Mix (mat dot)

/-- The angle of lane `l` at position `n`. -/
def ang (n l : ℕ) : EReal := FloatOps.sitofp (F := Ideal) FTy.f32 (BitVec.ofNat 32 n) *
  Ideal.pow (Ideal.ofBits FTy.f32 0x461C4000#32) (Ideal.div (-FloatOps.sitofp (F := Ideal) FTy.f32 (BitVec.ofNat 32 l)) (Ideal.ofBits FTy.f32 0x41800000#32))

/-- A row of 32 lanes rotated by its position: lane `l` with lane `l + 16`. -/
def pe (n : ℕ) (q : Fin 32 → EReal) (k : Fin 32) : EReal :=
  if h : (k : ℕ) < 16 then q ⟨k, by omega⟩ * Ideal.cos (ang n k) - q ⟨k + 16, by omega⟩ * Ideal.sin (ang n k)
  else q ⟨k - 16, by omega⟩ * Ideal.sin (ang n (k - 16)) + q ⟨k, by omega⟩ * Ideal.cos (ang n (k - 16))

/-- The kernel's tables: the cosines, the sines of the upper lanes, the negated sines of the lower ones. -/
def tc (n : ℕ) (k : Fin 128) : EReal := if (k : ℕ) < 16 then Ideal.cos (ang n k) else if (k : ℕ) < 32 then Ideal.cos (ang n (k - 16)) else 0
def ta (n : ℕ) (k : Fin 128) : EReal := if (k : ℕ) < 16 then 0 else if (k : ℕ) < 32 then Ideal.sin (ang n (k - 16)) else 0
def tb (n : ℕ) (k : Fin 128) : EReal := if (k : ℕ) < 16 then -Ideal.sin (ang n k) else 0

/-- Turned by the tables the first 32 lanes are rotated. -/
theorem turn_lt (n : ℕ) (z : Fin 128 → EReal) (l : Fin 32) :
    turn z (tc n) (ta n) (tb n) ⟨l, by omega⟩ = pe n (fun k => z ⟨k, by omega⟩) l := by
  unfold turn pe tc ta tb
  by_cases h : (l : ℕ) < 16
  · simp only [h, if_true, dif_pos, mul_zero, add_zero, mul_neg]
    rw [show (⟨(l + 128 - 112) % 128, by omega⟩ : Fin 128) = ⟨l + 16, by omega⟩ from Fin.ext (by show ((l : ℕ) + 128 - 112) % 128 = l + 16; omega)]
    rfl
  · have h2 : (l : ℕ) < 32 := l.isLt
    simp only [h, h2, if_true, if_false, dif_neg, not_false_eq_true, mul_zero, add_zero]
    rw [show (⟨(l + 128 - 16) % 128, by omega⟩ : Fin 128) = ⟨l - 16, by omega⟩ from Fin.ext (by show ((l : ℕ) + 128 - 16) % 128 = l - 16; omega), add_comm]

/-- The other lanes are zero. -/
theorem turn_ge (n : ℕ) (z : Fin 128 → EReal) (l : Fin 128) (h : ¬(l : ℕ) < 32) : turn z (tc n) (ta n) (tb n) l = 0 := by
  have h' : ¬(l : ℕ) < 16 := by omega
  unfold turn tc ta tb
  simp only [h, h', if_false, mul_zero, add_zero]

/-- The mixing weights, zero above the diagonal. -/
def msk (w : (⟨3, ![8, 128, 128]⟩ : Shape).Idx → EReal) (i : (⟨3, ![8, 128, 128]⟩ : Shape).Idx) : EReal :=
  Scalar.select (Scalar.select (IntOp.cmpi CmpIPredicate.sge (IntOp.addi (BitVec.ofNat 32 (i 1 : Fin 128)) 0#32) (BitVec.ofNat 32 (i 2 : Fin 128))) 1#1 0#1)
    (w i) (FloatOps.sitofp (F := Ideal) FTy.f32 0#32)

variable (a0 : (⟨3, ![8, 2048, 1024]⟩ : Shape).Idx → EReal) (a1 : (⟨2, ![1024, 1440]⟩ : Shape).Idx → EReal) (a2 : (⟨1, ![128]⟩ : Shape).Idx → EReal)
  (a3 a4 : (⟨1, ![512]⟩ : Shape).Idx → EReal) (a5 : (⟨3, ![8, 128, 128]⟩ : Shape).Idx → EReal) (a6 : (⟨2, ![8, 128]⟩ : Shape).Idx → EReal)

/-- The projected row. -/
def pr (b : Fin 8) (s : Fin 2048) (j : Fin 1440) : EReal := ∑ k, a0 (ix3 b s k) * a1 (ix2 k j)
/-- The latent keys. -/
def ckv (b : Fin 8) (s : Fin 2048) : Fin 128 → EReal := rms (fun k => a2 (ix1 k)) (fun k => pr a0 a1 b s ⟨256 + k, by omega⟩)
/-- The rotated keys. -/
def kpe (b : Fin 8) (s : Fin 2048) : Fin 32 → EReal := pe s (fun k => pr a0 a1 b s ⟨384 + k, by omega⟩)
/-- Latent keys, rotated keys and zeros side by side. -/
def keys (b : Fin 8) (s : Fin 2048) (j : Fin 256) : EReal :=
  if h : (j : ℕ) < 128 then ckv a0 a1 a2 b s ⟨j, h⟩ else if h : (j : ℕ) < 160 then kpe a0 a1 b s ⟨j - 128, by omega⟩ else 0
/-- The gate's own half. -/
def gu (b : Fin 8) (s : Fin 2048) (j : Fin 512) : EReal := act (pr a0 a1 b s ⟨416 + j, by omega⟩)
/-- The gate's mixed half, normalised. -/
def gv (b : Fin 8) (s : Fin 2048) : Fin 512 → EReal :=
  ln (fun k => a3 (ix1 k)) (fun k => a4 (ix1 k)) (fun k => act (pr a0 a1 b s ⟨928 + k, by omega⟩))
/-- The gate of chunk `q` at its row `t`. -/
def gt (b : Fin 8) (q : Fin 16) (t : Fin 128) (j : Fin 512) : EReal :=
  gu a0 a1 b ⟨q * 128 + t, by omega⟩ j
    * (mixed (msk a5) t (fun s l => gv a0 a1 a3 a4 b ⟨q * 128 + s, by omega⟩ l) j + a6 (ix2 ⟨j / 64, by omega⟩ t))

/-- The six results at an entry; the rows of all sequences are numbered through. -/
def r0 (n : Fin 16384) (j : Fin 256) : EReal := pr a0 a1 ⟨n / 2048, by omega⟩ ⟨n % 2048, by omega⟩ ⟨j, by omega⟩
def r1 (n : Fin 16384) (j : Fin 128) : EReal := ckv a0 a1 a2 ⟨n / 2048, by omega⟩ ⟨n % 2048, by omega⟩ j
def r2 (b : Fin 8) (l : Fin 32) (s : Fin 2048) : EReal := kpe a0 a1 b s l
def r3 (n : Fin 16384) (j : Fin 256) : EReal := keys a0 a1 a2 ⟨n / 2048, by omega⟩ ⟨n % 2048, by omega⟩ j
def r4 (n : Fin 16384) (j : Fin 512) : EReal := gt a0 a1 a3 a4 a5 a6 ⟨n / 2048, by omega⟩ ⟨n % 2048 / 128, by omega⟩ ⟨n % 2048 % 128, by omega⟩ j
def r5 (b : Fin 8) (t : Fin 128) (j : Fin 512) : EReal := gv a0 a1 a3 a4 b ⟨1920 + t, by omega⟩ j
/-- The six result arrays. -/
def o0 (i : (⟨2, ![16384, 256]⟩ : Shape).Idx) : EReal := r0 a0 a1 (i 0) (i 1)
def o1 (i : (⟨2, ![16384, 128]⟩ : Shape).Idx) : EReal := r1 a0 a1 a2 (i 0) (i 1)
def o2 (i : (⟨3, ![8, 32, 2048]⟩ : Shape).Idx) : EReal := r2 a0 a1 (i 0) (i 1) (i 2)
def o3 (i : (⟨2, ![16384, 256]⟩ : Shape).Idx) : EReal := r3 a0 a1 a2 (i 0) (i 1)
def o4 (i : (⟨2, ![16384, 512]⟩ : Shape).Idx) : EReal := r4 a0 a1 a3 a4 a5 a6 (i 0) (i 1)
def o5 (i : (⟨3, ![8, 128, 512]⟩ : Shape).Idx) : EReal := r5 a0 a1 a3 a4 (i 0) (i 1) (i 2)

end Cert.Inproj

end
-- ==== Proof.InprojHost.lean ====
/- What the kernel finds at every grid point, from the arguments. -/
module

public import proofs.«01_k».proof.Proof.InprojOut
public import proofs.«01_k».proof.Proof.InprojRun
public import proofs.«01_k».proof.Proof.InprojSpec
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

open Cert.Kernel4Ideal Cert.Kernel4Ideal.Gen

namespace Cert.Inproj
open Cert.Mix (mat dot)

variable (m : (ℓ : Loc nD τ sig) → Buf (Elt Ideal) ℓ) (c : Dev nD)

/-- Every window's block index at every grid point. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0, 0]
    ∧ win0_6.index t = ![0, 0] ∧ win0_7.index t = ![t.val % 4, 0] ∧ win0_8.index t = ![t.val % 4, 0] ∧ win0_9.index t = ![t.val % 4, 0]
    ∧ win0_10.index t = ![t.val, 0] ∧ win0_11.index t = ![t.val, 0] ∧ win0_12.index t = ![t.val / 4, 0, t.val % 4]
    ∧ win0_13.index t = ![t.val, 0] ∧ win0_14.index t = ![t.val, 0] ∧ win0_15.index t = ![t.val / 4, 0, 0] :=
  (by decide +kernel : ∀ t : Fin grid0.N, _)

theorem lt32 (t : Fin cfg0.N) : (t : ℕ) < 32 := t.isLt

/-- An argument's array at launch. -/
def A0 : S8x2048x1024.Idx → EReal := m ((c : Thread nD τ).loc main_arg0)
def A1 : S1024x1440.Idx → EReal := m ((c : Thread nD τ).loc main_arg1)
def A2 : S128.Idx → EReal := m ((c : Thread nD τ).loc main_arg2)
def A3 : S512.Idx → EReal := m ((c : Thread nD τ).loc main_arg3)
def A4 : S512.Idx → EReal := m ((c : Thread nD τ).loc main_arg4)
def A5 : S8x128x128.Idx → EReal := m ((c : Thread nD τ).loc main_arg5)
def A6 : S8x128.Idx → EReal := m ((c : Thread nD τ).loc main_arg6)

/-- Three arrays of columns side by side. -/
theorem cat3 (a b : FVec Ideal S2048x16 .f32) (d : FVec Ideal S2048x96 .f32) (h) (n : Fin 2048) (k : Fin 128) :
    concatenate S2048x128 1 [⟨S2048x16, a⟩, ⟨S2048x16, b⟩, ⟨S2048x96, d⟩] h (ix2 n k)
      = if h : (k : ℕ) < 16 then a (ix2 n ⟨k, h⟩) else if h' : (k : ℕ) < 32 then b (ix2 n ⟨k - 16, by omega⟩) else d (ix2 n ⟨k - 32, by omega⟩) := by
  pointwise
  by_cases h1 : (k : ℕ) < 16
  · simp only [h1, dif_pos]
  · by_cases h2 : (k : ℕ) < 32
    · simp only [h1, h2, show (k : ℕ) - 16 < 16 by omega, dif_pos, dif_neg, not_false_eq_true]
    · simp only [h1, h2, show ¬((k : ℕ) - 16 < 16) by omega, dif_neg, not_false_eq_true]
      rfl
/-- The projection's four ranges of columns side by side. -/
theorem cat4 (a : FVec Ideal S1024x384 .f32) (b : FVec Ideal S1024x1024 .f32) (d : FVec Ideal S1024x32 .f32) (e : FVec Ideal S1024x96 .f32) (h) (n : Fin 1024) (k : Fin 1536) :
    concatenate S1024x1536 1 [⟨S1024x384, a⟩, ⟨S1024x1024, b⟩, ⟨S1024x32, d⟩, ⟨S1024x96, e⟩] h (ix2 n k)
      = if h : (k : ℕ) < 384 then a (ix2 n ⟨k, h⟩) else if h' : (k : ℕ) < 1408 then b (ix2 n ⟨k - 384, by omega⟩)
        else if h'' : (k : ℕ) < 1440 then d (ix2 n ⟨k - 1408, by omega⟩) else e (ix2 n ⟨k - 1440, by omega⟩) := by
  pointwise
  by_cases h1 : (k : ℕ) < 384
  · simp only [h1, dif_pos]
  · by_cases h2 : (k : ℕ) < 1408
    · simp only [h1, h2, show (k : ℕ) - 384 < 1024 by omega, dif_pos, dif_neg, not_false_eq_true]
    · by_cases h3 : (k : ℕ) < 1440
      · simp only [h1, h2, h3, show ¬((k : ℕ) - 384 < 1024) by omega, show (k : ℕ) - 384 - 1024 < 32 by omega, dif_pos, dif_neg, not_false_eq_true]
        rfl
      · simp only [h1, h2, h3, show ¬((k : ℕ) - 384 < 1024) by omega, show ¬((k : ℕ) - 384 - 1024 < 32) by omega, dif_neg, not_false_eq_true]
        rfl

/-! ### What the host operations leave for the kernel -/

theorem e31 (n : Fin 2048) (k : Fin 128) : (V m c main_v31 : S2048x128.Idx → EReal) (ix2 n k) = tc n k := by
  simp only [V, List.flatten_cons, List.flatten_nil, List.append_nil, List.cons_append, List.nil_append]
  after_reads_simp
  refine Eq.trans (cat3 _ _ _ _ n k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold tc ang
  split_ifs <;> rfl
theorem e32 (n : Fin 2048) (k : Fin 128) : (V m c main_v32 : S2048x128.Idx → EReal) (ix2 n k) = ta n k := by
  simp only [V, List.flatten_cons, List.flatten_nil, List.append_nil, List.cons_append, List.nil_append]
  after_reads_simp
  refine Eq.trans (cat3 _ _ _ _ n k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold ta ang
  split_ifs <;> rfl
theorem e34 (n : Fin 2048) (k : Fin 128) : (V m c main_v34 : S2048x128.Idx → EReal) (ix2 n k) = tb n k := by
  simp only [V, List.flatten_cons, List.flatten_nil, List.append_nil, List.cons_append, List.nil_append]
  after_reads_simp
  refine Eq.trans (cat3 _ _ _ _ n k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold tb ang
  split_ifs <;> rfl

/-- The projection's columns as the host lays them out. -/
def wp (w : S1024x1440.Idx → EReal) (k : Fin 1024) (p : Fin 1536) : EReal :=
  if h : (p : ℕ) < 384 then w (ix2 k ⟨p, by omega⟩) else if h : (p : ℕ) < 1408 then w (ix2 k ⟨p + 32, by omega⟩)
  else if h : (p : ℕ) < 1440 then w (ix2 k ⟨p - 1024, by omega⟩) else 0

theorem e4 (k : Fin 1024) (p : Fin 1536) : (V m c main_v4 : S1024x1536.Idx → EReal) (ix2 k p) = wp (A1 m c) k p := by
  simp only [V, List.flatten_cons, List.flatten_nil, List.append_nil, List.cons_append, List.nil_append]
  after_reads_simp
  refine Eq.trans (cat4 _ _ _ _ _ k p) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  after_reads_simp
  pointwise
  unfold wp A1
  by_cases h1 : (p : ℕ) < 384
  · simp only [h1, dif_pos]
  · by_cases h2 : (p : ℕ) < 1408
    · simp only [h1, h2, dif_pos, dif_neg, not_false_eq_true]
      exact congrArg (fun z : Fin 1440 => m (c.tc.loc main_arg1) (ix2 k z)) (Fin.ext (by show 416 + ((p : ℕ) - 384) = p + 32; omega))
    · by_cases h3 : (p : ℕ) < 1440
      · simp only [h1, h2, h3, dif_pos, dif_neg, not_false_eq_true]
        exact congrArg (fun z : Fin 1440 => m (c.tc.loc main_arg1) (ix2 k z)) (Fin.ext (by show 384 + ((p : ℕ) - 1408) = p - 1024; omega))
      · simp only [h1, h2, h3, dif_neg, not_false_eq_true]
theorem e5 (k : Fin 1024) (p : Fin 1536) : (V m c main_v5 : S1024x1536.Idx → EReal) (ix2 k p) = wp (A1 m c) k p := by
  refine Eq.trans ?_ (e4 m c k p)
  simp only [V, List.flatten_cons, List.flatten_nil, List.append_nil, List.cons_append, List.nil_append]
  after_reads_simp
  rfl
theorem e10 (h : Fin 8) (r s : Fin 128) : (V m c main_v10 : S8x128x128.Idx → EReal) (ix3 h r s) = msk (A5 m c) (ix3 h r s) := by
  simp only [V, List.flatten_cons, List.flatten_nil, List.append_nil, List.cons_append, List.nil_append]
  after_reads_simp
  pointwise
  rfl
theorem e13 (r : Fin 128) (j : Fin 512) : (V m c main_v13 : S128x512.Idx → EReal) (ix2 r j) = A6 m c (ix2 ⟨j / 64, by omega⟩ r) := by
  simp only [V, List.flatten_cons, List.flatten_nil, List.append_nil, List.cons_append, List.nil_append]
  after_reads_simp
  pointwise
  rfl
theorem e35 (n : Fin 16384) (k : Fin 1024) : (V m c main_v35 : S16384x1024.Idx → EReal) (ix2 n k) = A0 m c (ix3 ⟨n / 2048, by omega⟩ ⟨n % 2048, by omega⟩ k) := by
  simp only [V, List.flatten_cons, List.flatten_nil, List.append_nil, List.cons_append, List.nil_append]
  after_reads_simp
  pointwise
  rfl
theorem e36 (k : Fin 128) : (V m c main_v36 : S1x128.Idx → EReal) (ix2 0 k) = A2 m c (ix1 k) := by
  simp only [V, List.flatten_cons, List.flatten_nil, List.append_nil, List.cons_append, List.nil_append]
  after_reads_simp
  pointwise
  rfl
theorem e37 (k : Fin 512) : (V m c main_v37 : S1x512.Idx → EReal) (ix2 0 k) = A3 m c (ix1 k) := by
  simp only [V, List.flatten_cons, List.flatten_nil, List.append_nil, List.cons_append, List.nil_append]
  after_reads_simp
  pointwise
  rfl
theorem e38 (k : Fin 512) : (V m c main_v38 : S1x512.Idx → EReal) (ix2 0 k) = A4 m c (ix1 k) := by
  simp only [V, List.flatten_cons, List.flatten_nil, List.append_nil, List.cons_append, List.nil_append]
  after_reads_simp
  pointwise
  rfl
variable (t : Fin cfg0.N)

/-- A grid point's sequence, and the position in it of a row of its block. -/
def bq : Fin 8 := ⟨t / 4, by have := lt32 t; omega⟩
def sq (R : Fin 512) : Fin 2048 := ⟨t % 4 * 512 + R, by omega⟩
/-- The row among all rows. -/
def nq (R : Fin 512) : Fin 16384 := ⟨t * 512 + R, by have := lt32 t; omega⟩
theorem nq_div (R : Fin 512) (h) : (⟨(nq t R : ℕ) / 2048, h⟩ : Fin 8) = bq t :=
  Fin.ext (by show ((t : ℕ) * 512 + R) / 2048 = t / 4; omega)
theorem nq_mod (R : Fin 512) (h) : (⟨(nq t R : ℕ) % 2048, h⟩ : Fin 2048) = sq t R :=
  Fin.ext (by show ((t : ℕ) * 512 + R) % 2048 = t % 4 * 512 + R; omega)

theorem b0 (r : Fin 512) (k : Fin 1024) : (iblk m c 0 t : S512x1024.Idx → EReal) (ix2 r k) = A0 m c (ix3 (bq t) (sq t r) k) := by
  rw [← nq_div t r (by omega), ← nq_mod t r (by omega)]
  exact (by blk_point [iblk, idx t] : iblk m c 0 t (ix2 r k) = V m c main_v35 (ix2 ⟨t * 512 + r, by have := lt32 t; omega⟩ k)).trans (e35 m c _ k)
theorem b1 : mat (iblk m c 1 t : S1024x1536.Idx → EReal) = wp (A1 m c) :=
  funext fun k => funext fun p => (by blk_point [iblk, idx t] : iblk m c 1 t (ix2 k p) = V m c main_v5 (ix2 k p)).trans (e5 m c k p)
theorem b2 : mat (iblk m c 2 t : S1x128.Idx → EReal) 0 = fun k => A2 m c (ix1 k) :=
  funext fun k => (by blk_point [iblk, idx t] : iblk m c 2 t (ix2 0 k) = V m c main_v36 (ix2 0 k)).trans (e36 m c k)
theorem b3 : mat (iblk m c 3 t : S1x512.Idx → EReal) 0 = fun k => A3 m c (ix1 k) :=
  funext fun k => (by blk_point [iblk, idx t] : iblk m c 3 t (ix2 0 k) = V m c main_v37 (ix2 0 k)).trans (e37 m c k)
theorem b4 : mat (iblk m c 4 t : S1x512.Idx → EReal) 0 = fun k => A4 m c (ix1 k) :=
  funext fun k => (by blk_point [iblk, idx t] : iblk m c 4 t (ix2 0 k) = V m c main_v38 (ix2 0 k)).trans (e38 m c k)
theorem b5 : (iblk m c 5 t : S8x128x128.Idx → EReal) = msk (A5 m c) := by
  funext i; idx_vars i
  exact (by blk_point [iblk, idx t] : iblk m c 5 t (ix3 i0 i1 i2) = V m c main_v10 (ix3 i0 i1 i2)).trans (e10 m c i0 i1 i2)
theorem b6 (r : Fin 128) (j : Fin 512) : (iblk m c 6 t : S128x512.Idx → EReal) (ix2 r j) = A6 m c (ix2 ⟨j / 64, by omega⟩ r) :=
  (by blk_point [iblk, idx t] : iblk m c 6 t (ix2 r j) = V m c main_v13 (ix2 r j)).trans (e13 m c r j)
theorem b7 (r : Fin 512) : mat (iblk m c 7 t : S512x128.Idx → EReal) r = tc (t % 4 * 512 + r) :=
  funext fun k => (by blk_point [iblk, idx t] : iblk m c 7 t (ix2 r k) = V m c main_v31 (ix2 ⟨t % 4 * 512 + r, by omega⟩ k)).trans (e31 m c _ k)
theorem b8 (r : Fin 512) : mat (iblk m c 8 t : S512x128.Idx → EReal) r = ta (t % 4 * 512 + r) :=
  funext fun k => (by blk_point [iblk, idx t] : iblk m c 8 t (ix2 r k) = V m c main_v32 (ix2 ⟨t % 4 * 512 + r, by omega⟩ k)).trans (e32 m c _ k)
theorem b9 (r : Fin 512) : mat (iblk m c 9 t : S512x128.Idx → EReal) r = tb (t % 4 * 512 + r) :=
  funext fun k => (by blk_point [iblk, idx t] : iblk m c 9 t (ix2 r k) = V m c main_v34 (ix2 ⟨t % 4 * 512 + r, by omega⟩ k)).trans (e34 m c _ k)

theorem emb10 (y0 : Fin 512) (y1 : Fin 256) : (win0_10.blk t).view.emb (ix2 y0 y1)
    = ix2 ⟨t * 512 + y0, by have := lt32 t; omega⟩ y1 := by
  blk_ext [idx t]
theorem emb11 (y0 : Fin 512) (y1 : Fin 128) : (win0_11.blk t).view.emb (ix2 y0 y1)
    = ix2 ⟨t * 512 + y0, by have := lt32 t; omega⟩ y1 := by
  blk_ext [idx t]
theorem emb12 (y0 : Fin 1) (y1 : Fin 32) (y2 : Fin 512) : (win0_12.blk t).view.emb (ix3 y0 y1 y2)
    = ix3 ⟨t / 4, by have := lt32 t; omega⟩ y1 ⟨t % 4 * 512 + y2, by omega⟩ := by
  blk_ext [idx t]
theorem emb13 (y0 : Fin 512) (y1 : Fin 256) : (win0_13.blk t).view.emb (ix2 y0 y1)
    = ix2 ⟨t * 512 + y0, by have := lt32 t; omega⟩ y1 := by
  blk_ext [idx t]
theorem emb14 (y0 : Fin 512) (y1 : Fin 512) : (win0_14.blk t).view.emb (ix2 y0 y1)
    = ix2 ⟨t * 512 + y0, by have := lt32 t; omega⟩ y1 := by
  blk_ext [idx t]
theorem emb15 (y0 : Fin 1) (y1 : Fin 128) (y2 : Fin 512) : (win0_15.blk t).view.emb (ix3 y0 y1 y2)
    = ix3 ⟨t / 4, by have := lt32 t; omega⟩ y1 y2 := by
  blk_ext [idx t]

end Cert.Inproj

end
-- ==== Proof.InprojFinal.lean ====
/- The result arrays after the whole grid, from the arguments. -/
module

public import proofs.«01_k».proof.Proof.InprojOut
public import proofs.«01_k».proof.Proof.InprojHost

@[expose] public section

set_option maxRecDepth 16384

noncomputable section

open Idealize.ShloMosaic Idealize.ShloMosaic.TcCoe Idealize.SL.Sem
open Idealize.ShloMosaic.Pipeline (Dat)
open scoped BigOperators

open Cert.Kernel4Ideal Cert.Kernel4Ideal.Gen

namespace Cert.Inproj
open Cert.Mix (mat dot vec)

variable (m : (ℓ : Loc nD τ sig) → Buf (Elt Ideal) ℓ) (c : Dev nD)

variable (t : Fin cfg0.N)

theorem z_eq (R : Fin 512) (p : Fin 1536) (j : Fin 1440) (h : ∀ k, wp (A1 m c) k p = A1 m c (ix2 k j)) :
    zR (iblk m c 0 t) (iblk m c 1 t) R p = pr (A0 m c) (A1 m c) (bq t) (sq t R) j := by
  unfold zR pr
  rw [b1]
  exact Finset.sum_congr rfl fun k _ => congrArg₂ (· * ·) (b0 m c t R k) (h k)
theorem z_lo (R : Fin 512) (p : Fin 1536) (j : Fin 1440) (h : (p : ℕ) < 384) (e : (p : ℕ) = j) :
    zR (iblk m c 0 t) (iblk m c 1 t) R p = pr (A0 m c) (A1 m c) (bq t) (sq t R) j :=
  z_eq m c t R p j fun k => by unfold wp; rw [dif_pos h]; exact congrArg (fun z => A1 m c (ix2 k z)) (Fin.ext e)
theorem z_mid (R : Fin 512) (p : Fin 1536) (j : Fin 1440) (h : ¬(p : ℕ) < 384) (h2 : (p : ℕ) < 1408) (e : (p : ℕ) + 32 = j) :
    zR (iblk m c 0 t) (iblk m c 1 t) R p = pr (A0 m c) (A1 m c) (bq t) (sq t R) j :=
  z_eq m c t R p j fun k => by unfold wp; rw [dif_neg h, dif_pos h2]; exact congrArg (fun z => A1 m c (ix2 k z)) (Fin.ext e)
theorem z_hi (R : Fin 512) (p : Fin 1536) (j : Fin 1440) (h : ¬(p : ℕ) < 384) (h2 : ¬(p : ℕ) < 1408) (h3 : (p : ℕ) < 1440) (e : (p : ℕ) - 1024 = j) :
    zR (iblk m c 0 t) (iblk m c 1 t) R p = pr (A0 m c) (A1 m c) (bq t) (sq t R) j :=
  z_eq m c t R p j fun k => by unfold wp; rw [dif_neg h, dif_neg h2, dif_pos h3]; exact congrArg (fun z => A1 m c (ix2 k z)) (Fin.ext e)

theorem c_eq (R : Fin 512) : cR (iblk m c 0 t) (iblk m c 1 t) (iblk m c 2 t) R = ckv (A0 m c) (A1 m c) (A2 m c) (bq t) (sq t R) := by
  unfold cR ckv
  rw [b2]
  exact congrArg (rms _) (funext fun k => z_lo m c t R _ _ (by show 256 + (k : ℕ) < 384; omega) rfl)
theorem k_eq (R : Fin 512) (l : Fin 32) : kR (iblk m c 0 t) (iblk m c 1 t) (iblk m c 7 t) (iblk m c 8 t) (iblk m c 9 t) R ⟨l, by omega⟩
    = kpe (A0 m c) (A1 m c) (bq t) (sq t R) l := by
  unfold kR kpe
  rw [b7, b8, b9, turn_lt]
  exact congrArg (fun q => pe _ q l) (funext fun k => z_hi m c t R _ _ (by show ¬1408 + (k : ℕ) < 384; omega) (by show ¬1408 + (k : ℕ) < 1408; omega)
    (by show 1408 + (k : ℕ) < 1440; omega) (by show 1408 + (k : ℕ) - 1024 = 384 + k; omega))
theorem k_zero (R : Fin 512) (l : Fin 128) (h : ¬(l : ℕ) < 32) : kR (iblk m c 0 t) (iblk m c 1 t) (iblk m c 7 t) (iblk m c 8 t) (iblk m c 9 t) R l = 0 := by
  unfold kR
  rw [b7, b8, b9, turn_ge _ _ _ h]
theorem side_eq (R : Fin 512) (j : Fin 256) : side (cR (iblk m c 0 t) (iblk m c 1 t) (iblk m c 2 t) R) (kR (iblk m c 0 t) (iblk m c 1 t) (iblk m c 7 t) (iblk m c 8 t) (iblk m c 9 t) R) j
    = keys (A0 m c) (A1 m c) (A2 m c) (bq t) (sq t R) j := by
  unfold side keys
  by_cases h : (j : ℕ) < 128
  · rw [dif_pos h, dif_pos h, c_eq]
  · rw [dif_neg h, dif_neg h]
    by_cases h2 : (j : ℕ) < 160
    · rw [dif_pos h2]; exact k_eq m c t R ⟨j - 128, by omega⟩
    · rw [dif_neg h2]; exact k_zero m c t R _ (by show ¬(j : ℕ) - 128 < 32; omega)
theorem u_eq (R j : Fin 512) : uR (iblk m c 0 t) (iblk m c 1 t) R j = gu (A0 m c) (A1 m c) (bq t) (sq t R) j := by
  unfold uR gu
  exact congrArg act (z_mid m c t R _ _ (by show ¬384 + (j : ℕ) < 384; omega) (by show 384 + (j : ℕ) < 1408; omega) (by show 384 + (j : ℕ) + 32 = 416 + j; omega))
theorem v_eq (R : Fin 512) : vR (iblk m c 0 t) (iblk m c 1 t) (iblk m c 3 t) (iblk m c 4 t) R = gv (A0 m c) (A1 m c) (A3 m c) (A4 m c) (bq t) (sq t R) := by
  unfold vR gv
  rw [b3, b4]
  exact congrArg (ln _ _) (funext fun j => congrArg act (z_mid m c t R _ _ (by show ¬896 + (j : ℕ) < 384; omega) (by show 896 + (j : ℕ) < 1408; omega) (by show 896 + (j : ℕ) + 32 = 928 + j; omega)))
/-- The chunk of the sequence. -/
def cq (q : Fin 4) : Fin 16 := ⟨t % 4 * 4 + q, by omega⟩
theorem sq_eq (q : Fin 4) (r : Fin 128) (h) (h') : sq t ⟨q * 128 + r, h⟩ = ⟨cq t q * 128 + r, h'⟩ :=
  Fin.ext (by show (t : ℕ) % 4 * 512 + (q * 128 + r) = (t % 4 * 4 + q) * 128 + r; omega)
theorem g_eq (q : Fin 4) (r : Fin 128) (j : Fin 512) : gR (iblk m c 0 t) (iblk m c 1 t) (iblk m c 3 t) (iblk m c 4 t) (iblk m c 5 t) (iblk m c 6 t) q r j
    = gt (A0 m c) (A1 m c) (A3 m c) (A4 m c) (A5 m c) (A6 m c) (bq t) (cq t q) r j := by
  unfold gR gt
  rw [b5, b6, u_eq, sq_eq t q r (by omega) (by have := (cq t q).isLt; omega)]
  refine congrArg (fun f => _ * (mixed _ r f j + _)) (funext fun s => ?_)
  rw [v_eq, sq_eq t q s (by omega) (by have := (cq t q).isLt; omega)]

/-! ### The six results after the run -/

/-- Each result array is the function of the arguments. -/
theorem final_10 : (dats m 0 c).arrAt 10 cfg0.N = o0 (A0 m c) (A1 m c) := by
  refine (dats m 0 c).arrAt_eq_of_covers 10 _ (by decide +kernel) fun t hf y => ?_
  blk_simp
  rw [after0_10]
  idx_vars y
  refine Eq.trans ?_ (congrArg (o0 (A0 m c) (A1 m c)) (emb10 t y0 y1)).symm
  show _ = r0 (A0 m c) (A1 m c) (nq t y0) y1
  unfold r0
  rw [nq_div, nq_mod]
  exact (out10 _ _ _ _ _ _ _ _ _ _ y0 y1).trans (z_lo m c t y0 _ _ (by show (y1 : ℕ) < 384; omega) rfl)
theorem final_11 : (dats m 0 c).arrAt 11 cfg0.N = o1 (A0 m c) (A1 m c) (A2 m c) := by
  refine (dats m 0 c).arrAt_eq_of_covers 11 _ (by decide +kernel) fun t hf y => ?_
  blk_simp
  rw [after0_11]
  idx_vars y
  refine Eq.trans ?_ (congrArg (o1 (A0 m c) (A1 m c) (A2 m c)) (emb11 t y0 y1)).symm
  show _ = r1 (A0 m c) (A1 m c) (A2 m c) (nq t y0) y1
  unfold r1
  rw [nq_div, nq_mod]
  exact (out11 _ _ _ _ _ _ _ _ _ _ y0 y1).trans (congrFun (c_eq m c t y0) y1)
theorem final_12 : (dats m 0 c).arrAt 12 cfg0.N = o2 (A0 m c) (A1 m c) := by
  refine (dats m 0 c).arrAt_eq_of_covers 12 _ (by decide +kernel) fun t hf y => ?_
  blk_simp
  rw [after0_12]
  idx_vars y
  refine Eq.trans ?_ (congrArg (o2 (A0 m c) (A1 m c)) (emb12 t y0 y1 y2)).symm
  rw [Subsingleton.elim y0 0]
  exact (out12 _ _ _ _ _ _ _ _ _ _ y2 y1).trans (k_eq m c t y2 y1)
theorem final_13 : (dats m 0 c).arrAt 13 cfg0.N = o3 (A0 m c) (A1 m c) (A2 m c) := by
  refine (dats m 0 c).arrAt_eq_of_covers 13 _ (by decide +kernel) fun t hf y => ?_
  blk_simp
  rw [after0_13]
  idx_vars y
  refine Eq.trans ?_ (congrArg (o3 (A0 m c) (A1 m c) (A2 m c)) (emb13 t y0 y1)).symm
  show _ = r3 (A0 m c) (A1 m c) (A2 m c) (nq t y0) y1
  unfold r3
  rw [nq_div, nq_mod]
  exact (out13 _ _ _ _ _ _ _ _ _ _ y0 y1).trans (side_eq m c t y0 y1)
theorem r4_eq (q : Fin 4) (r : Fin 128) (j : Fin 512) :
    r4 (A0 m c) (A1 m c) (A3 m c) (A4 m c) (A5 m c) (A6 m c) (nq t ⟨q * 128 + r, by omega⟩) j = gt (A0 m c) (A1 m c) (A3 m c) (A4 m c) (A5 m c) (A6 m c) (bq t) (cq t q) r j := by
  unfold r4
  rw [nq_div]
  rw [show (⟨(nq t ⟨q * 128 + r, by omega⟩ : ℕ) % 2048 / 128, by omega⟩ : Fin 16) = cq t q from
      Fin.ext (by show ((t : ℕ) * 512 + (q * 128 + r)) % 2048 / 128 = t % 4 * 4 + q; omega),
    show (⟨(nq t ⟨q * 128 + r, by omega⟩ : ℕ) % 2048 % 128, by omega⟩ : Fin 128) = r from
      Fin.ext (by show ((t : ℕ) * 512 + (q * 128 + r)) % 2048 % 128 = r; omega)]
theorem final_14 : (dats m 0 c).arrAt 14 cfg0.N = o4 (A0 m c) (A1 m c) (A3 m c) (A4 m c) (A5 m c) (A6 m c) := by
  refine (dats m 0 c).arrAt_eq_of_covers 14 _ (by decide +kernel) fun t hf y => ?_
  blk_simp
  rw [after0_14]
  idx_vars y
  refine Eq.trans ?_ (congrArg (o4 (A0 m c) (A1 m c) (A3 m c) (A4 m c) (A5 m c) (A6 m c)) (emb14 t y0 y1)).symm
  show _ = r4 (A0 m c) (A1 m c) (A3 m c) (A4 m c) (A5 m c) (A6 m c) (nq t y0) y1
  obtain ⟨q, r, rfl⟩ : ∃ (q : Fin 4) (r : Fin 128), y0 = ⟨q * 128 + r, by omega⟩ :=
    ⟨⟨y0 / 128, by omega⟩, ⟨y0 % 128, by omega⟩, Fin.ext (by show (y0 : ℕ) = y0 / 128 * 128 + y0 % 128; omega)⟩
  rw [r4_eq]
  exact (out14 _ _ _ _ _ _ _ _ _ _ q r y1).trans (g_eq m c t q r y1)
theorem final_15 : (dats m 0 c).arrAt 15 cfg0.N = o5 (A0 m c) (A1 m c) (A3 m c) (A4 m c) := by
  refine (dats m 0 c).arrAt_eq_of_covers 15 _ (by decide +kernel) fun t hf y => ?_
  blk_simp
  rw [after0_15]
  idx_vars y
  refine Eq.trans ?_ (congrArg (o5 (A0 m c) (A1 m c) (A3 m c) (A4 m c)) (emb15 t y0 y1 y2)).symm
  rw [Subsingleton.elim y0 0]
  refine (out15 _ _ _ _ _ _ _ _ _ _ y1 y2).trans ((congrFun (v_eq m c t _) y2).trans ?_)
  have h3 : (t : ℕ) % 4 = 3 := (flush0_15 t).1 hf
  show _ = gv (A0 m c) (A1 m c) (A3 m c) (A4 m c) (bq t) ⟨1920 + y1, by omega⟩ y2
  exact congrArg (fun s => gv (A0 m c) (A1 m c) (A3 m c) (A4 m c) (bq t) s y2) (Fin.ext (by show (t : ℕ) % 4 * 512 + (384 + y1) = 1920 + y1; omega))

end Cert.Inproj

end
-- ==== Proof.InprojRef.lean ====
/- The reference's six results, entry by entry. -/
module

public import proofs.«01_k».proof.Proof.Gen.Reference4Ideal.Run
public import proofs.«01_k».proof.Proof.InprojSpec

@[expose] public section

set_option maxRecDepth 16384

noncomputable section

open Idealize.ShloMosaic Idealize.ShloMosaic.TcCoe Idealize.SL.Sem
open Idealize.ShloMosaic.Pipeline (Dat)
open scoped BigOperators

open Cert.Reference4Ideal Cert.Reference4Ideal.Gen Cert.Reference4Ideal.Value

namespace Cert.Inproj.Ref

/-- The activation. -/
def gelV (v : FVec Ideal S8x2048x512 .f32) : FVec Ideal S8x2048x512 .f32 :=
  (mulf v (mulf (broadcastInDim S8x2048x512 ![] bcast_S_S8x2048x512 (constant S_ .f32 0x3F000000#32)) (addf (broadcastInDim S8x2048x512 ![] bcast_S_S8x2048x512 (constant S_ .f32 0x3F800000#32)) (Host.tanh (mulf (broadcastInDim S8x2048x512 ![] bcast_S_S8x2048x512 (constant S_ .f32 0x3F4C422A#32)) (addf v (mulf (broadcastInDim S8x2048x512 ![] bcast_S_S8x2048x512 (constant S_ .f32 0x3D372713#32)) (mulf (mulf v v) v))))))))
theorem gel_at (v : FVec Ideal S8x2048x512 .f32) (b : Fin 8) (s : Fin 2048) (j : Fin 512) : gelV v (ix3 b s j) = act (v (ix3 b s j)) := by
  unfold gelV; pointwise; simp only [act, mul_assoc]

/-- The rows' means, spread over the rows. -/
def meanV (v : FVec Ideal S8x2048x512 .f32) : FVec Ideal S8x2048x512 .f32 :=
  (broadcastInDim S8x2048x512 ![0, 1, 2] bcast_S8x2048x1_S8x2048x512_0_1_2 (Host.divf (broadcastInDim S8x2048x1 ![0, 1] bcast_S8x2048_S8x2048x1_0_1 (Host.reduceAdd v (constant S_ .f32 0x00000000#32) reducesTo_S8x2048x512_S8x2048_d2 h_S_)) (broadcastInDim S8x2048x1 ![] bcast_S_S8x2048x1 (constant S_ .f32 0x44000000#32))))
theorem mean_at (v : FVec Ideal S8x2048x512 .f32) (b : Fin 8) (s : Fin 2048) (j : Fin 512) : meanV v (ix3 b s j) = mean (fun k => v (ix3 b s k)) := by
  unfold meanV; pointwise <;> rfl

/-- The layer normalisation. -/
def lnV (v : FVec Ideal S8x2048x512 .f32) (g b : FVec Ideal S512 .f32) : FVec Ideal S8x2048x512 .f32 :=
  (addf (mulf (mulf (subf v (meanV v)) (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf (subf v (meanV v)) (subf v (meanV v))) (constant S_ .f32 0x00000000#32) reducesTo_S8x2048x512_S8x2048_d2 h_S_)) (broadcastInDim S8x2048x1 ![] bcast_S_S8x2048x1 (constant S_ .f32 0x44000000#32))) (broadcastInDim S8x2048x1 ![] bcast_S_S8x2048x1 (constant S_ .f32 0x3727C5AC#32)))))) (broadcastInDim S8x2048x512 ![0, 1, 2] bcast_S1x1x512_S8x2048x512_0_1_2 (broadcastInDim S1x1x512 ![2] bcast_S512_S1x1x512_2 g))) (broadcastInDim S8x2048x512 ![0, 1, 2] bcast_S1x1x512_S8x2048x512_0_1_2 (broadcastInDim S1x1x512 ![2] bcast_S512_S1x1x512_2 b)))
theorem ln_at (v : FVec Ideal S8x2048x512 .f32) (g b : FVec Ideal S512 .f32) (n : Fin 8) (s : Fin 2048) (j : Fin 512) :
    lnV v g b (ix3 n s j) = ln (fun k => g (ix1 k)) (fun k => b (ix1 k)) (fun k => v (ix3 n s k)) j := by
  unfold lnV; pointwise [mean_at] <;> rfl

/-- The normalisation by the root of the mean square. -/
def rmsV (v : FVec Ideal S8x2048x128 .f32) (g : FVec Ideal S128 .f32) : FVec Ideal S8x2048x128 .f32 :=
  (mulf (mulf v (broadcastInDim S8x2048x128 ![0, 1, 2] bcast_S8x2048x1_S8x2048x128_0_1_2 (Host.rsqrt (addf (Host.divf (broadcastInDim S8x2048x1 ![0, 1] bcast_S8x2048_S8x2048x1_0_1 (Host.reduceAdd (mulf v v) (constant S_ .f32 0x00000000#32) reducesTo_S8x2048x128_S8x2048_d2 h_S_)) (broadcastInDim S8x2048x1 ![] bcast_S_S8x2048x1 (constant S_ .f32 0x43000000#32))) (broadcastInDim S8x2048x1 ![] bcast_S_S8x2048x1 (constant S_ .f32 0x358637BD#32)))))) (broadcastInDim S8x2048x128 ![0, 1, 2] bcast_S1x1x128_S8x2048x128_0_1_2 (broadcastInDim S1x1x128 ![2] bcast_S128_S1x1x128_2 g)))
theorem rms_at (v : FVec Ideal S8x2048x128 .f32) (g : FVec Ideal S128 .f32) (n : Fin 8) (s : Fin 2048) (j : Fin 128) :
    rmsV v g (ix3 n s j) = rms (fun k => g (ix1 k)) (fun k => v (ix3 n s k)) j := by
  unfold rmsV; pointwise <;> rfl

/-- The cosines and the sines of every position and lane. -/
def cosV : FVec Ideal S8x2048x16 .f32 :=
  (broadcastInDim S8x2048x16 ![0, 1, 2] bcast_S1x2048x16_S8x2048x16_0_1_2 (broadcastInDim S1x2048x16 ![1, 2] bcast_S2048x16_S1x2048x16_1_2 (Host.cos (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))))))
def sinV : FVec Ideal S8x2048x16 .f32 :=
  (broadcastInDim S8x2048x16 ![0, 1, 2] bcast_S1x2048x16_S8x2048x16_0_1_2 (broadcastInDim S1x2048x16 ![1, 2] bcast_S2048x16_S1x2048x16_1_2 (Host.sin (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))))))
theorem cos_at (b : Fin 8) (s : Fin 2048) (l : Fin 16) : cosV (ix3 b s l) = Ideal.cos (ang s l) := by
  unfold cosV; pointwise; rfl
theorem sin_at (b : Fin 8) (s : Fin 2048) (l : Fin 16) : sinV (ix3 b s l) = Ideal.sin (ang s l) := by
  unfold sinV; pointwise; rfl

/-- The rotation. -/
def ropeV (v : FVec Ideal S8x2048x32 .f32) : FVec Ideal S8x2048x32 .f32 :=
  (concatenate S8x2048x32 2 [⟨S8x2048x16, (subf (mulf (extractStridedSlice S8x2048x16 ![0, 0, 0] v slices_S8x2048x32_S8x2048x16_0_0_0) cosV) (mulf (extractStridedSlice S8x2048x16 ![0, 0, 16] v slices_S8x2048x32_S8x2048x16_0_0_16) sinV))⟩, ⟨S8x2048x16, (addf (mulf (extractStridedSlice S8x2048x16 ![0, 0, 0] v slices_S8x2048x32_S8x2048x16_0_0_0) sinV) (mulf (extractStridedSlice S8x2048x16 ![0, 0, 16] v slices_S8x2048x32_S8x2048x16_0_0_16) cosV))⟩] concatenates_S8x2048x16_S8x2048x16_S8x2048x32_d2)
theorem rope_at (v : FVec Ideal S8x2048x32 .f32) (b_ : Fin 8) (s : Fin 2048) (l : Fin 32) :
    ropeV v (ix3 b_ s l) = pe s (fun k => v (ix3 b_ s k)) l := by
  unfold ropeV pe; pointwise [cos_at, sin_at]
  by_cases h : (l : ℕ) < 16 <;> simp only [h, dif_pos, dif_neg, not_false_eq_true]
  · exact congrArg₂ (fun a b : Fin 32 => v (ix3 b_ s a) * Ideal.cos (ang s l) - v (ix3 b_ s b) * Ideal.sin (ang s l)) rfl (Fin.ext (Nat.add_comm _ _))
  · exact congrArg (fun a : Fin 32 => v (ix3 b_ s ⟨l - 16, by omega⟩) * Ideal.sin (ang s (l - 16)) + v (ix3 b_ s a) * Ideal.cos (ang s (l - 16)))
      (Fin.ext (by show 16 + ((l : ℕ) - 16) = l; omega))

/-- The keys side by side. -/
def keysV (u : FVec Ideal S8x2048x128 .f32) (v : FVec Ideal S8x2048x32 .f32) : FVec Ideal S8x2048x256 .f32 :=
  (concatenate S8x2048x256 2 [⟨S8x2048x128, (u : (⟨S8x2048x128, .f32⟩ : BufTy).Contents (Elt Ideal))⟩, ⟨S8x2048x32, (v : (⟨S8x2048x32, .f32⟩ : BufTy).Contents (Elt Ideal))⟩, ⟨S8x2048x96, ((broadcastInDim S8x2048x96 ![] bcast_S_S8x2048x96 (constant (F := Ideal) S_ .f32 0x00000000#32)) : (⟨S8x2048x96, .f32⟩ : BufTy).Contents (Elt Ideal))⟩] concatenates_S8x2048x128_S8x2048x32_S8x2048x96_S8x2048x256_d2 : (⟨S8x2048x256, .f32⟩ : BufTy).Contents (Elt Ideal))
theorem keys_at (u : FVec Ideal S8x2048x128 .f32) (v : FVec Ideal S8x2048x32 .f32) (b : Fin 8) (s : Fin 2048) (j : Fin 256) :
    keysV u v (ix3 b s j) = if h : (j : ℕ) < 128 then u (ix3 b s ⟨j, h⟩) else if h : (j : ℕ) < 160 then v (ix3 b s ⟨j - 128, by omega⟩) else 0 := by
  unfold keysV; pointwise
  by_cases h : (j : ℕ) < 128
  · simp only [h, dif_pos]
  · by_cases h' : (j : ℕ) < 160
    · simp only [h, h', show (j : ℕ) - 128 < 32 by omega, dif_pos, dif_neg, not_false_eq_true]
    · simp only [h, h', show ¬((j : ℕ) - 128 < 32) by omega, dif_neg, not_false_eq_true]

/-- The masked weights. -/
def mskV (w : FVec Ideal S8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (sitofp .f32 (constantI S_ 32 0#32))))
theorem msk_at (w : FVec Ideal S8x128x128 .f32) (h : Fin 8) (t s : Fin 128) : mskV w (ix3 h t s) = msk w (ix3 h t s) := by
  unfold mskV msk; pointwise
theorem msk_eq (w : FVec Ideal S8x128x128 .f32) : mskV w = msk w := by
  funext i; idx_vars i; exact msk_at w _ _ _

/-- The mixing over a chunk. -/
def mixV (v : FVec Ideal S8x2048x512 .f32) (w : FVec Ideal S8x128x128 .f32) (bs : FVec Ideal S8x128 .f32) : FVec Ideal S8x2048x512 .f32 :=
  (shapeCast S8x2048x512 (addf (transpose S8x16x128x8x64 [1, 2, 4, 0, 3] (Host.dotGeneral dot_S8x16x128x8x64_S8x128x128_S8x8x16x64x128_2_2_014_1_3_0 none (shapeCast S8x16x128x8x64 v shapeCasts_S8x2048x512_S8x16x128x8x64) w) transposes_S8x8x16x64x128_S8x16x128x8x64_1_2_4_0_3) (broadcastInDim S8x16x128x8x64 ![0, 1, 2, 3, 4] bcast_S1x1x128x8x1_S8x16x128x8x64_0_1_2_3_4 (broadcastInDim S1x1x128x8x1 ![2, 3] bcast_S128x8_S1x1x128x8x1_2_3 (transpose S128x8 [1, 0] bs transposes_S8x128_S128x8_1_0)))) shapeCasts_S8x16x128x8x64_S8x2048x512)
theorem mix_at (v : FVec Ideal S8x2048x512 .f32) (w : FVec Ideal S8x128x128 .f32) (bs : FVec Ideal S8x128 .f32) (b : Fin 8) (s : Fin 2048) (j : Fin 512) :
    mixV v w bs (ix3 b s j) = mixed w ⟨s % 128, by omega⟩ (fun r l => v (ix3 b ⟨s / 128 * 128 + r, by omega⟩ l)) j + bs (ix2 ⟨j / 64, by omega⟩ ⟨s % 128, by omega⟩) := by
  unfold mixV mixed; pointwise
  exact congrArg (· + _) (Finset.sum_congr rfl fun x _ => mul_comm _ _)

/-- The projection. -/
def prV (x : FVec Ideal S8x2048x1024 .f32) (w : FVec Ideal S1024x1440 .f32) : FVec Ideal S8x2048x1440 .f32 :=
  (Host.dotGeneral dot_S8x2048x1024_S1024x1440_S8x2048x1440_2_0_01_1_n_n none x w)
theorem pr_at (x : FVec Ideal S8x2048x1024 .f32) (w : FVec Ideal S1024x1440 .f32) (b : Fin 8) (s : Fin 2048) (j : Fin 1440) :
    prV x w (ix3 b s j) = pr x w b s j := by
  unfold prV pr; pointwise <;> rfl

/-- The latent keys, the rotated keys and the gate's mixed half. -/
def cV (x : FVec Ideal S8x2048x1024 .f32) (w : FVec Ideal S1024x1440 .f32) (a2 : FVec Ideal S128 .f32) : FVec Ideal S8x2048x128 .f32 := rmsV (extractStridedSlice S8x2048x128 ![0, 0, 256] (prV x w) slices_S8x2048x1440_S8x2048x128_0_0_256) a2
def kV (x : FVec Ideal S8x2048x1024 .f32) (w : FVec Ideal S1024x1440 .f32) : FVec Ideal S8x2048x32 .f32 := ropeV (extractStridedSlice S8x2048x32 ![0, 0, 384] (prV x w) slices_S8x2048x1440_S8x2048x32_0_0_384)
def vV (x : FVec Ideal S8x2048x1024 .f32) (w : FVec Ideal S1024x1440 .f32) (a3 a4 : FVec Ideal S512 .f32) : FVec Ideal S8x2048x512 .f32 := (lnV (gelV (extractStridedSlice S8x2048x512 ![0, 0, 928] (prV x w) slices_S8x2048x1440_S8x2048x512_0_0_928)) a3 a4)

variable (x : FVec Ideal S8x2048x1024 .f32) (w : FVec Ideal S1024x1440 .f32) (a2 : FVec Ideal S128 .f32) (a3 a4 : FVec Ideal S512 .f32) (a5 : FVec Ideal S8x128x128 .f32) (a6 : FVec Ideal S8x128 .f32)

theorem c_at (b : Fin 8) (s : Fin 2048) (j : Fin 128) : cV x w a2 (ix3 b s j) = ckv x w a2 b s j := by
  unfold cV; rw [rms_at]; exact congrArg (fun v => rms _ v j) (funext fun k => by pointwise [pr_at])
theorem k_at (b : Fin 8) (s : Fin 2048) (l : Fin 32) : kV x w (ix3 b s l) = kpe x w b s l := by
  unfold kV; rw [rope_at]; exact congrArg (fun v => pe s v l) (funext fun k => by pointwise [pr_at])
theorem v_at (b : Fin 8) (s : Fin 2048) (j : Fin 512) : vV x w a3 a4 (ix3 b s j) = gv x w a3 a4 b s j := by
  unfold vV; rw [ln_at]; exact congrArg (fun v => ln _ _ v j) (funext fun k => by pointwise [gel_at, pr_at])
theorem u_at (b : Fin 8) (s : Fin 2048) (j : Fin 512) : gelV (extractStridedSlice S8x2048x512 ![0, 0, 416] (prV x w) slices_S8x2048x1440_S8x2048x512_0_0_416) (ix3 b s j) = gu x w b s j := by
  rw [gel_at]; exact congrArg act (by pointwise [pr_at])

theorem f0 : shapeCast S16384x256 (extractStridedSlice S8x2048x256 ![0, 0, 0] (prV x w) slices_S8x2048x1440_S8x2048x256_0_0_0) shapeCasts_S8x2048x256_S16384x256 = o0 x w := by
  funext i; idx_vars i; pointwise [pr_at]; rfl
theorem f1 : shapeCast S16384x128 (cV x w a2) shapeCasts_S8x2048x128_S16384x128 = o1 x w a2 := by
  funext i; idx_vars i; pointwise [c_at]; rfl
theorem f2 : transpose S8x32x2048 [0, 2, 1] (kV x w) transposes_S8x2048x32_S8x32x2048_0_2_1 = o2 x w := by
  funext i; idx_vars i; pointwise [k_at]; rfl
theorem f3 : truncf .bf16 (shapeCast S16384x256 (keysV (cV x w a2) (kV x w)) shapeCasts_S8x2048x256_S16384x256) bitsLt_bf16_f32 = o3 x w a2 := by
  funext i; idx_vars i; pointwise [keys_at, c_at, k_at]; rfl
theorem f4 : truncf .bf16 (shapeCast S16384x512 (mulf (gelV (extractStridedSlice S8x2048x512 ![0, 0, 416] (prV x w) slices_S8x2048x1440_S8x2048x512_0_0_416)) (mixV (vV x w a3 a4) (mskV a5) a6)) shapeCasts_S8x2048x512_S16384x512) bitsLt_bf16_f32
    = o4 x w a3 a4 a5 a6 := by
  funext i; idx_vars i; pointwise [u_at, mix_at, v_at]
  rw [msk_eq a5]
  refine congrArg₂ (· * ·) (congrArg (fun s => gu x w ⟨i0 / 2048, by omega⟩ s i1) (Fin.ext ?_)) rfl
  show (i0 : ℕ) % 2048 = i0 % 2048 / 128 * 128 + i0 % 2048 % 128
  omega
theorem f5 : extractStridedSlice S8x128x512 ![0, 1920, 0] (vV x w a3 a4) slices_S8x2048x512_S8x128x512_0_1920_0 = o5 x w a3 a4 := by
  funext i; idx_vars i; pointwise [v_at]; rfl

variable (m : (ℓ : Loc nD τ sig) → Buf (Elt Ideal) ℓ) (c : Dev nD)

theorem g2 : res_main_v118 m c = o2 (m ((c.tc : Thread nD τ).loc main_arg0)) (m ((c.tc : Thread nD τ).loc main_arg1)) := Eq.trans (by unfold res_main_v118; rfl) (f2 _ _)
theorem g3 : res_main_v120 m c = o3 (m ((c.tc : Thread nD τ).loc main_arg0)) (m ((c.tc : Thread nD τ).loc main_arg1)) (m ((c.tc : Thread nD τ).loc main_arg2)) := Eq.trans (by unfold res_main_v120; rfl) (f3 _ _ _)
theorem g4 : res_main_v122 m c = o4 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := Eq.trans (by unfold res_main_v122; rfl) (f4 _ _ _ _ _ _)
theorem g5 : res_main_v123 m c = o5 (m ((c.tc : Thread nD τ).loc main_arg0)) (m ((c.tc : Thread nD τ).loc main_arg1)) (m ((c.tc : Thread nD τ).loc main_arg3)) (m ((c.tc : Thread nD τ).loc main_arg4)) := Eq.trans (by unfold res_main_v123; rfl) (f5 _ _ _ _)

end Cert.Inproj.Ref

end
-- ==== Proof.InprojClaim.lean ====
/- The claims about the prompt's input projection of the even layer: frames, and that the kernel's six results
   are the reference's. Both runs are read at the functions of `InprojSpec`, and the two programs' arguments agree. -/
module

public import proofs.«01_k».proof.Defs
public import proofs.«01_k».proof.Proof.Gen.Kernel4.Frame
public import proofs.«01_k».proof.Proof.Gen.Kernel4Ideal.Frame
public import proofs.«01_k».proof.Proof.InprojFinal
public import proofs.«01_k».proof.Proof.InprojRef

@[expose] public section

set_option maxRecDepth 16384

noncomputable section

open Idealize.ShloMosaic Idealize.ShloMosaic.TcCoe Idealize.SL.Sem
open Idealize.ShloMosaic.Pipeline (Dat)
open scoped BigOperators

namespace Cert.Inproj

theorem frame_kernel : Cert.quiescent_Kernel4 := fun m ρ _ => Cert.Kernel4.Gen.frame m ρ
theorem frame_ideal : Cert.quiescent_Kernel4Ideal := fun m ρ _ => Cert.Kernel4Ideal.Gen.frame m ρ
/-- The reference runs on the host and declares no semaphore. -/
theorem frame_ref : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

/-- The kernel's six results are the reference's. -/
theorem algebraic : Cert.algebraic_Kernel4Ideal_Reference4Ideal := by
  intro m ρ m' ρ' _ hag
  refine ⟨fun c => o0 (A0 m c) (A1 m c), fun c => o1 (A0 m c) (A1 m c) (A2 m c), fun c => o2 (A0 m c) (A1 m c),
    fun c => o3 (A0 m c) (A1 m c) (A2 m c), fun c => o4 (A0 m c) (A1 m c) (A3 m c) (A4 m c) (A5 m c) (A6 m c),
    fun c => o5 (A0 m c) (A1 m c) (A3 m c) (A4 m c), ?_, ?_⟩
  · exact (θ_run Cert.Kernel4Ideal.defs _ _).mono (fun _ h c =>
      ⟨(h c).1.trans (final_10 m c), (h c).2.1.trans (final_11 m c), (h c).2.2.1.trans (final_12 m c),
        (h c).2.2.2.1.trans (final_13 m c), (h c).2.2.2.2.1.trans (final_14 m c), (h c).2.2.2.2.2.1.trans (final_15 m c), (h c).2.2.2.2.2.2⟩)
      (run_blocks m ρ)
  · refine (θ_run Cert.Reference4Ideal.defs _ _).mono (fun _ h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference4Ideal.Value.run (F := Ideal) m' ρ')
    all_goals obtain ⟨h0, h1, h2, h3, h4, h5, h6⟩ := hag c
    · refine Eq.trans (b := o0 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) (Ref.f0 _ _) ?_
      rw [h0, h1]; rfl
    · refine Eq.trans (b := o1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))) (Ref.f1 _ _ _) ?_
      rw [h0, h1, h2]; rfl
    · refine (Ref.g2 m' c).trans ?_
      rw [h0, h1]; rfl
    · refine (Ref.g3 m' c).trans ?_
      rw [h0, h1, h2]; rfl
    · refine (Ref.g4 m' c).trans ?_
      rw [h0, h1, h3, h4, h5, h6]; rfl
    · refine (Ref.g5 m' c).trans ?_
      rw [h0, h1, h3, h4]; rfl

end Cert.Inproj

end
-- ==== Proof.SampSpec.lean ====
/- The sample's input projection: its six results as functions of the arguments, entry by entry. -/
module

public import proofs.«01_k».proof.Proof.InprojSpec

@[expose] public section

set_option maxRecDepth 16384

noncomputable section

open Idealize.ShloMosaic Idealize.ShloMosaic.TcCoe Idealize.SL.Sem
open Idealize.ShloMosaic.Pipeline (Dat)
open scoped BigOperators

namespace Cert.InprojS
open Cert.Mix (mat dot)
open Cert.Inproj (act ln rms pe tc ta tb)

/-- A row of 256 entries over the root of its mean square, scaled. -/
def rmsq (g v : Fin 256 → EReal) (j : Fin 256) : EReal :=
  v j * Ideal.rsqrt (Ideal.div (∑ k, v k * v k) (Ideal.ofBits FTy.f32 0x43800000#32) + Ideal.ofBits FTy.f32 0x358637BD#32) * g j

variable (a0 : (⟨3, ![32, 1, 1024]⟩ : Shape).Idx → EReal) (a1 : (⟨2, ![1024, 1440]⟩ : Shape).Idx → EReal) (a2 : (⟨1, ![256]⟩ : Shape).Idx → EReal)
  (a3 : (⟨3, ![256, 8, 96]⟩ : Shape).Idx → EReal) (a4 : (⟨1, ![128]⟩ : Shape).Idx → EReal) (a5 : (⟨3, ![128, 8, 128]⟩ : Shape).Idx → EReal)
  (a6 a7 : (⟨1, ![512]⟩ : Shape).Idx → EReal) (a8 : (⟨3, ![8, 128, 128]⟩ : Shape).Idx → EReal) (a9 : (⟨2, ![8, 128]⟩ : Shape).Idx → EReal)

/-- The projected row. -/
def pr (n : Fin 32) (j : Fin 1440) : EReal := ∑ k, a0 (ix3 n 0 k) * a1 (ix2 k j)
/-- The latent key, the rotated key. -/
def ckv (n : Fin 32) : Fin 128 → EReal := rms (fun k => a4 (ix1 k)) (fun k => pr a0 a1 n ⟨256 + k, by omega⟩)
def kpe (n : Fin 32) : Fin 32 → EReal := pe 16384 (fun k => pr a0 a1 n ⟨384 + k, by omega⟩)
/-- The gate's mixed half, normalised. -/
def gv (n : Fin 32) : Fin 512 → EReal := ln (fun k => a6 (ix1 k)) (fun k => a7 (ix1 k)) (fun k => act (pr a0 a1 n ⟨928 + k, by omega⟩))
/-- The gate: of its chunk only the first row is there. -/
def gt (n : Fin 32) (j : Fin 512) : EReal :=
  act (pr a0 a1 n ⟨416 + j, by omega⟩) * (a8 (ix3 ⟨j / 64, by omega⟩ 0 0) * gv a0 a1 a6 a7 n j + a9 (ix2 ⟨j / 64, by omega⟩ 0))
/-- The latent query, normalised. -/
def qn (n : Fin 32) : Fin 256 → EReal := rmsq (fun k => a2 (ix1 k)) (fun k => pr a0 a1 n ⟨k, by omega⟩)
/-- The query of a head. -/
def qh (n : Fin 32) (h : Fin 8) (e : Fin 96) : EReal := ∑ r, qn a0 a1 a2 n r * a3 (ix3 r h e)
/-- The query of a head against the latent keys, and its rotated lanes followed by zeros. -/
def ql (n : Fin 32) (h : Fin 8) (r : Fin 128) : EReal := ∑ d : Fin 64, qh a0 a1 a2 a3 n h ⟨d, by omega⟩ * a5 (ix3 r h ⟨d, by omega⟩)
def qp (n : Fin 32) (h : Fin 8) (l : Fin 128) : EReal :=
  if hl : (l : ℕ) < 32 then pe 16384 (fun k => qh a0 a1 a2 a3 n h ⟨64 + k, by omega⟩) ⟨l, hl⟩ else 0

/-- The six result arrays. -/
def o0 (i : (⟨2, ![32, 128]⟩ : Shape).Idx) : EReal := ckv a0 a1 a4 (i 0) (i 1)
def o1 (i : (⟨2, ![32, 32]⟩ : Shape).Idx) : EReal := kpe a0 a1 (i 0) (i 1)
def o2 (i : (⟨2, ![32, 512]⟩ : Shape).Idx) : EReal := gt a0 a1 a6 a7 a8 a9 (i 0) (i 1)
def o3 (i : (⟨2, ![32, 512]⟩ : Shape).Idx) : EReal := gv a0 a1 a6 a7 (i 0) (i 1)
def o4r (n : Fin 32) (j : Fin 1024) : EReal := ql a0 a1 a2 a3 a5 n ⟨j / 128, by omega⟩ ⟨j % 128, by omega⟩
def o5r (n : Fin 32) (j : Fin 1024) : EReal := qp a0 a1 a2 a3 n ⟨j / 128, by omega⟩ ⟨j % 128, by omega⟩
def o4 (i : (⟨2, ![32, 1024]⟩ : Shape).Idx) : EReal := o4r a0 a1 a2 a3 a5 (i 0) (i 1)
def o5 (i : (⟨2, ![32, 1024]⟩ : Shape).Idx) : EReal := o5r a0 a1 a2 a3 (i 0) (i 1)

/-- An identity matrix of two rows. -/
theorem eye_at (a b : Fin 2) : FloatOps.uitofp (F := Ideal) FTy.f32 (IntOp.cmpi CmpIPredicate.eq (IntOp.addi (BitVec.ofNat 32 a) 0#32) (BitVec.ofNat 32 b))
    = if a = b then 1 else 0 := by
  fin_cases a <;> fin_cases b <;> simp [FloatOps.uitofp, IntOp.cmpi, IntOp.addi]

/-- A sum over a pair of heads of which one is masked away. -/
theorem pair_sum (f g : Fin 128 → EReal) (b : Fin 2) :
    (∑ d : Fin 128, f d * (g d * if (⟨d / 64, by omega⟩ : Fin 2) = b then 1 else 0)) = ∑ e : Fin 64, f ⟨b * 64 + e, by omega⟩ * g ⟨b * 64 + e, by omega⟩ := by
  rw [show (∑ d : Fin 128, f d * (g d * if (⟨d / 64, by omega⟩ : Fin 2) = b then 1 else 0))
    = ∑ d : Fin (64 + 64), f d * (g d * if (⟨d / 64, by omega⟩ : Fin 2) = b then 1 else 0) from rfl, Fin.sum_univ_add]
  have h0 : ∀ e : Fin 64, (⟨(Fin.castAdd 64 e : Fin (64 + 64)) / 64, by omega⟩ : Fin 2) = 0 := fun e => Fin.ext (by show (e : ℕ) / 64 = 0; omega)
  have h1 : ∀ e : Fin 64, (⟨(Fin.natAdd 64 e : Fin (64 + 64)) / 64, by omega⟩ : Fin 2) = 1 := fun e => Fin.ext (by show (64 + (e : ℕ)) / 64 = 1; omega)
  simp only [h0, h1]
  fin_cases b
  · simp
    refine Finset.sum_congr rfl fun e _ => ?_
    exact congrArg (fun z : Fin 128 => f z * g z) rfl
  · simp
    refine Finset.sum_congr rfl fun e _ => ?_
    exact congrArg (fun z : Fin 128 => f z * g z) (Fin.ext (by show (e : ℕ) + 64 = 64 + e; omega))

/-- A lane and its partner against the tables is the rotation, with zeros beyond it. -/
theorem rot (n : ℕ) (q : Fin 32 → EReal) (y z : EReal) (l : Fin 128) (hy : ∀ h : (l : ℕ) < 32, y = q ⟨l, h⟩)
    (hz : ∀ h : (l : ℕ) < 16, z = q ⟨l + 16, by omega⟩) (hz' : ∀ h : ¬(l : ℕ) < 16, ∀ h' : (l : ℕ) < 32, z = q ⟨l - 16, by omega⟩) :
    y * tc n l + z * (ta n l + tb n l) = if h : (l : ℕ) < 32 then pe n q ⟨l, h⟩ else 0 := by
  unfold tc ta tb pe
  by_cases h : (l : ℕ) < 16
  · have h' : (l : ℕ) < 32 := by omega
    rw [hy h', hz h]
    simp only [h, h', if_true, dif_pos, zero_add, mul_neg]
    rfl
  · by_cases h' : (l : ℕ) < 32
    · rw [hy h', hz' h h']
      simp only [h, h', if_true, if_false, dif_pos, dif_neg, not_false_eq_true, add_zero]
      exact add_comm _ _
    · simp only [h, h', if_false, dif_neg, not_false_eq_true, add_zero, mul_zero]

end Cert.InprojS

end
-- ==== Proof.SampOut.lean ====
/- The sample's input projection: the blocks the kernel leaves, entry by entry, from the blocks it reads. -/
module

public import proofs.«01_k».proof.Proof.Gen.Kernel5Ideal.Frame
public import Idealize.ShloMosaic.Lib.Pipeline.ValueKit
public import proofs.«01_k».proof.Proof.SampSpec

@[expose] public section

set_option maxRecDepth 16384

noncomputable section

open Idealize.ShloMosaic Idealize.ShloMosaic.TcCoe Idealize.SL.Sem
open Idealize.ShloMosaic.Pipeline (Dat)
open scoped BigOperators
open Cert.Kernel5Ideal Cert.Kernel5Ideal.Gen

namespace Cert.InprojS
open Cert.Mix (mat dot)
open Cert.Inproj (act ln turn)

variable (x0 : Vec Ideal S32x1024 .f32) (x1 : Vec Ideal S1024x1536 .bf16) (x2 : Vec Ideal S1x128 .f32) (x3 x4 : Vec Ideal S1x512 .f32)
  (x5 : Vec Ideal S1x512 .bf16) (x6 : Vec Ideal S1x512 .f32) (x7 x8 x9 : Vec Ideal S1x128 .f32) (x10 : Vec Ideal S1x256 .f32)
  (x11 : Vec Ideal S256x512 .bf16) (x12 : Vec Ideal S256x2048 .bf16) (x13 : Vec Ideal S4x128x256 .bf16)

/-- The projected row. -/
def zR (R : Fin 32) : Fin 1536 → EReal := dot (mat x0 R) (mat x1)
/-- The latent key. -/
def cR (R : Fin 32) : Fin 128 → EReal := Cert.Inproj.rms (mat x2 0) (fun k => zR x0 x1 R ⟨256 + k, by omega⟩)
/-- The rotated lanes. -/
def kR (R : Fin 32) : Fin 128 → EReal := turn (fun k => zR x0 x1 R ⟨1408 + k, by omega⟩) (mat x7 0) (mat x8 0) (mat x9 0)
/-- The gate's mixed half, normalised. -/
def vR (R : Fin 32) : Fin 512 → EReal := ln (mat x3 0) (mat x4 0) (fun k => act (zR x0 x1 R ⟨896 + k, by omega⟩))
/-- The gate. -/
def gR (R : Fin 32) (j : Fin 512) : EReal := act (zR x0 x1 R ⟨384 + j, by omega⟩) * (mat x5 0 j * vR x0 x1 x3 x4 R j + mat x6 0 j)
/-- The latent query, normalised. -/
def qR (R : Fin 32) : Fin 256 → EReal := rmsq (mat x10 0) (fun k => zR x0 x1 R ⟨k, by omega⟩)
/-- The query against the keys' latent space: lane `j` belongs to the pair of heads `j / 256`. -/
def lR (R : Fin 32) (j : Fin 1024) : EReal :=
  ∑ d : Fin 128, dot (qR x0 x1 x10 R) (mat x11) ⟨j / 256 * 128 + d, by omega⟩ * x13 (ix3 ⟨j / 256, by omega⟩ d ⟨j % 256, by omega⟩)
/-- The query's rotated lanes. -/
def eR (R : Fin 32) (j : Fin 1024) : EReal :=
  dot (qR x0 x1 x10 R) (mat x12) ⟨j, by omega⟩ * mat x7 0 ⟨j % 128, by omega⟩
    + dot (qR x0 x1 x10 R) (mat x12) ⟨1024 + j, by omega⟩ * (mat x8 0 ⟨j % 128, by omega⟩ + mat x9 0 ⟨j % 128, by omega⟩)

/-! ### What the kernel loads -/

theorem l0 (x : Vec Ideal S32x1024 .f32) : View.ld x r0_0 = x := by funext i; idx_vars i; pointwise
theorem l1 (x : Vec Ideal S1024x1536 .bf16) : View.ld x r0_1 = x := by funext i; idx_vars i; pointwise
theorem l2 (x : Vec Ideal S1x128 .f32) : View.ld x r0_2 = x := by funext i; idx_vars i; rw [Subsingleton.elim i0 0]; pointwise
theorem l5 (x : Vec Ideal S1x512 .f32) : View.ld x r0_5 = x := by funext i; idx_vars i; rw [Subsingleton.elim i0 0]; pointwise
theorem l5' (x : Vec Ideal S1x512 .bf16) : View.ld x r0_5 = x := by funext i; idx_vars i; rw [Subsingleton.elim i0 0]; pointwise
theorem l7 (x : Vec Ideal S1x256 .f32) : View.ld x r0_7 = x := by funext i; idx_vars i; rw [Subsingleton.elim i0 0]; pointwise
theorem l8 (x : Vec Ideal S256x512 .bf16) : View.ld x r0_8 = x := by funext i; idx_vars i; pointwise
theorem l9 (x : Vec Ideal S256x2048 .bf16) : View.ld x r0_9 = x := by funext i; idx_vars i; pointwise

/-! ### The values, row by row -/

theorem p2 (R : Fin 32) : mat (k0_pay2 x0 x1) R = zR x0 x1 R := by
  funext j; unfold mat; pointwise [k0_pay2] <;> rfl
theorem p6 (R : Fin 32) : mat (k0_pay6 x0 x1 x2) R = cR x0 x1 x2 R := by
  funext j; unfold cR; rw [← p2]; unfold mat; pointwise [k0_pay6] <;> rfl
theorem p7 (R : Fin 32) (k : Fin 128) : k0_pay7 x0 x1 (ix2 R k) = zR x0 x1 R ⟨1408 + k, by omega⟩ := by
  rw [← p2]; unfold mat; pointwise [k0_pay7]
theorem p10 (R l : Fin 32) : k0_pay10 (k0_pay8 x0 x1 x7 x8) (k0_pay9 x0 x1 x9) (ix2 R l) = kR x0 x1 x7 x8 x9 R ⟨l, by omega⟩ := by
  unfold kR turn mat; pointwise [k0_pay10, k0_pay8, k0_pay9, p7, k0_pay3, k0_pay4, k0_pay5]
section Gate
variable (z : FVec Ideal S32x1536 .f32)
theorem p16 (R : Fin 32) : mat (k0_pay16 (k0_pay12 x3) (k0_pay13 x4) (k0_pay14 z) (k0_pay15 z)) R
    = ln (mat x3 0) (mat x4 0) (fun k => act (mat z R ⟨896 + k, by omega⟩)) := by
  funext j; unfold mat; pointwise [k0_pay16, k0_pay12, k0_pay13, k0_pay14, k0_pay15] <;> rfl
theorem p17 (a b : FVec Ideal S1x512 .f32) (c d : FVec Ideal S32x512 .f32) (R : Fin 32) (j : Fin 512) : k0_pay17 (k0_pay11 z) a b c d x5 x6 (ix2 R j)
    = act (mat z R ⟨384 + j, by omega⟩) * (mat x5 0 j * mat (k0_pay16 a b c d) R j + mat x6 0 j) := by
  unfold mat; pointwise [k0_pay17, k0_pay11] <;> rfl
theorem p23 (R : Fin 32) : mat (k0_pay23 (k0_pay18 z) (k0_pay19 x10) (k0_pay22 z)) R = rmsq (mat x10 0) (fun k => mat z R ⟨k, by omega⟩) := by
  funext j; unfold mat; pointwise [k0_pay23, k0_pay18, k0_pay19, k0_pay22] <;> rfl
end Gate
/-- One term of the query's product with a pair's matrix. -/
def lterm (q : Fin 256 → EReal) (w : (⟨2, ![256, 512]⟩ : Shape).Idx → EReal) (u : (⟨3, ![4, 128, 256]⟩ : Shape).Idx → EReal) (d : Fin 128) (j : Fin 1024) : EReal :=
  dot q (mat w) ⟨j / 256 * 128 + d, by omega⟩ * u (ix3 ⟨j / 256, by omega⟩ d ⟨j % 256, by omega⟩)
/-- The same with its indices given. -/
theorem term (q : Fin 256 → EReal) (w : (⟨2, ![256, 512]⟩ : Shape).Idx → EReal) (u : (⟨3, ![4, 128, 256]⟩ : Shape).Idx → EReal) (d : Fin 128)
    (j : Fin 1024) (a : Fin 512) (b : Fin 4) (c : Fin 256) (ha : (a : ℕ) = j / 256 * 128 + d) (hb : (b : ℕ) = j / 256) (hc : (c : ℕ) = j % 256) :
    (∑ k, q k * w (ix2 k a)) * u (ix3 b d c) = lterm q w u d j := by
  unfold lterm
  rw [show (⟨j / 256 * 128 + d, by omega⟩ : Fin 512) = a from Fin.ext ha.symm, show (⟨j / 256, by omega⟩ : Fin 4) = b from Fin.ext hb.symm,
    show (⟨j % 256, by omega⟩ : Fin 256) = c from Fin.ext hc.symm]
  rfl
/-- A lane and its partner against the tables. -/
def eterm (w : Fin 2048 → EReal) (f g h : Fin 128 → EReal) (j : Fin 1024) : EReal :=
  w ⟨j, by omega⟩ * f ⟨j % 128, by omega⟩ + w ⟨1024 + j, by omega⟩ * (g ⟨j % 128, by omega⟩ + h ⟨j % 128, by omega⟩)
/-- The same with its indices given. -/
theorem epiece (w : (⟨2, ![32, 2048]⟩ : Shape).Idx → EReal) (x7 x8 x9 : (⟨2, ![1, 128]⟩ : Shape).Idx → EReal) (R : Fin 32) (j : Fin 1024) (a b : Fin 2048) (k : Fin 128)
    (ha : (a : ℕ) = j) (hb : (b : ℕ) = 1024 + j) (hk : (k : ℕ) = j % 128) :
    w (ix2 R a) * x7 (ix2 0 k) + w (ix2 R b) * (x8 (ix2 0 k) + x9 (ix2 0 k)) = eterm (fun n => w (ix2 R n)) (mat x7 0) (mat x8 0) (mat x9 0) j := by
  unfold eterm
  rw [show (⟨j, by omega⟩ : Fin 2048) = a from Fin.ext ha.symm, show (⟨1024 + j, by omega⟩ : Fin 2048) = b from Fin.ext hb.symm,
    show (⟨j % 128, by omega⟩ : Fin 128) = k from Fin.ext hk.symm]
  rfl

section Query
variable (a : FVec Ideal S32x256 .f32) (b : FVec Ideal S1x256 .f32) (c : FVec Ideal S32x1 .f32) (R : Fin 32)
theorem p25 (j : Fin 2048) : k0_pay25 a b (k0_pay21 x12) c (ix2 R j) = dot (mat (k0_pay23 a b c) R) (mat x12) j := by
  pointwise [k0_pay25, k0_pay21] <;> rfl
theorem p1 (j : Fin 1024) : k0_pay1 (k0_pay3 x7) (k0_pay25 a b (k0_pay21 x12) c) (k0_pay26 (k0_pay4 x8) (k0_pay5 x9)) (k0_pay27 (k0_pay3 x7) (k0_pay4 x8) (k0_pay5 x9) a b (k0_pay21 x12) c)
    (k0_pay28 (k0_pay3 x7) a b (k0_pay21 x12) c) (k0_pay29 a b (k0_pay21 x12) c) (k0_pay30 (k0_pay4 x8) (k0_pay5 x9)) (ix2 R j)
    = dot (mat (k0_pay23 a b c) R) (mat x12) ⟨j, by omega⟩ * mat x7 0 ⟨j % 128, by omega⟩
      + dot (mat (k0_pay23 a b c) R) (mat x12) ⟨1024 + j, by omega⟩ * (mat x8 0 ⟨j % 128, by omega⟩ + mat x9 0 ⟨j % 128, by omega⟩) := by
  rw [← p25, ← p25]
  unfold k0_pay1 k0_pay27 k0_pay28 k0_pay29 k0_pay30
  dsimp only
  generalize k0_pay25 a b (k0_pay21 x12) c = w
  pointwise [k0_pay26, k0_pay3, k0_pay4, k0_pay5]
  show _ = eterm (fun n => w (ix2 R n)) (mat x7 0) (mat x8 0) (mat x9 0) j
  have hj := j.isLt
  by_cases h0 : (j : ℕ) < 128
  · simp only [h0, dif_pos, dif_neg, not_false_eq_true]
    refine epiece w x7 x8 x9 R j _ _ _ ?_ ?_ ?_ <;> first | omega | rfl | (dsimp only; omega)
  by_cases h1 : (j : ℕ) - 128 < 128
  · simp only [h0, h1, dif_pos, dif_neg, not_false_eq_true]
    refine epiece w x7 x8 x9 R j _ _ _ ?_ ?_ ?_ <;> first | omega | rfl | (dsimp only; omega)
  by_cases h2 : (j : ℕ) - 128 - 128 < 128
  · simp only [h0, h1, h2, dif_pos, dif_neg, not_false_eq_true]
    refine epiece w x7 x8 x9 R j _ _ _ ?_ ?_ ?_ <;> first | omega | rfl | (dsimp only; omega)
  by_cases h3 : (j : ℕ) - 128 - 128 - 128 < 128
  · simp only [h0, h1, h2, h3, dif_pos, dif_neg, not_false_eq_true]
    refine epiece w x7 x8 x9 R j _ _ _ ?_ ?_ ?_ <;> first | omega | rfl | (dsimp only; omega)
  by_cases h4 : (j : ℕ) - 128 - 128 - 128 - 128 < 128
  · simp only [h0, h1, h2, h3, h4, dif_pos, dif_neg, not_false_eq_true]
    refine epiece w x7 x8 x9 R j _ _ _ ?_ ?_ ?_ <;> first | omega | rfl | (dsimp only; omega)
  by_cases h5 : (j : ℕ) - 128 - 128 - 128 - 128 - 128 < 128
  · simp only [h0, h1, h2, h3, h4, h5, dif_pos, dif_neg, not_false_eq_true]
    refine epiece w x7 x8 x9 R j _ _ _ ?_ ?_ ?_ <;> first | omega | rfl | (dsimp only; omega)
  by_cases h6 : (j : ℕ) - 128 - 128 - 128 - 128 - 128 - 128 < 128
  · simp only [h0, h1, h2, h3, h4, h5, h6, dif_pos, dif_neg, not_false_eq_true]
    refine epiece w x7 x8 x9 R j _ _ _ ?_ ?_ ?_ <;> first | omega | rfl | (dsimp only; omega)
  · simp only [h0, h1, h2, h3, h4, h5, h6, dif_neg, not_false_eq_true]
    refine epiece w x7 x8 x9 R j _ _ _ ?_ ?_ ?_ <;> first | omega | rfl | (dsimp only; omega)
theorem p24 (j : Fin 1024) : k0_pay24 a b (k0_pay20 x11) c (View.ld x13 r0_10) (View.ld x13 r0_11) (View.ld x13 r0_12) (View.ld x13 r0_13) (ix2 R j)
    = ∑ d : Fin 128, dot (mat (k0_pay23 a b c) R) (mat x11) ⟨j / 256 * 128 + d, by omega⟩ * x13 (ix3 ⟨j / 256, by omega⟩ d ⟨j % 256, by omega⟩) := by
  pointwise [k0_pay24, k0_pay20]
  generalize k0_pay23 a b c = q
  have hj := j.isLt
  by_cases h0 : (j : ℕ) < 256
  · simp only [h0, dif_pos]
    refine Finset.sum_congr rfl fun d _ => term (fun k => q (ix2 R k)) x11 x13 d j _ _ _ ?_ ?_ ?_ <;> first | omega | (dsimp only; omega)
  by_cases h1 : (j : ℕ) - 256 < 256
  · simp only [h0, h1, dif_pos, dif_neg, not_false_eq_true]
    refine Finset.sum_congr rfl fun d _ => term (fun k => q (ix2 R k)) x11 x13 d j _ _ _ ?_ ?_ ?_ <;> first | omega | (dsimp only; omega)
  by_cases h2 : (j : ℕ) - 256 - 256 < 256
  · simp only [h0, h1, h2, dif_pos, dif_neg, not_false_eq_true]
    refine Finset.sum_congr rfl fun d _ => term (fun k => q (ix2 R k)) x11 x13 d j _ _ _ ?_ ?_ ?_ <;> first | omega | (dsimp only; omega)
  · simp only [h0, h1, h2, dif_neg, not_false_eq_true]
    refine Finset.sum_congr rfl fun d _ => term (fun k => q (ix2 R k)) x11 x13 d j _ _ _ ?_ ?_ ?_ <;> first | omega | (dsimp only; omega)
end Query

/-! ### The blocks -/

theorem z31 (R : Fin 32) : mat (k0_pay31 x0 x1 x2 x3 x4 x5 x6 x7 x8 x9 x10 x11 x12 x13) R = zR x0 x1 R := by unfold k0_pay31; rw [l0, l1, p2]
theorem q23 (R : Fin 32) : mat (k0_pay23 (k0_pay39 x0 x1 x2 x3 x4 x5 x6 x7 x8 x9 x10 x11 x12 x13) (k0_pay40 x0 x1 x2 x3 x4 x5 x6 x7 x8 x9 x10 x11 x12 x13) (k0_pay42 x0 x1 x2 x3 x4 x5 x6 x7 x8 x9 x10 x11 x12 x13)) R = qR x0 x1 x10 R := by
  unfold k0_pay39 k0_pay40 k0_pay42; rw [p23, z31, l7]; rfl
theorem v16 (R : Fin 32) : mat (k0_pay16 (k0_pay35 x0 x1 x2 x3 x4 x5 x6 x7 x8 x9 x10 x11 x12 x13) (k0_pay36 x0 x1 x2 x3 x4 x5 x6 x7 x8 x9 x10 x11 x12 x13) (k0_pay37 x0 x1 x2 x3 x4 x5 x6 x7 x8 x9 x10 x11 x12 x13) (k0_pay38 x0 x1 x2 x3 x4 x5 x6 x7 x8 x9 x10 x11 x12 x13)) R = vR x0 x1 x3 x4 R := by
  unfold k0_pay35 k0_pay36 k0_pay37 k0_pay38; rw [p16, z31, l5, l5]; rfl
theorem out14 (R : Fin 32) (j : Fin 128) : out0_14 x0 x1 x2 x3 x4 x5 x6 x7 x8 x9 x10 x11 x12 x13 (ix2 R j) = cR x0 x1 x2 R j := by
  unfold out0_14
  canon_tiles y h
  idx_vars y
  obtain rfl : R = y0 := Fin.ext h0
  obtain rfl : j = y1 := Fin.ext h1
  rw [l0, l1, l2]
  exact congrFun (p6 x0 x1 x2 R) j
theorem out15 (R l : Fin 32) : out0_15 x0 x1 x2 x3 x4 x5 x6 x7 x8 x9 x10 x11 x12 x13 (ix2 R l) = kR x0 x1 x7 x8 x9 R ⟨l, by omega⟩ := by
  unfold out0_15
  canon_tiles y h
  idx_vars y
  obtain rfl : R = y0 := Fin.ext h0
  obtain rfl : l = y1 := Fin.ext h1
  rw [l0, l1, l2, l2, l2]
  exact p10 x0 x1 x7 x8 x9 R l
theorem out16 (R : Fin 32) (j : Fin 512) : out0_16 x0 x1 x2 x3 x4 x5 x6 x7 x8 x9 x10 x11 x12 x13 (ix2 R j) = gR x0 x1 x3 x4 x5 x6 R j := by
  unfold out0_16
  canon_tiles y h
  idx_vars y
  obtain rfl : R = y0 := Fin.ext h0
  obtain rfl : j = y1 := Fin.ext h1
  rw [p17, z31, v16, l5', l5]
  rfl
theorem out17 (R : Fin 32) (j : Fin 512) : out0_17 x0 x1 x2 x3 x4 x5 x6 x7 x8 x9 x10 x11 x12 x13 (ix2 R j) = vR x0 x1 x3 x4 R j := by
  unfold out0_17
  canon_tiles y h
  idx_vars y
  obtain rfl : R = y0 := Fin.ext h0
  obtain rfl : j = y1 := Fin.ext h1
  exact congrFun (v16 x0 x1 x2 x3 x4 x5 x6 x7 x8 x9 x10 x11 x12 x13 R) j
theorem out18 (R : Fin 32) (j : Fin 1024) : out0_18 x0 x1 x2 x3 x4 x5 x6 x7 x8 x9 x10 x11 x12 x13 (ix2 R j) = lR x0 x1 x10 x11 x13 R j := by
  unfold out0_18
  canon_tiles y h
  idx_vars y
  obtain rfl : R = y0 := Fin.ext h0
  obtain rfl : j = y1 := Fin.ext h1
  rw [l8, p24, q23]
  rfl
theorem out19 (R : Fin 32) (j : Fin 1024) : out0_19 x0 x1 x2 x3 x4 x5 x6 x7 x8 x9 x10 x11 x12 x13 (ix2 R j) = eR x0 x1 x7 x8 x9 x10 x12 R j := by
  unfold out0_19
  canon_tiles y h
  idx_vars y
  obtain rfl : R = y0 := Fin.ext h0
  obtain rfl : j = y1 := Fin.ext h1
  unfold k0_pay32 k0_pay33 k0_pay34 k0_pay41
  rw [l9, l2, l2, l2, p1, q23]
  rfl

end Cert.InprojS

end
-- ==== Proof.SampHost.lean ====
/- What the kernel of the sample's input projection finds, from the arguments. -/
module

public import proofs.«01_k».proof.Proof.SampOut
public import proofs.«01_k».proof.Proof.SampSpec
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

open Cert.Kernel5Ideal Cert.Kernel5Ideal.Gen

namespace Cert.InprojS
open Cert.Mix (mat dot)
open Cert.Inproj (tc ta tb ang)

variable (m : (ℓ : Loc nD τ sig) → Buf (Elt Ideal) ℓ) (c : Dev nD)

/-- Every window's block index at the only grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0] :=
  (by decide +kernel : ∀ t : Fin grid0.N, _)

/-- An argument's array at launch. -/
def A0 : S32x1x1024.Idx → EReal := m ((c : Thread nD τ).loc main_arg0)
def A1 : S1024x1440.Idx → EReal := m ((c : Thread nD τ).loc main_arg1)
def A2 : S256.Idx → EReal := m ((c : Thread nD τ).loc main_arg2)
def A3 : S256x8x96.Idx → EReal := m ((c : Thread nD τ).loc main_arg3)
def A4 : S128.Idx → EReal := m ((c : Thread nD τ).loc main_arg4)
def A5 : S128x8x128.Idx → EReal := m ((c : Thread nD τ).loc main_arg5)
def A6 : S512.Idx → EReal := m ((c : Thread nD τ).loc main_arg6)
def A7 : S512.Idx → EReal := m ((c : Thread nD τ).loc main_arg7)
def A8 : S8x128x128.Idx → EReal := m ((c : Thread nD τ).loc main_arg8)
def A9 : S8x128.Idx → EReal := m ((c : Thread nD τ).loc main_arg9)

/-- Three arrays of columns side by side. -/
theorem cat3 (a b : FVec Ideal S1x16 .f32) (d : FVec Ideal S1x96 .f32) (h) (k : Fin 128) :
    concatenate S1x128 1 [⟨S1x16, a⟩, ⟨S1x16, b⟩, ⟨S1x96, d⟩] h (ix2 0 k)
      = if h : (k : ℕ) < 16 then a (ix2 0 ⟨k, h⟩) else if h' : (k : ℕ) < 32 then b (ix2 0 ⟨k - 16, by omega⟩) else d (ix2 0 ⟨k - 32, by omega⟩) := by
  pointwise
  by_cases h1 : (k : ℕ) < 16
  · simp only [h1, dif_pos]
  · by_cases h2 : (k : ℕ) < 32
    · simp only [h1, h2, show (k : ℕ) - 16 < 16 by omega, dif_pos, dif_neg, not_false_eq_true]
    · simp only [h1, h2, show ¬((k : ℕ) - 16 < 16) by omega, dif_neg, not_false_eq_true]
      rfl
/-- The projection's four ranges of columns side by side. -/
theorem cat4 (a : FVec Ideal S1024x384 .f32) (b : FVec Ideal S1024x1024 .f32) (d : FVec Ideal S1024x32 .f32) (e : FVec Ideal S1024x96 .f32) (h) (n : Fin 1024) (k : Fin 1536) :
    concatenate S1024x1536 1 [⟨S1024x384, a⟩, ⟨S1024x1024, b⟩, ⟨S1024x32, d⟩, ⟨S1024x96, e⟩] h (ix2 n k)
      = if h : (k : ℕ) < 384 then a (ix2 n ⟨k, h⟩) else if h' : (k : ℕ) < 1408 then b (ix2 n ⟨k - 384, by omega⟩)
        else if h'' : (k : ℕ) < 1440 then d (ix2 n ⟨k - 1408, by omega⟩) else e (ix2 n ⟨k - 1440, by omega⟩) := by
  pointwise
  by_cases h1 : (k : ℕ) < 384
  · simp only [h1, dif_pos]
  · by_cases h2 : (k : ℕ) < 1408
    · simp only [h1, h2, show (k : ℕ) - 384 < 1024 by omega, dif_pos, dif_neg, not_false_eq_true]
    · by_cases h3 : (k : ℕ) < 1440
      · simp only [h1, h2, h3, show ¬((k : ℕ) - 384 < 1024) by omega, show (k : ℕ) - 384 - 1024 < 32 by omega, dif_pos, dif_neg, not_false_eq_true]
        rfl
      · simp only [h1, h2, h3, show ¬((k : ℕ) - 384 < 1024) by omega, show ¬((k : ℕ) - 384 - 1024 < 32) by omega, dif_neg, not_false_eq_true]
        rfl

/-! ### What the host operations leave for the kernel -/

theorem e65 (k : Fin 128) : (V m c main_v65 : S1x128.Idx → EReal) (ix2 0 k) = tc 16384 k := by
  simp only [V, List.flatten_cons, List.flatten_nil, List.append_nil, List.cons_append, List.nil_append]
  after_reads_simp
  refine Eq.trans (cat3 _ _ _ _ k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold tc ang
  split_ifs <;> rfl
theorem e66 (k : Fin 128) : (V m c main_v66 : S1x128.Idx → EReal) (ix2 0 k) = ta 16384 k := by
  simp only [V, List.flatten_cons, List.flatten_nil, List.append_nil, List.cons_append, List.nil_append]
  after_reads_simp
  refine Eq.trans (cat3 _ _ _ _ k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold ta ang
  split_ifs <;> rfl
theorem e68 (k : Fin 128) : (V m c main_v68 : S1x128.Idx → EReal) (ix2 0 k) = tb 16384 k := by
  simp only [V, List.flatten_cons, List.flatten_nil, List.append_nil, List.cons_append, List.nil_append]
  after_reads_simp
  refine Eq.trans (cat3 _ _ _ _ k) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  unfold tb ang
  split_ifs <;> rfl

/-- The projection's columns as the host lays them out. -/
def wp (w : S1024x1440.Idx → EReal) (k : Fin 1024) (p : Fin 1536) : EReal :=
  if h : (p : ℕ) < 384 then w (ix2 k ⟨p, by omega⟩) else if h : (p : ℕ) < 1408 then w (ix2 k ⟨p + 32, by omega⟩)
  else if h : (p : ℕ) < 1440 then w (ix2 k ⟨p - 1024, by omega⟩) else 0

theorem e4 (k : Fin 1024) (p : Fin 1536) : (V m c main_v4 : S1024x1536.Idx → EReal) (ix2 k p) = wp (A1 m c) k p := by
  simp only [V, List.flatten_cons, List.flatten_nil, List.append_nil, List.cons_append, List.nil_append]
  after_reads_simp
  refine Eq.trans (cat4 _ _ _ _ _ k p) ?_
  simp only [Matrix.cons_val_zero, Matrix.cons_val_one, Matrix.cons_val_two, Matrix.vecHead, Matrix.vecTail, Matrix.tail_cons, Matrix.head_cons, Function.comp, Fin.succ_zero_eq_one, Fin.succ_one_eq_two]
  after_reads_simp
  pointwise
  after_reads_simp
  pointwise
  unfold wp A1
  by_cases h1 : (p : ℕ) < 384
  · simp only [h1, dif_pos]
  · by_cases h2 : (p : ℕ) < 1408
    · simp only [h1, h2, dif_pos, dif_neg, not_false_eq_true]
      exact congrArg (fun z : Fin 1440 => m (c.tc.loc main_arg1) (ix2 k z)) (Fin.ext (by show 416 + ((p : ℕ) - 384) = p + 32; omega))
    · by_cases h3 : (p : ℕ) < 1440
      · simp only [h1, h2, h3, dif_pos, dif_neg, not_false_eq_true]
        exact congrArg (fun z : Fin 1440 => m (c.tc.loc main_arg1) (ix2 k z)) (Fin.ext (by show 384 + ((p : ℕ) - 1408) = p - 1024; omega))
      · simp only [h1, h2, h3, dif_neg, not_false_eq_true]
theorem e5 (k : Fin 1024) (p : Fin 1536) : (V m c main_v5 : S1024x1536.Idx → EReal) (ix2 k p) = wp (A1 m c) k p := by
  refine Eq.trans ?_ (e4 m c k p)
  simp only [V, List.flatten_cons, List.flatten_nil, List.append_nil, List.cons_append, List.nil_append]
  after_reads_simp
  rfl
theorem e8 (k : Fin 256) (e : Fin 512) : (V m c main_v8 : S256x512.Idx → EReal) (ix2 k e) = A3 m c (ix3 k ⟨e / 64, by omega⟩ ⟨e % 64, by omega⟩) := by
  simp only [V, List.flatten_cons, List.flatten_nil, List.append_nil, List.cons_append, List.nil_append]
  after_reads_simp
  pointwise
  rfl
/-- The query's rotated lanes of every head padded to 128, then the same with their halves exchanged. -/
def wq (w : S256x8x96.Idx → EReal) (k : Fin 256) (p : Fin 2048) : EReal :=
  if h : (p : ℕ) < 1024 then (if h' : (p : ℕ) % 128 < 32 then w (ix3 k ⟨p / 128, by omega⟩ ⟨64 + p % 128, by omega⟩) else 0)
  else if h' : (p : ℕ) % 128 < 16 then w (ix3 k ⟨p / 128 - 8, by omega⟩ ⟨80 + p % 128, by omega⟩)
  else if h'' : (p : ℕ) % 128 < 32 then w (ix3 k ⟨p / 128 - 8, by omega⟩ ⟨48 + p % 128, by omega⟩) else 0
theorem e19 (k : Fin 256) (p : Fin 2048) : (V m c main_v19 : S256x2048.Idx → EReal) (ix2 k p) = wq (A3 m c) k p := by
  simp only [V, List.flatten_cons, List.flatten_nil, List.append_nil, List.cons_append, List.nil_append]
  after_reads_simp
  pointwise
  after_reads_simp
  pointwise
  unfold wq A3
  by_cases h : (p : ℕ) < 1024
  · simp only [h, dif_pos]
    by_cases h' : (p : ℕ) % 128 < 32
    · simp only [h', dif_pos]
      after_reads_simp
      pointwise
    · simp only [h', dif_neg, not_false_eq_true]
      after_reads_simp
      pointwise
  · simp only [h, dif_neg, not_false_eq_true]
    have e : ((p : ℕ) - 1024) % 128 = p % 128 := by omega
    by_cases h' : ((p : ℕ) - 1024) % 128 < 32
    · simp only [h', dif_pos]
      after_reads_simp
      pointwise
      by_cases h2 : ((p : ℕ) - 1024) % 128 < 16
      · simp only [h2, show (p : ℕ) % 128 < 16 by omega, dif_pos]
        exact congrArg₂ (fun (u : Fin 8) (v : Fin 96) => m (c.tc.loc main_arg3) (ix3 k u v)) (Fin.ext (by show ((p : ℕ) - 1024) / 128 = p / 128 - 8; omega))
          (Fin.ext (by show 64 + (16 + ((p : ℕ) - 1024) % 128) = 80 + p % 128; omega))
      · simp only [h2, show ¬(p : ℕ) % 128 < 16 by omega, show (p : ℕ) % 128 < 32 by omega, dif_pos, dif_neg, not_false_eq_true]
        exact congrArg₂ (fun (u : Fin 8) (v : Fin 96) => m (c.tc.loc main_arg3) (ix3 k u v)) (Fin.ext (by show ((p : ℕ) - 1024) / 128 = p / 128 - 8; omega))
          (Fin.ext (by show 64 + (((p : ℕ) - 1024) % 128 - 16) = 48 + p % 128; omega))
    · simp only [h', dif_neg, not_false_eq_true]
      after_reads_simp
      pointwise
      simp only [show ¬(p : ℕ) % 128 < 16 by omega, show ¬(p : ℕ) % 128 < 32 by omega, dif_neg, not_false_eq_true]
theorem e36 (q : Fin 4) (d : Fin 128) (r : Fin 256) : (V m c main_v36 : S4x128x256.Idx → EReal) (ix3 q d r)
    = A5 m c (ix3 ⟨r % 128, by omega⟩ ⟨q * 2 + d / 64, by omega⟩ ⟨d % 64, by omega⟩) * if (⟨d / 64, by omega⟩ : Fin 2) = ⟨r / 128, by omega⟩ then 1 else 0 := by
  simp only [V, List.flatten_cons, List.flatten_nil, List.append_nil, List.cons_append, List.nil_append]
  after_reads_simp
  pointwise
  refine congrArg₂ (· * ·) ?_ (eye_at ⟨d / 64, by omega⟩ ⟨r / 128, by omega⟩)
  unfold A5
  rfl
theorem e45 (j : Fin 512) : (V m c main_v45 : S1x512.Idx → EReal) (ix2 0 j) = A8 m c (ix3 ⟨j / 64, by omega⟩ 0 0) := by
  simp only [V, List.flatten_cons, List.flatten_nil, List.append_nil, List.cons_append, List.nil_append]
  after_reads_simp
  pointwise
  rfl
theorem e46 (j : Fin 512) : (V m c main_v46 : S1x512.Idx → EReal) (ix2 0 j) = A9 m c (ix2 ⟨j / 64, by omega⟩ 0) := by
  simp only [V, List.flatten_cons, List.flatten_nil, List.append_nil, List.cons_append, List.nil_append]
  after_reads_simp
  pointwise
  rfl
theorem e69 (n : Fin 32) (k : Fin 1024) : (V m c main_v69 : S32x1024.Idx → EReal) (ix2 n k) = A0 m c (ix3 n 0 k) := by
  simp only [V, List.flatten_cons, List.flatten_nil, List.append_nil, List.cons_append, List.nil_append]
  after_reads_simp
  pointwise
  rfl
theorem e70 (k : Fin 128) : (V m c main_v70 : S1x128.Idx → EReal) (ix2 0 k) = A4 m c (ix1 k) := by
  simp only [V, List.flatten_cons, List.flatten_nil, List.append_nil, List.cons_append, List.nil_append]
  after_reads_simp
  pointwise
  rfl
theorem e71 (k : Fin 512) : (V m c main_v71 : S1x512.Idx → EReal) (ix2 0 k) = A6 m c (ix1 k) := by
  simp only [V, List.flatten_cons, List.flatten_nil, List.append_nil, List.cons_append, List.nil_append]
  after_reads_simp
  pointwise
  rfl
theorem e72 (k : Fin 512) : (V m c main_v72 : S1x512.Idx → EReal) (ix2 0 k) = A7 m c (ix1 k) := by
  simp only [V, List.flatten_cons, List.flatten_nil, List.append_nil, List.cons_append, List.nil_append]
  after_reads_simp
  pointwise
  rfl
theorem e73 (k : Fin 256) : (V m c main_v73 : S1x256.Idx → EReal) (ix2 0 k) = A2 m c (ix1 k) := by
  simp only [V, List.flatten_cons, List.flatten_nil, List.append_nil, List.cons_append, List.nil_append]
  after_reads_simp
  pointwise
  rfl
variable (t : Fin cfg0.N)

theorem b0 (r : Fin 32) (k : Fin 1024) : (iblk m c 0 t : S32x1024.Idx → EReal) (ix2 r k) = A0 m c (ix3 r 0 k) :=
  (by blk_point [iblk, idx t] : iblk m c 0 t (ix2 r k) = V m c main_v69 (ix2 r k)).trans (e69 m c r k)
theorem b1 : mat (iblk m c 1 t : S1024x1536.Idx → EReal) = wp (A1 m c) :=
  funext fun k => funext fun p => (by blk_point [iblk, idx t] : iblk m c 1 t (ix2 k p) = V m c main_v5 (ix2 k p)).trans (e5 m c k p)
theorem b12 : mat (iblk m c 12 t : S256x2048.Idx → EReal) = wq (A3 m c) :=
  funext fun k => funext fun p => (by blk_point [iblk, idx t] : iblk m c 12 t (ix2 k p) = V m c main_v19 (ix2 k p)).trans (e19 m c k p)
theorem b11 (k : Fin 256) (e : Fin 512) : mat (iblk m c 11 t : S256x512.Idx → EReal) k e = A3 m c (ix3 k ⟨e / 64, by omega⟩ ⟨e % 64, by omega⟩) :=
  (by blk_point [iblk, idx t] : iblk m c 11 t (ix2 k e) = V m c main_v8 (ix2 k e)).trans (e8 m c k e)
theorem b13 (q : Fin 4) (d : Fin 128) (r : Fin 256) : (iblk m c 13 t : S4x128x256.Idx → EReal) (ix3 q d r)
    = A5 m c (ix3 ⟨r % 128, by omega⟩ ⟨q * 2 + d / 64, by omega⟩ ⟨d % 64, by omega⟩) * if (⟨d / 64, by omega⟩ : Fin 2) = ⟨r / 128, by omega⟩ then 1 else 0 :=
  (by blk_point [iblk, idx t] : iblk m c 13 t (ix3 q d r) = V m c main_v36 (ix3 q d r)).trans (e36 m c q d r)
theorem b2 : mat (iblk m c 2 t : S1x128.Idx → EReal) 0 = fun k => A4 m c (ix1 k) :=
  funext fun k => (by blk_point [iblk, idx t] : iblk m c 2 t (ix2 0 k) = V m c main_v70 (ix2 0 k)).trans (e70 m c k)
theorem b3 : mat (iblk m c 3 t : S1x512.Idx → EReal) 0 = fun k => A6 m c (ix1 k) :=
  funext fun k => (by blk_point [iblk, idx t] : iblk m c 3 t (ix2 0 k) = V m c main_v71 (ix2 0 k)).trans (e71 m c k)
theorem b4 : mat (iblk m c 4 t : S1x512.Idx → EReal) 0 = fun k => A7 m c (ix1 k) :=
  funext fun k => (by blk_point [iblk, idx t] : iblk m c 4 t (ix2 0 k) = V m c main_v72 (ix2 0 k)).trans (e72 m c k)
theorem b10 : mat (iblk m c 10 t : S1x256.Idx → EReal) 0 = fun k => A2 m c (ix1 k) :=
  funext fun k => (by blk_point [iblk, idx t] : iblk m c 10 t (ix2 0 k) = V m c main_v73 (ix2 0 k)).trans (e73 m c k)
theorem b5 : mat (iblk m c 5 t : S1x512.Idx → EReal) 0 = fun k : Fin 512 => A8 m c (ix3 ⟨k / 64, by omega⟩ 0 0) :=
  funext fun k => (by blk_point [iblk, idx t] : iblk m c 5 t (ix2 0 k) = V m c main_v45 (ix2 0 k)).trans (e45 m c k)
theorem b6 : mat (iblk m c 6 t : S1x512.Idx → EReal) 0 = fun k : Fin 512 => A9 m c (ix2 ⟨k / 64, by omega⟩ 0) :=
  funext fun k => (by blk_point [iblk, idx t] : iblk m c 6 t (ix2 0 k) = V m c main_v46 (ix2 0 k)).trans (e46 m c k)
theorem b7 : mat (iblk m c 7 t : S1x128.Idx → EReal) 0 = tc 16384 :=
  funext fun k => (by blk_point [iblk, idx t] : iblk m c 7 t (ix2 0 k) = V m c main_v65 (ix2 0 k)).trans (e65 m c k)
theorem b8 : mat (iblk m c 8 t : S1x128.Idx → EReal) 0 = ta 16384 :=
  funext fun k => (by blk_point [iblk, idx t] : iblk m c 8 t (ix2 0 k) = V m c main_v66 (ix2 0 k)).trans (e66 m c k)
theorem b9 : mat (iblk m c 9 t : S1x128.Idx → EReal) 0 = tb 16384 :=
  funext fun k => (by blk_point [iblk, idx t] : iblk m c 9 t (ix2 0 k) = V m c main_v68 (ix2 0 k)).trans (e68 m c k)
theorem emb14 (y0 : Fin 32) (y1 : Fin 128) : (win0_14.blk t).view.emb (ix2 y0 y1) = ix2 y0 y1 := by
  blk_ext [idx t]
theorem emb15 (y0 : Fin 32) (y1 : Fin 32) : (win0_15.blk t).view.emb (ix2 y0 y1) = ix2 y0 y1 := by
  blk_ext [idx t]
theorem emb16 (y0 : Fin 32) (y1 : Fin 512) : (win0_16.blk t).view.emb (ix2 y0 y1) = ix2 y0 y1 := by
  blk_ext [idx t]
theorem emb17 (y0 : Fin 32) (y1 : Fin 512) : (win0_17.blk t).view.emb (ix2 y0 y1) = ix2 y0 y1 := by
  blk_ext [idx t]
theorem emb18 (y0 : Fin 32) (y1 : Fin 1024) : (win0_18.blk t).view.emb (ix2 y0 y1) = ix2 y0 y1 := by
  blk_ext [idx t]
theorem emb19 (y0 : Fin 32) (y1 : Fin 1024) : (win0_19.blk t).view.emb (ix2 y0 y1) = ix2 y0 y1 := by
  blk_ext [idx t]

end Cert.InprojS

end
-- ==== Proof.SampFinal.lean ====
/- The result arrays of the sample's input projection after the run, from the arguments. -/
module

public import proofs.«01_k».proof.Proof.SampOut
public import proofs.«01_k».proof.Proof.SampHost

@[expose] public section

set_option maxRecDepth 16384

noncomputable section

open Idealize.ShloMosaic Idealize.ShloMosaic.TcCoe Idealize.SL.Sem
open Idealize.ShloMosaic.Pipeline (Dat)
open scoped BigOperators

open Cert.Kernel5Ideal Cert.Kernel5Ideal.Gen

namespace Cert.InprojS
open Cert.Mix (mat dot)
open Cert.Inproj (act ln rms pe tc ta tb turn turn_lt)

variable (m : (ℓ : Loc nD τ sig) → Buf (Elt Ideal) ℓ) (c : Dev nD)

variable (t : Fin cfg0.N)

theorem z_eq (R : Fin 32) (p : Fin 1536) (j : Fin 1440) (h : ∀ k, wp (A1 m c) k p = A1 m c (ix2 k j)) :
    zR (iblk m c 0 t) (iblk m c 1 t) R p = pr (A0 m c) (A1 m c) R j := by
  unfold zR pr
  rw [b1]
  exact Finset.sum_congr rfl fun k _ => congrArg₂ (· * ·) (b0 m c t R k) (h k)
theorem z_lo (R : Fin 32) (p : Fin 1536) (j : Fin 1440) (h : (p : ℕ) < 384) (e : (p : ℕ) = j) :
    zR (iblk m c 0 t) (iblk m c 1 t) R p = pr (A0 m c) (A1 m c) R j :=
  z_eq m c t R p j fun k => by unfold wp; rw [dif_pos h]; exact congrArg (fun z => A1 m c (ix2 k z)) (Fin.ext e)
theorem z_mid (R : Fin 32) (p : Fin 1536) (j : Fin 1440) (h : ¬(p : ℕ) < 384) (h2 : (p : ℕ) < 1408) (e : (p : ℕ) + 32 = j) :
    zR (iblk m c 0 t) (iblk m c 1 t) R p = pr (A0 m c) (A1 m c) R j :=
  z_eq m c t R p j fun k => by unfold wp; rw [dif_neg h, dif_pos h2]; exact congrArg (fun z => A1 m c (ix2 k z)) (Fin.ext e)
theorem z_hi (R : Fin 32) (p : Fin 1536) (j : Fin 1440) (h : ¬(p : ℕ) < 384) (h2 : ¬(p : ℕ) < 1408) (h3 : (p : ℕ) < 1440) (e : (p : ℕ) - 1024 = j) :
    zR (iblk m c 0 t) (iblk m c 1 t) R p = pr (A0 m c) (A1 m c) R j :=
  z_eq m c t R p j fun k => by unfold wp; rw [dif_neg h, dif_neg h2, dif_pos h3]; exact congrArg (fun z => A1 m c (ix2 k z)) (Fin.ext e)

theorem c_eq (R : Fin 32) : cR (iblk m c 0 t) (iblk m c 1 t) (iblk m c 2 t) R = ckv (A0 m c) (A1 m c) (A4 m c) R := by
  unfold cR ckv
  rw [b2]
  exact congrArg (rms _) (funext fun k => z_lo m c t R _ _ (by show 256 + (k : ℕ) < 384; omega) rfl)
theorem k_eq (R : Fin 32) (l : Fin 32) : kR (iblk m c 0 t) (iblk m c 1 t) (iblk m c 7 t) (iblk m c 8 t) (iblk m c 9 t) R ⟨l, by omega⟩
    = kpe (A0 m c) (A1 m c) R l := by
  unfold kR kpe
  rw [b7, b8, b9, turn_lt]
  exact congrArg (fun q => pe _ q l) (funext fun k => z_hi m c t R _ _ (by show ¬1408 + (k : ℕ) < 384; omega) (by show ¬1408 + (k : ℕ) < 1408; omega)
    (by show 1408 + (k : ℕ) < 1440; omega) (by show 1408 + (k : ℕ) - 1024 = 384 + k; omega))
theorem v_eq (R : Fin 32) : vR (iblk m c 0 t) (iblk m c 1 t) (iblk m c 3 t) (iblk m c 4 t) R = gv (A0 m c) (A1 m c) (A6 m c) (A7 m c) R := by
  unfold vR gv
  rw [b3, b4]
  exact congrArg (ln _ _) (funext fun j => congrArg act (z_mid m c t R _ _ (by show ¬896 + (j : ℕ) < 384; omega) (by show 896 + (j : ℕ) < 1408; omega) (by show 896 + (j : ℕ) + 32 = 928 + j; omega)))
theorem g_eq (R : Fin 32) (j : Fin 512) : gR (iblk m c 0 t) (iblk m c 1 t) (iblk m c 3 t) (iblk m c 4 t) (iblk m c 5 t) (iblk m c 6 t) R j
    = gt (A0 m c) (A1 m c) (A6 m c) (A7 m c) (A8 m c) (A9 m c) R j := by
  unfold gR gt
  rw [b5, b6, v_eq]
  exact congrArg (· * _) (congrArg act (z_mid m c t R _ _ (by show ¬384 + (j : ℕ) < 384; omega) (by show 384 + (j : ℕ) < 1408; omega) (by show 384 + (j : ℕ) + 32 = 416 + j; omega)))

/-! ### The query -/

theorem q_eq (R : Fin 32) : qR (iblk m c 0 t) (iblk m c 1 t) (iblk m c 10 t) R = qn (A0 m c) (A1 m c) (A2 m c) R := by
  unfold qR qn
  rw [b10]
  exact congrArg (rmsq _) (funext fun k => z_lo m c t R _ _ (by show (k : ℕ) < 384; omega) rfl)
theorem h_eq (R : Fin 32) (e : Fin 512) : dot (qR (iblk m c 0 t) (iblk m c 1 t) (iblk m c 10 t) R) (mat (iblk m c 11 t : S256x512.Idx → EReal)) e
    = qh (A0 m c) (A1 m c) (A2 m c) (A3 m c) R ⟨e / 64, by omega⟩ ⟨e % 64, by omega⟩ := by
  rw [q_eq]
  exact Finset.sum_congr rfl fun k _ => congrArg (qn (A0 m c) (A1 m c) (A2 m c) R k * ·) (b11 m c t k e)
theorem l_eq (R : Fin 32) (j : Fin 1024) : lR (iblk m c 0 t) (iblk m c 1 t) (iblk m c 10 t) (iblk m c 11 t) (iblk m c 13 t) R j
    = o4r (A0 m c) (A1 m c) (A2 m c) (A3 m c) (A5 m c) R j := by
  unfold lR o4r ql
  generalize hQ : qh (A0 m c) (A1 m c) (A2 m c) (A3 m c) R = Q
  have e1 : ∀ d : Fin 128, dot (qR (iblk m c 0 t) (iblk m c 1 t) (iblk m c 10 t) R) (mat (iblk m c 11 t : S256x512.Idx → EReal)) ⟨j / 256 * 128 + d, by omega⟩
      = Q ⟨j / 256 * 2 + d / 64, by omega⟩ ⟨d % 64, by omega⟩ := fun d => by
    rw [h_eq, hQ]
    exact congrArg₂ Q (Fin.ext (by show ((j : ℕ) / 256 * 128 + d) / 64 = j / 256 * 2 + d / 64; omega)) (Fin.ext (by show ((j : ℕ) / 256 * 128 + d) % 64 = d % 64; omega))
  refine (Finset.sum_congr rfl fun d _ => congrArg₂ (· * ·) (e1 d) (b13 m c t ⟨j / 256, by omega⟩ d ⟨j % 256, by omega⟩)).trans ?_
  refine (pair_sum (fun d => Q ⟨j / 256 * 2 + d / 64, by omega⟩ ⟨d % 64, by omega⟩)
    (fun d => A5 m c (ix3 ⟨j % 256 % 128, by omega⟩ ⟨j / 256 * 2 + d / 64, by omega⟩ ⟨d % 64, by omega⟩)) ⟨j % 256 / 128, by omega⟩).trans ?_
  refine Finset.sum_congr rfl fun e _ => ?_
  have eh : ∀ h, (⟨(j : ℕ) / 256 * 2 + (j % 256 / 128 * 64 + e) / 64, h⟩ : Fin 8) = ⟨j / 128, by omega⟩ := fun h => Fin.ext (by show (j : ℕ) / 256 * 2 + (j % 256 / 128 * 64 + e) / 64 = j / 128; omega)
  refine congrArg₂ (· * ·) (congrArg₂ Q (eh _) (Fin.ext (by show ((j : ℕ) % 256 / 128 * 64 + e) % 64 = e; omega))) ?_
  have er : (⟨(j : ℕ) % 256 % 128, by omega⟩ : Fin 128) = ⟨j % 128, by omega⟩ := Fin.ext (by show (j : ℕ) % 256 % 128 = j % 128; omega)
  have ee : (⟨((j : ℕ) % 256 / 128 * 64 + e) % 64, by omega⟩ : Fin 128) = ⟨e, by omega⟩ := Fin.ext (by show ((j : ℕ) % 256 / 128 * 64 + e) % 64 = e; omega)
  show A5 m c (ix3 _ _ _) = _
  rw [eh, er, ee]
theorem w_eq (R : Fin 32) (p : Fin 2048) (h : Fin 8) (e : Fin 96) (hw : ∀ k, wq (A3 m c) k p = A3 m c (ix3 k h e)) :
    dot (qR (iblk m c 0 t) (iblk m c 1 t) (iblk m c 10 t) R) (mat (iblk m c 12 t : S256x2048.Idx → EReal)) p = qh (A0 m c) (A1 m c) (A2 m c) (A3 m c) R h e := by
  rw [q_eq, b12]
  exact Finset.sum_congr rfl fun k _ => congrArg (qn (A0 m c) (A1 m c) (A2 m c) R k * ·) (hw k)
theorem e_eq (R : Fin 32) (j : Fin 1024) : eR (iblk m c 0 t) (iblk m c 1 t) (iblk m c 7 t) (iblk m c 8 t) (iblk m c 9 t) (iblk m c 10 t) (iblk m c 12 t) R j
    = o5r (A0 m c) (A1 m c) (A2 m c) (A3 m c) R j := by
  unfold eR o5r qp
  rw [b7, b8, b9]
  refine rot 16384 (fun k => qh (A0 m c) (A1 m c) (A2 m c) (A3 m c) R ⟨j / 128, by omega⟩ ⟨64 + k, by omega⟩) _ _ ⟨j % 128, by omega⟩ (fun h => ?_) (fun h => ?_) (fun h h' => ?_)
  · refine w_eq m c t R _ _ _ fun k => ?_
    unfold wq
    rw [dif_pos (by show (j : ℕ) < 1024; omega), dif_pos h]
  · have h : (j : ℕ) % 128 < 16 := h
    refine w_eq m c t R _ _ _ fun k => ?_
    unfold wq
    rw [dif_neg (by show ¬1024 + (j : ℕ) < 1024; omega), dif_pos (by show (1024 + (j : ℕ)) % 128 < 16; omega)]
    exact congrArg₂ (fun (u : Fin 8) (v : Fin 96) => A3 m c (ix3 k u v)) (Fin.ext (by show (1024 + (j : ℕ)) / 128 - 8 = j / 128; omega))
      (Fin.ext (by show 80 + (1024 + (j : ℕ)) % 128 = 64 + (j % 128 + 16); omega))
  · have h : ¬(j : ℕ) % 128 < 16 := h
    have h' : (j : ℕ) % 128 < 32 := h'
    refine w_eq m c t R _ _ _ fun k => ?_
    unfold wq
    rw [dif_neg (by show ¬1024 + (j : ℕ) < 1024; omega), dif_neg (by show ¬(1024 + (j : ℕ)) % 128 < 16; omega), dif_pos (by show (1024 + (j : ℕ)) % 128 < 32; omega)]
    exact congrArg₂ (fun (u : Fin 8) (v : Fin 96) => A3 m c (ix3 k u v)) (Fin.ext (by show (1024 + (j : ℕ)) / 128 - 8 = j / 128; omega))
      (Fin.ext (by show 48 + (1024 + (j : ℕ)) % 128 = 64 + (j % 128 - 16); omega))

/-! ### The six results after the run -/

/-- Each result array is the function of the arguments. -/
theorem final_14 : (dats m 0 c).arrAt 14 cfg0.N = o0 (A0 m c) (A1 m c) (A4 m c) := by
  refine (dats m 0 c).arrAt_eq_of_covers 14 _ (by decide +kernel) fun t hf y => ?_
  blk_simp
  rw [after0_14]
  idx_vars y
  refine Eq.trans ?_ (congrArg (o0 (A0 m c) (A1 m c) (A4 m c)) (emb14 t y0 y1)).symm
  exact (out14 _ _ _ _ _ _ _ _ _ _ _ _ _ _ y0 y1).trans (congrFun (c_eq m c t y0) y1)
theorem final_15 : (dats m 0 c).arrAt 15 cfg0.N = o1 (A0 m c) (A1 m c) := by
  refine (dats m 0 c).arrAt_eq_of_covers 15 _ (by decide +kernel) fun t hf y => ?_
  blk_simp
  rw [after0_15]
  idx_vars y
  refine Eq.trans ?_ (congrArg (o1 (A0 m c) (A1 m c)) (emb15 t y0 y1)).symm
  exact (out15 _ _ _ _ _ _ _ _ _ _ _ _ _ _ y0 y1).trans (k_eq m c t y0 y1)
theorem final_16 : (dats m 0 c).arrAt 16 cfg0.N = o2 (A0 m c) (A1 m c) (A6 m c) (A7 m c) (A8 m c) (A9 m c) := by
  refine (dats m 0 c).arrAt_eq_of_covers 16 _ (by decide +kernel) fun t hf y => ?_
  blk_simp
  rw [after0_16]
  idx_vars y
  refine Eq.trans ?_ (congrArg (o2 (A0 m c) (A1 m c) (A6 m c) (A7 m c) (A8 m c) (A9 m c)) (emb16 t y0 y1)).symm
  exact (out16 _ _ _ _ _ _ _ _ _ _ _ _ _ _ y0 y1).trans (g_eq m c t y0 y1)
theorem final_17 : (dats m 0 c).arrAt 17 cfg0.N = o3 (A0 m c) (A1 m c) (A6 m c) (A7 m c) := by
  refine (dats m 0 c).arrAt_eq_of_covers 17 _ (by decide +kernel) fun t hf y => ?_
  blk_simp
  rw [after0_17]
  idx_vars y
  refine Eq.trans ?_ (congrArg (o3 (A0 m c) (A1 m c) (A6 m c) (A7 m c)) (emb17 t y0 y1)).symm
  exact (out17 _ _ _ _ _ _ _ _ _ _ _ _ _ _ y0 y1).trans (congrFun (v_eq m c t y0) y1)
theorem final_18 : (dats m 0 c).arrAt 18 cfg0.N = o4 (A0 m c) (A1 m c) (A2 m c) (A3 m c) (A5 m c) := by
  refine (dats m 0 c).arrAt_eq_of_covers 18 _ (by decide +kernel) fun t hf y => ?_
  blk_simp
  rw [after0_18]
  idx_vars y
  refine Eq.trans ?_ (congrArg (o4 (A0 m c) (A1 m c) (A2 m c) (A3 m c) (A5 m c)) (emb18 t y0 y1)).symm
  exact (out18 _ _ _ _ _ _ _ _ _ _ _ _ _ _ y0 y1).trans (l_eq m c t y0 y1)
theorem final_19 : (dats m 0 c).arrAt 19 cfg0.N = o5 (A0 m c) (A1 m c) (A2 m c) (A3 m c) := by
  refine (dats m 0 c).arrAt_eq_of_covers 19 _ (by decide +kernel) fun t hf y => ?_
  blk_simp
  rw [after0_19]
  idx_vars y
  refine Eq.trans ?_ (congrArg (o5 (A0 m c) (A1 m c) (A2 m c) (A3 m c)) (emb19 t y0 y1)).symm
  exact (out19 _ _ _ _ _ _ _ _ _ _ _ _ _ _ y0 y1).trans (e_eq m c t y0 y1)

end Cert.InprojS

end
-- ==== Proof.SampRef.lean ====
/- The reference's six results of the sample's input projection, entry by entry. -/
module

public import proofs.«01_k».proof.Proof.Gen.Reference5Ideal.Run
public import proofs.«01_k».proof.Proof.SampSpec

@[expose] public section

set_option maxRecDepth 16384

noncomputable section

open Idealize.ShloMosaic Idealize.ShloMosaic.TcCoe Idealize.SL.Sem
open Idealize.ShloMosaic.Pipeline (Dat)
open scoped BigOperators

open Cert.Reference5Ideal Cert.Reference5Ideal.Gen Cert.Reference5Ideal.Value

namespace Cert.InprojS.Ref
open Cert.Inproj (act ln mean rms pe ang msk cen)

variable (v0 : Valuation τ sig (Elt Ideal))
def B0 : S32x1x1024.Idx → EReal := v0 (Proc.devRef .tc main_arg0)
def B1 : S1024x1440.Idx → EReal := v0 (Proc.devRef .tc main_arg1)
def B2 : S256.Idx → EReal := v0 (Proc.devRef .tc main_arg2)
def B3 : S256x8x96.Idx → EReal := v0 (Proc.devRef .tc main_arg3)
def B4 : S128.Idx → EReal := v0 (Proc.devRef .tc main_arg4)
def B5 : S128x8x128.Idx → EReal := v0 (Proc.devRef .tc main_arg5)
def B6 : S512.Idx → EReal := v0 (Proc.devRef .tc main_arg6)
def B7 : S512.Idx → EReal := v0 (Proc.devRef .tc main_arg7)
def B8 : S8x128x128.Idx → EReal := v0 (Proc.devRef .tc main_arg8)
def B9 : S8x128.Idx → EReal := v0 (Proc.devRef .tc main_arg9)

theorem p3 (n : Fin 32) (j : Fin 1440) : res_main_v3 v0 (ix3 n 0 j) = pr (B0 v0) (B1 v0) n j := by
  unfold res_main_v3 pr; pointwise <;> rfl
theorem p4 (n : Fin 32) (j : Fin 256) : res_main_v4 v0 (ix3 n 0 j) = pr (B0 v0) (B1 v0) n ⟨j, by omega⟩ := by
  unfold res_main_v4; pointwise [p3]
theorem p5 (n : Fin 32) (j : Fin 128) : res_main_v5 v0 (ix3 n 0 j) = pr (B0 v0) (B1 v0) n ⟨256 + j, by omega⟩ := by
  unfold res_main_v5; pointwise [p3]
theorem p6 (n : Fin 32) (j : Fin 32) : res_main_v6 v0 (ix3 n 0 j) = pr (B0 v0) (B1 v0) n ⟨384 + j, by omega⟩ := by
  unfold res_main_v6; pointwise [p3]
theorem p7 (n : Fin 32) (j : Fin 512) : res_main_v7 v0 (ix3 n 0 j) = pr (B0 v0) (B1 v0) n ⟨416 + j, by omega⟩ := by
  unfold res_main_v7; pointwise [p3]
theorem p8 (n : Fin 32) (j : Fin 512) : res_main_v8 v0 (ix3 n 0 j) = pr (B0 v0) (B1 v0) n ⟨928 + j, by omega⟩ := by
  unfold res_main_v8; pointwise [p3]
theorem p115 (n : Fin 32) (j : Fin 512) : res_main_v115 v0 (ix3 n 0 j) = act (pr (B0 v0) (B1 v0) n ⟨928 + j, by omega⟩) := by
  rw [← p8]; unfold res_main_v115; pointwise; simp only [act, mul_assoc]
theorem p119 (n : Fin 32) : res_main_v119 v0 (ix3 n 0 0) = mean (fun k => act (pr (B0 v0) (B1 v0) n ⟨928 + k, by omega⟩)) := by
  unfold res_main_v119; pointwise [p115] <;> rfl
theorem p121 (n : Fin 32) (j : Fin 512) : res_main_v121 v0 (ix3 n 0 j) = cen (fun k => act (pr (B0 v0) (B1 v0) n ⟨928 + k, by omega⟩)) j := by
  unfold res_main_v121 cen; pointwise [p115, p119]
theorem p139 (n : Fin 32) (j : Fin 512) : res_main_v139 v0 (ix3 n 0 j) = gv (B0 v0) (B1 v0) (B6 v0) (B7 v0) n j := by
  unfold res_main_v139 gv ln; pointwise [p115, p119, p121] <;> rfl
theorem p22 (n : Fin 32) (h : Fin 8) (e : Fin 96) : res_main_v22 v0 (ix4 n 0 h e) = qh (B0 v0) (B1 v0) (B2 v0) (B3 v0) n h e := by
  unfold res_main_v22 qh qn rmsq; pointwise [p4] <;> rfl
theorem p24 (n : Fin 32) (h : Fin 8) (e : Fin 32) : res_main_v24 v0 (ix4 n 0 h e) = qh (B0 v0) (B1 v0) (B2 v0) (B3 v0) n h ⟨64 + e, by omega⟩ := by
  unfold res_main_v24; pointwise [p22]
theorem p40 (n : Fin 32) (h : Fin 8) (e : Fin 16) : res_main_v40 v0 (ix4 n 0 h e) = qh (B0 v0) (B1 v0) (B2 v0) (B3 v0) n h ⟨64 + e, by omega⟩ := by
  unfold res_main_v40; pointwise [p24]
theorem p41 (n : Fin 32) (h : Fin 8) (e : Fin 16) : res_main_v41 v0 (ix4 n 0 h e) = qh (B0 v0) (B1 v0) (B2 v0) (B3 v0) n h ⟨64 + (16 + e), by omega⟩ := by
  unfold res_main_v41; pointwise [p24]
theorem p37 (e : Fin 16) : res_main_v37 v0 (ix3 0 0 e) = Ideal.cos (ang 16384 e) := by
  unfold res_main_v37 res_main_v35 res_main_v2; pointwise; rfl
theorem p39 (e : Fin 16) : res_main_v39 v0 (ix3 0 0 e) = Ideal.sin (ang 16384 e) := by
  unfold res_main_v39 res_main_v35 res_main_v2; pointwise; rfl
theorem p81 (e : Fin 16) : res_main_v81 v0 (ix2 0 e) = Ideal.cos (ang 16384 e) := by
  unfold res_main_v81 res_main_v80 res_main_v2; pointwise; rfl
theorem p82 (e : Fin 16) : res_main_v82 v0 (ix2 0 e) = Ideal.sin (ang 16384 e) := by
  unfold res_main_v82 res_main_v80 res_main_v2; pointwise; rfl
theorem p83 (n : Fin 32) (j : Fin 16) : res_main_v83 v0 (ix3 n 0 j) = pr (B0 v0) (B1 v0) n ⟨384 + j, by omega⟩ := by
  unfold res_main_v83; pointwise [p6]
theorem p84 (n : Fin 32) (j : Fin 16) : res_main_v84 v0 (ix3 n 0 j) = pr (B0 v0) (B1 v0) n ⟨384 + (16 + j), by omega⟩ := by
  unfold res_main_v84; pointwise [p6]

/-- The rotation from its entries: the lower lanes, the upper ones. -/
theorem pe_lo (n : ℕ) (q : Fin 32 → EReal) (k : Fin 32) (h : (k : ℕ) < 16) (b : EReal) (hb : b = q ⟨k + 16, by omega⟩) :
    q k * Ideal.cos (ang n k) - b * Ideal.sin (ang n k) = pe n q k := by
  unfold pe
  rw [dif_pos h, hb]
theorem pe_hi (n : ℕ) (q : Fin 32 → EReal) (k : Fin 32) (h : ¬(k : ℕ) < 16) (d : EReal) (hd : d = q k) :
    q ⟨k - 16, by omega⟩ * Ideal.sin (ang n (k - 16)) + d * Ideal.cos (ang n (k - 16)) = pe n q k := by
  unfold pe
  rw [dif_neg h, hd]

theorem f0 : shapeCast S32x128 (mulf (mulf (res_main_v5 v0) (broadcastInDim S32x1x128 ![0, 1, 2] bcast_S32x1x1_S32x1x128_0_1_2 (Host.rsqrt (addf (Host.divf (broadcastInDim S32x1x1 ![0, 1] bcast_S32x1_S32x1x1_0_1 (Host.reduceAdd (mulf (res_main_v5 v0) (res_main_v5 v0)) (constant S_ .f32 0x00000000#32) reducesTo_S32x1x128_S32x1_d2 h_S_)) (broadcastInDim S32x1x1 ![] bcast_S_S32x1x1 (constant S_ .f32 0x43000000#32))) (broadcastInDim S32x1x1 ![] bcast_S_S32x1x1 (constant S_ .f32 0x358637BD#32)))))) (broadcastInDim S32x1x128 ![0, 1, 2] bcast_S1x1x128_S32x1x128_0_1_2 (broadcastInDim S1x1x128 ![2] bcast_S128_S1x1x128_2 (v0 (Proc.devRef .tc main_arg4))))) shapeCasts_S32x1x128_S32x128 = o0 (B0 v0) (B1 v0) (B4 v0) := by
  funext i; idx_vars i; pointwise [p5]; rfl
theorem f1 : shapeCast S32x32 (concatenate S32x1x32 2 [⟨S32x1x16, (subf (mulf (res_main_v83 v0) (broadcastInDim S32x1x16 ![0, 1, 2] bcast_S1x1x16_S32x1x16_0_1_2 (broadcastInDim S1x1x16 ![1, 2] bcast_S1x16_S1x1x16_1_2 (res_main_v81 v0)))) (mulf (res_main_v84 v0) (broadcastInDim S32x1x16 ![0, 1, 2] bcast_S1x1x16_S32x1x16_0_1_2 (broadcastInDim S1x1x16 ![1, 2] bcast_S1x16_S1x1x16_1_2 (res_main_v82 v0)))))⟩, ⟨S32x1x16, (addf (mulf (res_main_v83 v0) (broadcastInDim S32x1x16 ![0, 1, 2] bcast_S1x1x16_S32x1x16_0_1_2 (broadcastInDim S1x1x16 ![1, 2] bcast_S1x16_S1x1x16_1_2 (res_main_v82 v0)))) (mulf (res_main_v84 v0) (broadcastInDim S32x1x16 ![0, 1, 2] bcast_S1x1x16_S32x1x16_0_1_2 (broadcastInDim S1x1x16 ![1, 2] bcast_S1x16_S1x1x16_1_2 (res_main_v81 v0)))))⟩] concatenates_S32x1x16_S32x1x16_S32x1x32_d2) shapeCasts_S32x1x32_S32x32 = o1 (B0 v0) (B1 v0) := by
  funext i; idx_vars i; pointwise [p83, p84, p81, p82]
  by_cases h : (i1 : ℕ) < 16 <;> simp only [h, dif_pos, dif_neg, not_false_eq_true]
  · exact pe_lo 16384 (fun k => pr (B0 v0) (B1 v0) i0 ⟨384 + k, by omega⟩) i1 h _
      (congrArg (fun z : Fin 1440 => pr (B0 v0) (B1 v0) i0 z) (Fin.ext (by show 384 + (16 + (i1 : ℕ)) = 384 + (i1 + 16); omega)))
  · exact pe_hi 16384 (fun k => pr (B0 v0) (B1 v0) i0 ⟨384 + k, by omega⟩) i1 h _
      (congrArg (fun z : Fin 1440 => pr (B0 v0) (B1 v0) i0 z) (Fin.ext (by show 384 + (16 + ((i1 : ℕ) - 16)) = 384 + i1; omega)))
/-- The gate's own half. -/
def gelV : FVec Ideal S32x1x512 .f32 := (mulf (res_main_v7 v0) (mulf (broadcastInDim S32x1x512 ![] bcast_S_S32x1x512 (constant S_ .f32 0x3F000000#32)) (addf (broadcastInDim S32x1x512 ![] bcast_S_S32x1x512 (constant S_ .f32 0x3F800000#32)) (Host.tanh (mulf (broadcastInDim S32x1x512 ![] bcast_S_S32x1x512 (constant S_ .f32 0x3F4C422A#32)) (addf (res_main_v7 v0) (mulf (broadcastInDim S32x1x512 ![] bcast_S_S32x1x512 (constant S_ .f32 0x3D372713#32)) (mulf (mulf (res_main_v7 v0) (res_main_v7 v0)) (res_main_v7 v0)))))))))
theorem gel_at (n : Fin 32) (j : Fin 512) : gelV v0 (ix3 n 0 j) = act (pr (B0 v0) (B1 v0) n ⟨416 + j, by omega⟩) := by
  rw [← p7]; unfold gelV; pointwise; simp only [act, mul_assoc]
/-- The integer zero converted. -/
theorem sitofp_zero : FloatOps.sitofp (F := Ideal) FTy.f32 0#32 = 0 := by
  simp [FloatOps.sitofp]
/-- The rotated lanes of a head, followed by zeros. -/
theorem pe_pair (Q : Fin 8 → Fin 96 → EReal) (i1 : Fin 1024) :
    (if h : (i1 : ℕ) / 128 < 8 ∧ (i1 : ℕ) % 128 < 32 then
      if h1 : (i1 : ℕ) % 128 < 16 then
        Q ⟨i1 / 128, h.1⟩ ⟨64 + i1 % 128, by omega⟩ * Ideal.cos (ang 16384 (i1 % 128)) - Q ⟨i1 / 128, h.1⟩ ⟨64 + (16 + i1 % 128), by omega⟩ * Ideal.sin (ang 16384 (i1 % 128))
      else
        Q ⟨i1 / 128, h.1⟩ ⟨64 + (i1 % 128 - 16), by omega⟩ * Ideal.sin (ang 16384 (i1 % 128 - 16)) + Q ⟨i1 / 128, h.1⟩ ⟨64 + (16 + (i1 % 128 - 16)), by omega⟩ * Ideal.cos (ang 16384 (i1 % 128 - 16))
    else FloatOps.sitofp (F := Ideal) FTy.f32 0#32)
      = if hl : (i1 : ℕ) % 128 < 32 then pe 16384 (fun k => Q ⟨i1 / 128, by omega⟩ ⟨64 + k, by omega⟩) ⟨i1 % 128, hl⟩ else 0 := by
  have e8 : (i1 : ℕ) / 128 < 8 := by omega
  by_cases h : (i1 : ℕ) % 128 < 32
  · refine Eq.trans (dif_pos ⟨e8, h⟩) (Eq.trans ?_ (dif_pos h).symm)
    by_cases h2 : (i1 : ℕ) % 128 < 16 <;> simp only [h2, dif_pos, dif_neg, not_false_eq_true]
    · exact pe_lo 16384 (fun k => Q ⟨i1 / 128, e8⟩ ⟨64 + k, by omega⟩) ⟨i1 % 128, h⟩ h2 _
        (congrArg (Q ⟨i1 / 128, e8⟩) (Fin.ext (by show 64 + (16 + (i1 : ℕ) % 128) = 64 + (i1 % 128 + 16); omega)))
    · exact pe_hi 16384 (fun k => Q ⟨i1 / 128, e8⟩ ⟨64 + k, by omega⟩) ⟨i1 % 128, h⟩ h2 _
        (congrArg (Q ⟨i1 / 128, e8⟩) (Fin.ext (by show 64 + (16 + ((i1 : ℕ) % 128 - 16)) = 64 + i1 % 128; omega)))
  · refine Eq.trans (dif_neg (fun g => h g.2)) (Eq.trans sitofp_zero ?_)
    rw [dif_neg h]
/-- The rows padded to a whole chunk. -/
def pd (v : FVec Ideal S32x1x512 .f32) : FVec Ideal S32x128x512 .f32 := (pad S32x128x512 ![0, 0, 0] ![0, 127, 0] ![0, 0, 0] v (sitofp .f32 (constantI S_ 32 0#32)) pads_S32x1x512_S32x128x512_000_01270_000 h_S_)
theorem pd_at (v : FVec Ideal S32x1x512 .f32) (n : Fin 32) (s : Fin 128) (j : Fin 512) : pd v (ix3 n s j) = if s = 0 then v (ix3 n 0 j) else 0 := by
  unfold pd; pointwise
  by_cases h : s = 0
  · subst h; rfl
  · have h' : ¬(s : ℕ) < 1 := fun g => h (Fin.ext (by show (s : ℕ) = 0; omega))
    rw [dif_neg h', if_neg h]
    exact sitofp_zero
/-- The masked weights. -/
def mskV (w : FVec Ideal S8x128x128 .f32) : FVec Ideal S8x128x128 .f32 := (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (sitofp .f32 (constantI S_ 32 0#32))))
theorem msk_at (w : FVec Ideal S8x128x128 .f32) (h : Fin 8) (t s : Fin 128) : mskV w (ix3 h t s) = msk w (ix3 h t s) := by
  unfold mskV msk; pointwise
/-- The mixing over a chunk of which only the first row is there. -/
def mixV (v : FVec Ideal S32x1x512 .f32) (w : FVec Ideal S8x128x128 .f32) (bs : FVec Ideal S8x128 .f32) : FVec Ideal S32x128x512 .f32 :=
  (shapeCast S32x128x512 (addf (transpose S32x1x128x8x64 [1, 2, 4, 0, 3] (Host.dotGeneral dot_S32x1x128x8x64_S8x128x128_S8x32x1x64x128_2_2_014_1_3_0 none (shapeCast S32x1x128x8x64 (pd v) shapeCasts_S32x128x512_S32x1x128x8x64) w) transposes_S8x32x1x64x128_S32x1x128x8x64_1_2_4_0_3) (broadcastInDim S32x1x128x8x64 ![0, 1, 2, 3, 4] bcast_S1x1x128x8x1_S32x1x128x8x64_0_1_2_3_4 (broadcastInDim S1x1x128x8x1 ![2, 3] bcast_S128x8_S1x1x128x8x1_2_3 (transpose S128x8 [1, 0] bs transposes_S8x128_S128x8_1_0)))) shapeCasts_S32x1x128x8x64_S32x128x512)
theorem mix_at (v : FVec Ideal S32x1x512 .f32) (w : FVec Ideal S8x128x128 .f32) (bs : FVec Ideal S8x128 .f32) (n : Fin 32) (j : Fin 512) :
    mixV v (mskV w) bs (ix3 n 0 j) = w (ix3 ⟨j / 64, by omega⟩ 0 0) * v (ix3 n 0 j) + bs (ix2 ⟨j / 64, by omega⟩ 0) := by
  unfold mixV; pointwise [pd_at, msk_at]
  refine congrArg (· + _) ((Finset.sum_eq_single (0 : Fin 128) (fun x _ hx => ?_) (fun h => absurd (Finset.mem_univ _) h)).trans ?_)
  · rw [if_neg hx, zero_mul]
  · rw [if_pos rfl, mul_comm]
    refine congrArg (· * _) ?_
    unfold msk
    rfl
theorem f2 : truncf .bf16 (shapeCast S32x512 (mulf (gelV v0) (extractStridedSlice S32x1x512 ![0, 0, 0] (mixV (res_main_v139 v0) (mskV (B8 v0)) (B9 v0)) slices_S32x128x512_S32x1x512_0_0_0)) shapeCasts_S32x1x512_S32x512) bitsLt_bf16_f32 = o2 (B0 v0) (B1 v0) (B6 v0) (B7 v0) (B8 v0) (B9 v0) := by
  funext i; idx_vars i; pointwise [gel_at, mix_at, p139]; rfl
theorem f3 : shapeCast S32x512 (res_main_v139 v0) shapeCasts_S32x1x512_S32x512 = o3 (B0 v0) (B1 v0) (B6 v0) (B7 v0) := by
  funext i; idx_vars i; pointwise [p139]; rfl
theorem f5 : shapeCast S32x1024 (pad S32x1x8x128 ![0, 0, 0, 0] ![0, 0, 0, 96] ![0, 0, 0, 0] (concatenate S32x1x8x32 3 [⟨S32x1x8x16, (subf (mulf (res_main_v40 v0) (broadcastInDim S32x1x8x16 ![0, 1, 2, 3] bcast_S1x1x1x16_S32x1x8x16_0_1_2_3 (broadcastInDim S1x1x1x16 ![1, 2, 3] bcast_S1x1x16_S1x1x1x16_1_2_3 (res_main_v37 v0)))) (mulf (res_main_v41 v0) (broadcastInDim S32x1x8x16 ![0, 1, 2, 3] bcast_S1x1x1x16_S32x1x8x16_0_1_2_3 (broadcastInDim S1x1x1x16 ![1, 2, 3] bcast_S1x1x16_S1x1x1x16_1_2_3 (res_main_v39 v0)))))⟩, ⟨S32x1x8x16, (addf (mulf (res_main_v40 v0) (broadcastInDim S32x1x8x16 ![0, 1, 2, 3] bcast_S1x1x1x16_S32x1x8x16_0_1_2_3 (broadcastInDim S1x1x1x16 ![1, 2, 3] bcast_S1x1x16_S1x1x1x16_1_2_3 (res_main_v39 v0)))) (mulf (res_main_v41 v0) (broadcastInDim S32x1x8x16 ![0, 1, 2, 3] bcast_S1x1x1x16_S32x1x8x16_0_1_2_3 (broadcastInDim S1x1x1x16 ![1, 2, 3] bcast_S1x1x16_S1x1x1x16_1_2_3 (res_main_v37 v0)))))⟩] concatenates_S32x1x8x16_S32x1x8x16_S32x1x8x32_d3) (sitofp .f32 (constantI S_ 32 0#32)) pads_S32x1x8x32_S32x1x8x128_000_000_000_0960 h_S_) shapeCasts_S32x1x8x128_S32x1024 = o5 (B0 v0) (B1 v0) (B2 v0) (B3 v0) := by
  funext i; idx_vars i; pointwise [p40, p41, p37, p39]
  show _ = qp (B0 v0) (B1 v0) (B2 v0) (B3 v0) i0 ⟨i1 / 128, by omega⟩ ⟨i1 % 128, by omega⟩
  unfold qp
  exact pe_pair (qh (B0 v0) (B1 v0) (B2 v0) (B3 v0) i0) i1

end Cert.InprojS.Ref

end
-- ==== Proof.SampClaim.lean ====
/- The claims about the sample's input projection of the even layer: frames, and that the kernel's six results
   are the reference's. Both runs are read at the functions of `SampSpec`, and the two programs' arguments agree. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.SampFinal
public import proofs.«01_k».proof.Proof.SampRef

@[expose] public section

set_option maxRecDepth 16384

noncomputable section

open Idealize.ShloMosaic Idealize.ShloMosaic.TcCoe Idealize.SL.Sem
open Idealize.ShloMosaic.Pipeline (Dat)
open scoped BigOperators

namespace Cert.InprojS

theorem frame_kernel : Cert.quiescent_Kernel5 := fun m ρ _ => Cert.Kernel5.Gen.frame m ρ
theorem frame_ideal : Cert.quiescent_Kernel5Ideal := fun m ρ _ => Cert.Kernel5Ideal.Gen.frame m ρ
/-- The reference runs on the host and declares no semaphore. -/
theorem frame_ref : Cert.quiescent_Reference5Ideal := fun m ρ _ =>
  (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

set_option maxHeartbeats 2000000 in
/-- The kernel's six results are the reference's. -/
theorem algebraic : Cert.algebraic_Kernel5Ideal_Reference5Ideal := by
  intro m ρ m' ρ' _ hag
  refine ⟨fun c => o0 (A0 m c) (A1 m c) (A4 m c), fun c => o1 (A0 m c) (A1 m c), fun c => o2 (A0 m c) (A1 m c) (A6 m c) (A7 m c) (A8 m c) (A9 m c), fun c => o3 (A0 m c) (A1 m c) (A6 m c) (A7 m c), fun c => o4 (A0 m c) (A1 m c) (A2 m c) (A3 m c) (A5 m c), fun c => o5 (A0 m c) (A1 m c) (A2 m c) (A3 m c), ?_, ?_⟩
  · exact (θ_run Cert.Kernel5Ideal.defs _ _).mono (fun _ h c =>
      ⟨(h c).1.trans (final_14 m c), (h c).2.1.trans (final_15 m c), (h c).2.2.1.trans (final_16 m c), (h c).2.2.2.1.trans (final_17 m c), (h c).2.2.2.2.1.trans (final_18 m c), (h c).2.2.2.2.2.1.trans (final_19 m c), (h c).2.2.2.2.2.2⟩)
      (Cert.Kernel5Ideal.Value.run_blocks (F := Ideal) m ρ)
  · refine (θ_run Cert.Reference5Ideal.defs _ _).mono (fun _ h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference5Ideal.Value.run (F := Ideal) m' ρ')
    all_goals
      obtain ⟨h0, h1, h2, h3, h4, h5, h6, h7, h8, h9⟩ := hag c
    · refine Eq.trans (b := o0 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg4))) (Ref.f0 _) ?_
      rw [h0, h1, h4]; rfl
    · refine Eq.trans (b := o1 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))) (Ref.f1 _) ?_
      rw [h0, h1]; rfl
    · refine Eq.trans (b := o2 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))) (Ref.f2 _) ?_
      rw [h0, h1, h6, h7, h8, h9]; rfl
    · refine Eq.trans (b := o3 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7))) (Ref.f3 _) ?_
      rw [h0, h1, h6, h7]; rfl
    · refine Eq.trans (b := o4 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg5))) ?_ ?_
      · funext i; idx_vars i; pointwise [Ref.p22]
        exact Finset.sum_congr rfl fun x _ => mul_comm _ _
      rw [h0, h1, h2, h3, h5]; rfl
    · refine Eq.trans (b := o5 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))) (Ref.f5 _) ?_
      rw [h0, h1, h2, h3]; rfl

end Cert.InprojS

end
-- ==== Proof.lean ====
/- The claims about the two feed-forward calls of the prompt, the sample's state-space step and the
   two input projections of the even layer, gathered. -/
module

public import proofs.«01_k».proof.Defs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.MixClaim
public import proofs.«01_k».proof.Proof.S5Claim
public import proofs.«01_k».proof.Proof.InprojClaim
public import proofs.«01_k».proof.Proof.SampClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Mix.frame_kernel, Cert.Mix.frame_ideal, Cert.Mix.frame_ref,
  Cert.Mix.frame_kernel2, Cert.Mix.frame_ideal2, Cert.Mix.frame_ref2,
  Cert.S5.frame_kernel, Cert.S5.frame_ideal, Cert.S5.frame_ref,
  Cert.Inproj.frame_kernel, Cert.Inproj.frame_ideal, Cert.Inproj.frame_ref,
  Cert.InprojS.frame_kernel, Cert.InprojS.frame_ideal, Cert.InprojS.frame_ref,
  trivial, Cert.Mix.algebraic, trivial, Cert.Mix.algebraic2, trivial, Cert.S5.algebraic, trivial, Cert.Inproj.algebraic,
  trivial, Cert.InprojS.algebraic⟩

end Cert.Proof

end
